-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_names_experts : Cert.Pre_names_experts.Facts] (m : (ℓ : Loc Cert.Kernel3.nD Cert.Kernel3.τ Cert.Kernel3.sig) → Buf (Elt Bits) ℓ) : Prop :=
  ∀ c : Dev Cert.Kernel3.nD,
    (Cert.Pre_names_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_names_experts : Cert.Pre_names_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_names_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_names_experts [hPre_names_experts : Cert.Pre_names_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_names_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_names_experts : Cert.Pre_names_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_names_experts : Cert.Pre_names_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_names_experts [hReference3Ideal : Cert.Reference3Ideal.Facts] [hPre_names_experts : Cert.Pre_names_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_names_experts m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v46_0)) (v1 : (c : Dev Cert.Kernel2Ideal.nD) → Buf (Elt Ideal) ((c.tc : Thread Cert.Kernel2Ideal.nD Cert.Kernel2Ideal.τ).loc Cert.Kernel2Ideal.main_v46_1)) (v2 : (c : Dev Cert.Kernel2Ideal.nD) → Buf (Elt Ideal) ((c.tc : Thread Cert.Kernel2Ideal.nD Cert.Kernel2Ideal.τ).loc Cert.Kernel2Ideal.main_v46_2)) (v3 : (c : Dev Cert.Kernel2Ideal.nD) → Buf (Elt Ideal) ((c.tc : Thread Cert.Kernel2Ideal.nD Cert.Kernel2Ideal.τ).loc Cert.Kernel2Ideal.main_v46_3)) (v4 : (c : Dev Cert.Kernel2Ideal.nD) → Buf (Elt Ideal) ((c.tc : Thread Cert.Kernel2Ideal.nD Cert.Kernel2Ideal.τ).loc Cert.Kernel2Ideal.main_v46_4)) (v5 : (c : Dev Cert.Kernel2Ideal.nD) → Buf (Elt Ideal) ((c.tc : Thread Cert.Kernel2Ideal.nD Cert.Kernel2Ideal.τ).loc Cert.Kernel2Ideal.main_v46_5)) (v6 : (c : Dev Cert.Kernel2Ideal.nD) → Buf (Elt Ideal) ((c.tc : Thread Cert.Kernel2Ideal.nD Cert.Kernel2Ideal.τ).loc Cert.Kernel2Ideal.main_v46_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46_0) = v0 c
          ∧ r.2.mem ((c.tc : Thread Cert.Kernel2Ideal.nD Cert.Kernel2Ideal.τ).loc Cert.Kernel2Ideal.main_v46_1) = v1 c
          ∧ r.2.mem ((c.tc : Thread Cert.Kernel2Ideal.nD Cert.Kernel2Ideal.τ).loc Cert.Kernel2Ideal.main_v46_2) = v2 c
          ∧ r.2.mem ((c.tc : Thread Cert.Kernel2Ideal.nD Cert.Kernel2Ideal.τ).loc Cert.Kernel2Ideal.main_v46_3) = v3 c
          ∧ r.2.mem ((c.tc : Thread Cert.Kernel2Ideal.nD Cert.Kernel2Ideal.τ).loc Cert.Kernel2Ideal.main_v46_4) = v4 c
          ∧ r.2.mem ((c.tc : Thread Cert.Kernel2Ideal.nD Cert.Kernel2Ideal.τ).loc Cert.Kernel2Ideal.main_v46_5) = v5 c
          ∧ r.2.mem ((c.tc : Thread Cert.Kernel2Ideal.nD Cert.Kernel2Ideal.τ).loc Cert.Kernel2Ideal.main_v46_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_v79) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_v84) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_names_experts : Cert.Pre_names_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_names_experts : Cert.Pre_names_experts.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_names_experts := hPre_names_experts)
    ∧ quiescent_Kernel3Ideal (hKernel3Ideal := hKernel3Ideal) (hPre_names_experts := hPre_names_experts)
    ∧ quiescent_Reference3Ideal (hReference3Ideal := hReference3Ideal)
    ∧ quiescent_Reference3Ideal_pre_names_experts (hReference3Ideal := hReference3Ideal) (hPre_names_experts := hPre_names_experts)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_names_experts := hPre_names_experts)
-- ==== Pre_names_experts.lean ====
abbrev S288 : Shape := ⟨1, ![288]⟩
abbrev S147456x1024 : Shape := ⟨2, ![147456, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : FVec F S147456x1024 .bf16) (main_arg2 : FVec F S1x32x1024x2048 .f32) (main_arg3 : FVec F S1x32x2048 .f32) (main_arg4 : FVec F S1x32x1024x1024 .f32) (main_arg5 : FVec F S1x32x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Kernel.lean ====
abbrev S32768x2048 : Shape := ⟨2, ![32768, 2048]⟩
abbrev S2x512 : Shape := ⟨2, ![2, 512]⟩
abbrev S1x512 : Shape := ⟨2, ![1, 512]⟩
abbrev S_ : Shape := ⟨0, ![]⟩
abbrev S512 : Shape := ⟨1, ![512]⟩
abbrev S8x4096x2048 : Shape := ⟨3, ![8, 4096, 2048]⟩
abbrev S8x4096x512 : Shape := ⟨3, ![8, 4096, 512]⟩
abbrev S1x512x2048 : Shape := ⟨3, ![1, 512, 2048]⟩
abbrev S1x512x512 : Shape := ⟨3, ![1, 512, 512]⟩
abbrev S4x128x128 : Shape := ⟨3, ![4, 128, 128]⟩
abbrev S512x128 : Shape := ⟨2, ![512, 128]⟩
abbrev S512x512 : Shape := ⟨2, ![512, 512]⟩
abbrev S1x512x128 : Shape := ⟨3, ![1, 512, 128]⟩
abbrev S1x128 : Shape := ⟨2, ![1, 128]⟩
abbrev S16x32x128 : Shape := ⟨3, ![16, 32, 128]⟩
abbrev S16x128 : Shape := ⟨2, ![16, 128]⟩
abbrev S16x1x128 : Shape := ⟨3, ![16, 1, 128]⟩
abbrev S32x128 : Shape := ⟨2, ![32, 128]⟩
abbrev S128x128 : Shape := ⟨2, ![128, 128]⟩
abbrev S1x128x128 : Shape := ⟨3, ![1, 128, 128]⟩
abbrev S1x1x128 : Shape := ⟨3, ![1, 1, 128]⟩
abbrev S512x1 : Shape := ⟨2, ![512, 1]⟩

abbrev nBuf : Space → Nat
  | .hbm => 27
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2x512, .f32⟩
  | .hbm, ⟨2, _⟩ => ⟨S1x512, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S_, .f32⟩
  | .hbm, ⟨19, _⟩ => ⟨S2x512, .f32⟩
  | .hbm, ⟨20, _⟩ => ⟨S8x4096x2048, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S8x4096x512, .bf16⟩
  | .local _ .vmem, ⟨0, _⟩ => ⟨S1x512x2048, .f32⟩
  | .local _ .vmem, ⟨1, _⟩ => ⟨S1x512x2048, .f32⟩
  | .local _ .vmem, ⟨2, _⟩ => ⟨S1x512, .f32⟩
  | .local _ .vmem, ⟨3, _⟩ => ⟨S1x512, .f32⟩
  | .local _ .vmem, ⟨4, _⟩ => ⟨S1x512x512, .bf16⟩
  | .local _ .vmem, ⟨5, _⟩ => ⟨S1x512x512, .bf16⟩
  | .local _ .vmem, ⟨6, _⟩ => ⟨S4x128x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32768x2048 : Shape := ⟨2, ![32768, 2048]⟩
abbrev S2x512 : Shape := ⟨2, ![2, 512]⟩
abbrev S1x512 : Shape := ⟨2, ![1, 512]⟩
abbrev S8x4096x2048 : Shape := ⟨3, ![8, 4096, 2048]⟩
abbrev S8x4096x512 : Shape := ⟨3, ![8, 4096, 512]⟩
abbrev S_ : Shape := ⟨0, ![]⟩
abbrev S512 : Shape := ⟨1, ![512]⟩
abbrev S1x1x512 : Shape := ⟨3, ![1, 1, 512]⟩
abbrev S8x128x32x4x128 : Shape := ⟨5, ![8, 128, 32, 4, 128]⟩
abbrev S8x4x128x32x128 : Shape := ⟨5, ![8, 4, 128, 32, 128]⟩
abbrev S8x4x128x1x128 : Shape := ⟨5, ![8, 4, 128, 1, 128]⟩
abbrev S32x32 : Shape := ⟨2, ![32, 32]⟩
abbrev S8x4x128x32x32 : Shape := ⟨5, ![8, 4, 128, 32, 32]⟩
abbrev S1x1x1x32x32 : Shape := ⟨5, ![1, 1, 1, 32, 32]⟩
abbrev S8x4x128x128x128 : Shape := ⟨5, ![8, 4, 128, 128, 128]⟩
abbrev S8x4x128x128 : Shape := ⟨4, ![8, 4, 128, 128]⟩
abbrev S128x8x4x128 : Shape := ⟨4, ![128, 8, 4, 128]⟩
abbrev S128x8x4x128x128 : Shape := ⟨5, ![128, 8, 4, 128, 128]⟩
abbrev S1x8x4x128 : Shape := ⟨4, ![1, 8, 4, 128]⟩
abbrev S8x4x128 : Shape := ⟨3, ![8, 4, 128]⟩
abbrev S1x8x4x128x128 : Shape := ⟨5, ![1, 8, 4, 128, 128]⟩
abbrev S8x4x128x1 : Shape := ⟨4, ![8, 4, 128, 1]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩

abbrev nBuf : Space → Nat
  | .hbm => 167
  | .vmem => 0
  | .smem => 0
  | _ => 0

abbrev hbmTy0_0 (i : Nat) : BufTy := match i % 128 with
  | 0 => ⟨S32768x2048, .f32⟩
  | 1 => ⟨S2x512, .f32⟩
  | 2 => ⟨S1x512, .f32⟩
  | 3 => ⟨S8x4096x2048, .f32⟩
  | 4 => ⟨S8x4096x512, .f32⟩
  | 5 => ⟨S8x4096x512, .f32⟩
  | 6 => ⟨S8x4096x512, .f32⟩
  | 7 => ⟨S8x4096x512, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1x512, .f32⟩
  | 26 => ⟨S512, .f32⟩
  | 27 => ⟨S512, .f32⟩
  | 28 => ⟨S_, .f32⟩
  | 29 => ⟨S512, .f32⟩
  | 30 => ⟨S512, .f32⟩
  | 31 => ⟨S8x4096x512, .f32⟩
  | 32 => ⟨S8x4096x512, .f32⟩
  | 33 => ⟨S_, .f32⟩
  | 34 => ⟨S8x4096x512, .f32⟩
  | 35 => ⟨S8x4096x512, .f32⟩
  | 36 => ⟨S_, .f32⟩
  | 37 => ⟨S8x4096x512, .f32⟩
  | 38 => ⟨S8x4096x512, .f32⟩
  | 39 => ⟨S1x1x512, .f32⟩
  | 40 => ⟨S8x4096x512, .f32⟩
  | 41 => ⟨S8x4096x512, .f32⟩
  | 42 => ⟨S1x1x512, .f32⟩
  | 43 => ⟨S8x4096x512, .f32⟩
  | 44 => ⟨S8x4096x512, .f32⟩
  | 45 => ⟨S8x4096x512, .f32⟩
  | 46 => ⟨S8x4096x512, .f32⟩
  | 47 => ⟨S_, .f32⟩
  | 48 => ⟨S8x4096x512, .f32⟩
  | 49 => ⟨S8x4096x512, .f32⟩
  | 50 => ⟨S_, .f32⟩
  | 51 => ⟨S8x4096x512, .f32⟩
  | 52 => ⟨S8x4096x512, .f32⟩
  | 53 => ⟨S8x4096x512, .f32⟩
  | 54 => ⟨S8x128x32x4x128, .f32⟩
  | 55 => ⟨S8x4x128x32x128, .f32⟩
  | 56 => ⟨S_, .f32⟩
  | 57 => ⟨S8x4096x512, .f32⟩
  | 58 => ⟨S8x4096x512, .f32⟩
  | 59 => ⟨S8x128x32x4x128, .f32⟩
  | 60 => ⟨S8x4x128x32x128, .f32⟩
  | 61 => ⟨S8x128x32x4x128, .f32⟩
  | 62 => ⟨S8x4x128x32x128, .f32⟩
  | 63 => ⟨S8x4096x512, .f32⟩
  | 64 => ⟨S8x128x32x4x128, .f32⟩
  | 65 => ⟨S8x4x128x32x128, .f32⟩
  | 66 => ⟨S_, .f32⟩
  | 67 => ⟨S_, .f32⟩
  | 68 => ⟨S8x4x128x32x128, .f32⟩
  | 69 => ⟨S8x4x128x1x128, .f32⟩
  | 70 => ⟨S8x4x128x32x128, .f32⟩
  | 71 => ⟨S8x4x128x32x128, .f32⟩
  | 72 => ⟨S8x4x128x32x128, .f32⟩
  | 73 => ⟨S8x4x128x32x128, .f32⟩
  | 74 => ⟨S8x4x128x32x128, .f32⟩
  | 75 => ⟨S8x4x128x32x128, .f32⟩
  | 76 => ⟨S8x4x128x32x128, .f32⟩
  | 77 => ⟨S8x4x128x32x128, .f32⟩
  | 78 => ⟨S8x4x128x32x128, .f32⟩
  | 79 => ⟨S_, .f32⟩
  | 80 => ⟨S32x32, .f32⟩
  | 81 => ⟨S32x32, .i32⟩
  | 82 => ⟨S_, .i32⟩
  | 83 => ⟨S32x32, .i32⟩
  | 84 => ⟨S32x32, .i32⟩
  | 85 => ⟨S32x32, .i32⟩
  | 86 => ⟨S32x32, .i1⟩
  | 87 => ⟨S_, .f32⟩
  | 88 => ⟨S32x32, .f32⟩
  | 89 => ⟨S32x32, .f32⟩
  | 90 => ⟨S8x4x128x32x32, .f32⟩
  | 91 => ⟨S1x1x1x32x32, .f32⟩
  | 92 => ⟨S8x4x128x32x32, .f32⟩
  | 93 => ⟨S8x4x128x32x32, .f32⟩
  | 94 => ⟨S8x4x128x32x128, .f32⟩
  | 95 => ⟨S8x4x128x128x128, .f32⟩
  | 96 => ⟨S8x4x128x128, .f32⟩
  | 97 => ⟨S8x4x128x128, .f32⟩
  | 98 => ⟨S_, .f32⟩
  | 99 => ⟨S8x4x128x128, .f32⟩
  | 100 => ⟨S128x8x4x128, .f32⟩
  | 101 => ⟨S128x8x4x128x128, .f32⟩
  | 102 => ⟨S_, .f32⟩
  | 103 => ⟨S128x8x4x128x128, .f32⟩
  | 104 => ⟨S_, .i32⟩
  | 105 => ⟨S128x8x4x128, .f32⟩
  | 106 => ⟨S128x8x4x128x128, .f32⟩
  | 107 => ⟨S_, .i32⟩
  | 108 => ⟨S8x4x128x128, .f32⟩
  | 109 => ⟨S128x8x4x128x128, .f32⟩
  | 110 => ⟨S_, .i32⟩
  | 111 => ⟨S_, .i1⟩
  | 112 => ⟨S_, .i32⟩
  | 113 => ⟨S_, .i32⟩
  | 114 => ⟨S_, .i32⟩
  | 115 => ⟨S1x8x4x128, .f32⟩
  | 116 => ⟨S8x4x128, .f32⟩
  | 117 => ⟨S_, .i32⟩
  | 118 => ⟨S_, .i32⟩
  | 119 => ⟨S_, .i32⟩
  | 120 => ⟨S_, .i32⟩
  | 121 => ⟨S1x8x4x128x128, .f32⟩
  | 122 => ⟨S8x4x128x128, .f32⟩
  | 123 => ⟨S8x4x128x1, .f32⟩
  | 124 => ⟨S8x4x128x128, .f32⟩
  | 125 => ⟨S8x4x128x128, .f32⟩
  | 126 => ⟨S8x4x128x128, .f32⟩
  | 127 => ⟨S1x8x4x128x128, .f32⟩
  | _ => ⟨S32768x2048, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S128x8x4x128x128, .f32⟩
  | 5 => ⟨S_, .i32⟩
  | 6 => ⟨S_, .i32⟩
  | 7 => ⟨S8x4x128x32x128, .f32⟩
  | 8 => ⟨S8x4x128x32x128, .f32⟩
  | 9 => ⟨S8x128x32x4x128, .f32⟩
  | 10 => ⟨S8x4096x4x128, .f32⟩
  | 11 => ⟨S8x4096x4x128, .f32⟩
  | 12 => ⟨S_, .f32⟩
  | 13 => ⟨S8x4096x4, .f32⟩
  | 14 => ⟨S8x4096x4x1, .f32⟩
  | 15 => ⟨S_, .f32⟩
  | 16 => ⟨S8x4096x4x1, .f32⟩
  | 17 => ⟨S8x4096x4x1, .f32⟩
  | 18 => ⟨S_, .f32⟩
  | 19 => ⟨S8x4096x4x1, .f32⟩
  | 20 => ⟨S8x4096x4x1, .f32⟩
  | 21 => ⟨S8x4096x4x1, .f32⟩
  | 22 => ⟨S8x4096x4x128, .f32⟩
  | 23 => ⟨S8x4096x4x128, .f32⟩
  | 24 => ⟨S8x4096x512, .f32⟩
  | 25 => ⟨S1x1x512, .f32⟩
  | 26 => ⟨S8x4096x512, .f32⟩
  | 27 => ⟨S8x4096x512, .f32⟩
  | 28 => ⟨S8x4096x512, .f32⟩
  | 29 => ⟨S8x4096x512, .f32⟩
  | 30 => ⟨S_, .f32⟩
  | 31 => ⟨S8x4096x512, .f32⟩
  | 32 => ⟨S8x4096x512, .f32⟩
  | 33 => ⟨S_, .f32⟩
  | 34 => ⟨S8x4096x512, .f32⟩
  | 35 => ⟨S8x4096x512, .f32⟩
  | 36 => ⟨S8x4096x512, .f32⟩
  | 37 => ⟨S8x4096x512, .f32⟩
  | 38 => ⟨S8x4096x512, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_call0_cst : Ref sig .tc := ⟨.hbm, 22, rfl⟩
abbrev main_call0_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call2_call0_cst : Ref sig .tc := ⟨.hbm, 66, rfl⟩
abbrev main_call2_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_cst : Ref sig .tc := ⟨.hbm, 87, rfl⟩
abbrev main_call3_v5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_7 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_c : Ref sig .tc := ⟨.hbm, 104, rfl⟩
abbrev main_v71_0 : Ref sig .tc := ⟨.hbm, 105, rfl⟩
abbrev main_v71_1 : Ref sig .tc := ⟨.hbm, 106, rfl⟩
abbrev main_v71_2 : Ref sig .tc := ⟨.hbm, 107, rfl⟩
abbrev main_v71_3 : Ref sig .tc := ⟨.hbm, 108, rfl⟩
abbrev main_v71_4 : Ref sig .tc := ⟨.hbm, 109, rfl⟩
abbrev main_while0c_c_16 : Ref sig .tc := ⟨.hbm, 110, rfl⟩
abbrev main_while0c_v93 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_v0 : Ref sig .tc := ⟨.hbm, 115, rfl⟩
abbrev main_while0b_v93 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_c_1 : Ref sig .tc := ⟨.hbm, 119, rfl⟩
abbrev main_while0b_call5_c_2 : Ref sig .tc := ⟨.hbm, 120, rfl⟩
abbrev main_while0b_call5_v0 : Ref sig .tc := ⟨.hbm, 121, rfl⟩
abbrev main_while0b_v94 : Ref sig .tc := ⟨.hbm, 122, rfl⟩
abbrev main_while0b_v95 : Ref sig .tc := ⟨.hbm, 123, rfl⟩
abbrev main_while0b_v96 : Ref sig .tc := ⟨.hbm, 124, rfl⟩
abbrev main_while0b_v97 : Ref sig .tc := ⟨.hbm, 125, rfl⟩
abbrev main_while0b_v98 : Ref sig .tc := ⟨.hbm, 126, rfl⟩
abbrev main_while0b_call6_v0 : Ref sig .tc := ⟨.hbm, 127, rfl⟩
abbrev main_while0b_call6_c : Ref sig .tc := ⟨.hbm, 128, rfl⟩
abbrev main_while0b_call6_c_0 : Ref sig .tc := ⟨.hbm, 129, rfl⟩
abbrev main_while0b_call6_c_1 : Ref sig .tc := ⟨.hbm, 130, rfl⟩
abbrev main_while0b_call6_c_2 : Ref sig .tc := ⟨.hbm, 131, rfl⟩
abbrev main_while0b_v99 : Ref sig .tc := ⟨.hbm, 132, rfl⟩
abbrev main_while0b_c_16 : Ref sig .tc := ⟨.hbm, 133, rfl⟩
abbrev main_while0b_v100 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_cst_9 : Ref sig .tc := ⟨.hbm, 140, rfl⟩
abbrev main_v77 : Ref sig .tc := ⟨.hbm, 141, rfl⟩
abbrev main_v78 : Ref sig .tc := ⟨.hbm, 142, rfl⟩
abbrev main_cst_10 : Ref sig .tc := ⟨.hbm, 143, rfl⟩
abbrev main_v79 : Ref sig .tc := ⟨.hbm, 144, rfl⟩
abbrev main_v80 : Ref sig .tc := ⟨.hbm, 145, rfl⟩
abbrev main_cst_11 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_call7_v0 : Ref sig .tc := ⟨.hbm, 156, rfl⟩
abbrev main_call7_v1 : Ref sig .tc := ⟨.hbm, 157, rfl⟩
abbrev main_call7_cst : Ref sig .tc := ⟨.hbm, 158, rfl⟩
abbrev main_call7_v2 : Ref sig .tc := ⟨.hbm, 159, rfl⟩
abbrev main_call7_v3 : Ref sig .tc := ⟨.hbm, 160, rfl⟩
abbrev main_call7_cst_0 : Ref sig .tc := ⟨.hbm, 161, rfl⟩
abbrev main_call7_v4 : Ref sig .tc := ⟨.hbm, 162, rfl⟩
abbrev main_call7_v5 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8x4096x1024 : Shape := ⟨3, ![8, 4096, 1024]⟩
abbrev S1x1024x3400 : Shape := ⟨3, ![1, 1024, 3400]⟩
abbrev S1x256 : Shape := ⟨2, ![1, 256]⟩
abbrev S1x64 : Shape := ⟨2, ![1, 64]⟩
abbrev S1x256x8x64 : Shape := ⟨4, ![1, 256, 8, 64]⟩
abbrev S32768x1024 : Shape := ⟨2, ![32768, 1024]⟩
abbrev S1024x3400 : Shape := ⟨2, ![1024, 3400]⟩
abbrev S1024x512 : Shape := ⟨2, ![1024, 512]⟩
abbrev S1024x256 : Shape := ⟨2, ![1024, 256]⟩
abbrev S1024x64 : Shape := ⟨2, ![1024, 64]⟩
abbrev S1024x8 : Shape := ⟨2, ![1024, 8]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x72 : Shape := ⟨2, ![1024, 72]⟩
abbrev S1024x128 : Shape := ⟨2, ![1024, 128]⟩
abbrev S1024x2432 : Shape := ⟨2, ![1024, 2432]⟩
abbrev S1024x1920 : Shape := ⟨2, ![1024, 1920]⟩
abbrev S1920x1024 : Shape := ⟨2, ![1920, 1024]⟩
abbrev S256x8x64 : Shape := ⟨3, ![256, 8, 64]⟩
abbrev S8x8 : Shape := ⟨2, ![8, 8]⟩
abbrev S8x256x64 : Shape := ⟨3, ![8, 256, 64]⟩
abbrev S8x256x1x64 : Shape := ⟨4, ![8, 256, 1, 64]⟩
abbrev S8x1x8x1 : Shape := ⟨4, ![8, 1, 8, 1]⟩
abbrev S8x256x8x64 : Shape := ⟨4, ![8, 256, 8, 64]⟩
abbrev S2048x512 : Shape := ⟨2, ![2048, 512]⟩
abbrev S256 : Shape := ⟨1, ![256]⟩
abbrev S256x1 : Shape := ⟨2, ![256, 1]⟩
abbrev S64 : Shape := ⟨1, ![64]⟩
abbrev S1x128 : Shape := ⟨2, ![1, 128]⟩
abbrev S2048x32768 : Shape := ⟨2, ![2048, 32768]⟩
abbrev S1024x32768 : Shape := ⟨2, ![1024, 32768]⟩
abbrev S128x32768 : Shape := ⟨2, ![128, 32768]⟩
abbrev S32768x256 : Shape := ⟨2, ![32768, 256]⟩
abbrev S256x32768 : Shape := ⟨2, ![256, 32768]⟩
abbrev S32768x128 : Shape := ⟨2, ![32768, 128]⟩
abbrev S32768x2048 : Shape := ⟨2, ![32768, 2048]⟩
abbrev S512x1024 : Shape := ⟨2, ![512, 1024]⟩
abbrev S128x512 : Shape := ⟨2, ![128, 512]⟩
abbrev S512x256 : Shape := ⟨2, ![512, 256]⟩
abbrev S256x512 : Shape := ⟨2, ![256, 512]⟩
abbrev S512x128 : Shape := ⟨2, ![512, 128]⟩
abbrev S512x2048 : Shape := ⟨2, ![512, 2048]⟩
abbrev S512x512 : Shape := ⟨2, ![512, 512]⟩
abbrev S128x1024 : Shape := ⟨2, ![128, 1024]⟩
abbrev S256x1024 : Shape := ⟨2, ![256, 1024]⟩
abbrev S512 : Shape := ⟨1, ![512]⟩
abbrev S1x512 : Shape := ⟨2, ![1, 512]⟩
abbrev S512x1 : Shape := ⟨2, ![512, 1]⟩
abbrev S1024x2048 : Shape := ⟨2, ![1024, 2048]⟩

abbrev nBuf : Space → Nat
  | .hbm => 68
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1x1024x3400, .f32⟩
  | .hbm, ⟨2, _⟩ => ⟨S1x256, .f32⟩
  | .hbm, ⟨3, _⟩ => ⟨S1x64, .f32⟩
  | .hbm, ⟨4, _⟩ => ⟨S1x64, .f32⟩
  | .hbm, ⟨5, _⟩ => ⟨S1x256x8x64, .f32⟩
  | .hbm, ⟨6, _⟩ => ⟨S32768x1024, .f32⟩
  | .hbm, ⟨7, _⟩ => ⟨S1024x3400, .f32⟩
  | .hbm, ⟨8, _⟩ => ⟨S1024x512, .f32⟩
  | .hbm, ⟨9, _⟩ => ⟨S1024x256, .f32⟩
  | .hbm, ⟨10, _⟩ => ⟨S1024x512, .f32⟩
  | .hbm, ⟨11, _⟩ => ⟨S1024x64, .f32⟩
  | .hbm, ⟨12, _⟩ => ⟨S1024x8, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x8x64, .f32⟩
  | .hbm, ⟨18, _⟩ => ⟨S_, .i32⟩
  | .hbm, ⟨19, _⟩ => ⟨S_, .f32⟩
  | .hbm, ⟨20, _⟩ => ⟨S1024x8x128, .f32⟩
  | .hbm, ⟨21, _⟩ => ⟨S1024x1024, .f32⟩
  | .hbm, ⟨22, _⟩ => ⟨S1024x72, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x2432, .f32⟩
  | .hbm, ⟨27, _⟩ => ⟨S1024x2432, .bf16⟩
  | .hbm, ⟨28, _⟩ => ⟨S1024x1920, .f32⟩
  | .hbm, ⟨29, _⟩ => ⟨S1920x1024, .f32⟩
  | .hbm, ⟨30, _⟩ => ⟨S1920x1024, .bf16⟩
  | .hbm, ⟨31, _⟩ => ⟨S256x8x64, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S8x256x64, .f32⟩
  | .hbm, ⟨40, _⟩ => ⟨S8x256x1x64, .f32⟩
  | .hbm, ⟨41, _⟩ => ⟨S8x1x8x1, .f32⟩
  | .hbm, ⟨42, _⟩ => ⟨S8x256x8x64, .f32⟩
  | .hbm, ⟨43, _⟩ => ⟨S8x256x8x64, .f32⟩
  | .hbm, ⟨44, _⟩ => ⟨S8x256x8x64, .f32⟩
  | .hbm, ⟨45, _⟩ => ⟨S2048x512, .f32⟩
  | .hbm, ⟨46, _⟩ => ⟨S2048x512, .bf16⟩
  | .hbm, ⟨47, _⟩ => ⟨S256, .f32⟩
  | .hbm, ⟨48, _⟩ => ⟨S1x256, .f32⟩
  | .hbm, ⟨49, _⟩ => ⟨S256, .f32⟩
  | .hbm, ⟨50, _⟩ => ⟨S256x1, .f32⟩
  | .hbm, ⟨51, _⟩ => ⟨S64, .f32⟩
  | .hbm, ⟨52, _⟩ => ⟨S1x64, .f32⟩
  | .hbm, ⟨53, _⟩ => ⟨S_, .i32⟩
  | .hbm, ⟨54, _⟩ => ⟨S_, .f32⟩
  | .hbm, ⟨55, _⟩ => ⟨S1x128, .f32⟩
  | .hbm, ⟨56, _⟩ => ⟨S64, .f32⟩
  | .hbm, ⟨57, _⟩ => ⟨S1x64, .f32⟩
  | .hbm, ⟨58, _⟩ => ⟨S_, .i32⟩
  | .hbm, ⟨59, _⟩ => ⟨S_, .f32⟩
  | .hbm, ⟨60, _⟩ => ⟨S1x128, .f32⟩
  | .hbm, ⟨61, _⟩ => ⟨S2048x32768, .bf16⟩
  | .hbm, ⟨62, _⟩ => ⟨S1024x32768, .bf16⟩
  | .hbm, ⟨63, _⟩ => ⟨S128x32768, .f32⟩
  | .hbm, ⟨64, _⟩ => ⟨S32768x256, .bf16⟩
  | .hbm, ⟨65, _⟩ => ⟨S256x32768, .bf16⟩
  | .hbm, ⟨66, _⟩ => ⟨S32768x128, .bf16⟩
  | .hbm, ⟨67, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S1024x2432, .bf16⟩
  | .local _ .vmem, ⟨3, _⟩ => ⟨S1920x1024, .bf16⟩
  | .local _ .vmem, ⟨4, _⟩ => ⟨S2048x512, .bf16⟩
  | .local _ .vmem, ⟨5, _⟩ => ⟨S1x256, .f32⟩
  | .local _ .vmem, ⟨6, _⟩ => ⟨S256x1, .f32⟩
  | .local _ .vmem, ⟨7, _⟩ => ⟨S1x128, .f32⟩
  | .local _ .vmem, ⟨8, _⟩ => ⟨S1x128, .f32⟩
  | .local _ .vmem, ⟨9, _⟩ => ⟨S2048x512, .bf16⟩
  | .local _ .vmem, ⟨10, _⟩ => ⟨S2048x512, .bf16⟩
  | .local _ .vmem, ⟨11, _⟩ => ⟨S1024x512, .bf16⟩
  | .local _ .vmem, ⟨12, _⟩ => ⟨S1024x512, .bf16⟩
  | .local _ .vmem, ⟨13, _⟩ => ⟨S128x512, .f32⟩
  | .local _ .vmem, ⟨14, _⟩ => ⟨S128x512, .f32⟩
  | .local _ .vmem, ⟨15, _⟩ => ⟨S512x256, .bf16⟩
  | .local _ .vmem, ⟨16, _⟩ => ⟨S512x256, .bf16⟩
  | .local _ .vmem, ⟨17, _⟩ => ⟨S256x512, .bf16⟩
  | .local _ .vmem, ⟨18, _⟩ => ⟨S256x512, .bf16⟩
  | .local _ .vmem, ⟨19, _⟩ => ⟨S512x128, .bf16⟩
  | .local _ .vmem, ⟨20, _⟩ => ⟨S512x128, .bf16⟩
  | .local _ .vmem, ⟨21, _⟩ => ⟨S512x2048, .f32⟩
  | .local _ .vmem, ⟨22, _⟩ => ⟨S512x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_2 : Ref sig .tc := ⟨.hbm, 53, rfl⟩
abbrev main_call2_v0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_3 : Ref sig .tc := ⟨.hbm, 58, rfl⟩
abbrev main_call3_v0 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev main_v46_3 : Ref sig .tc := ⟨.hbm, 64, rfl⟩
abbrev main_v46_4 : Ref sig .tc := ⟨.hbm, 65, rfl⟩
abbrev main_v46_5 : Ref sig .tc := ⟨.hbm, 66, rfl⟩
abbrev main_v46_6 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1920x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x4096x1024 : Shape := ⟨3, ![8, 4096, 1024]⟩
abbrev S1x1024x3400 : Shape := ⟨3, ![1, 1024, 3400]⟩
abbrev S1x256 : Shape := ⟨2, ![1, 256]⟩
abbrev S1x64 : Shape := ⟨2, ![1, 64]⟩
abbrev S1x256x8x64 : Shape := ⟨4, ![1, 256, 8, 64]⟩
abbrev S1024x3400 : Shape := ⟨2, ![1024, 3400]⟩
abbrev S8x4096x3400 : Shape := ⟨3, ![8, 4096, 3400]⟩
abbrev S8x4096x512 : Shape := ⟨3, ![8, 4096, 512]⟩
abbrev S8x4096x256 : Shape := ⟨3, ![8, 4096, 256]⟩
abbrev S8x4096x64 : Shape := ⟨3, ![8, 4096, 64]⟩
abbrev S8x4096x8 : Shape := ⟨3, ![8, 4096, 8]⟩
abbrev S8x4096x8x64 : Shape := ⟨4, ![8, 4096, 8, 64]⟩
abbrev S_ : Shape := ⟨0, ![]⟩
abbrev S8x4096 : Shape := ⟨2, ![8, 4096]⟩
abbrev S8x4096x1 : Shape := ⟨3, ![8, 4096, 1]⟩
abbrev S256 : Shape := ⟨1, ![256]⟩
abbrev S1x1x256 : Shape := ⟨3, ![1, 1, 256]⟩
abbrev S64 : Shape := ⟨1, ![64]⟩
abbrev S1x1x64 : Shape := ⟨3, ![1, 1, 64]⟩
abbrev S8x4096x72 : Shape := ⟨3, ![8, 4096, 72]⟩
abbrev S256x8x64 : Shape := ⟨3, ![256, 8, 64]⟩
abbrev S8x256x8x4096 : Shape := ⟨4, ![8, 256, 8, 4096]⟩
abbrev S8x4096x8x256 : Shape := ⟨4, ![8, 4096, 8, 256]⟩
abbrev S32768x2048 : Shape := ⟨2, ![32768, 2048]⟩
abbrev S2048x32768 : Shape := ⟨2, ![2048, 32768]⟩
abbrev S8x4096x8x128 : Shape := ⟨4, ![8, 4096, 8, 128]⟩
abbrev S32768x1024 : Shape := ⟨2, ![32768, 1024]⟩
abbrev S1024x32768 : Shape := ⟨2, ![1024, 32768]⟩
abbrev S8x4096x128 : Shape := ⟨3, ![8, 4096, 128]⟩
abbrev S32768x128 : Shape := ⟨2, ![32768, 128]⟩
abbrev S128x32768 : Shape := ⟨2, ![128, 32768]⟩
abbrev S32768x256 : Shape := ⟨2, ![32768, 256]⟩
abbrev S256x32768 : Shape := ⟨2, ![256, 32768]⟩
abbrev S8x4096x2048 : Shape := ⟨3, ![8, 4096, 2048]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x3400, .f32⟩
  | .hbm, ⟨2, _⟩ => ⟨S1x256, .f32⟩
  | .hbm, ⟨3, _⟩ => ⟨S1x64, .f32⟩
  | .hbm, ⟨4, _⟩ => ⟨S1x64, .f32⟩
  | .hbm, ⟨5, _⟩ => ⟨S1x256x8x64, .f32⟩
  | .hbm, ⟨6, _⟩ => ⟨S1024x3400, .f32⟩
  | .hbm, ⟨7, _⟩ => ⟨S8x4096x3400, .f32⟩
  | .hbm, ⟨8, _⟩ => ⟨S8x4096x512, .f32⟩
  | .hbm, ⟨9, _⟩ => ⟨S8x4096x256, .f32⟩
  | .hbm, ⟨10, _⟩ => ⟨S8x4096x512, .f32⟩
  | .hbm, ⟨11, _⟩ => ⟨S8x4096x64, .f32⟩
  | .hbm, ⟨12, _⟩ => ⟨S8x4096x8, .f32⟩
  | .hbm, ⟨13, _⟩ => ⟨S8x4096x512, .f32⟩
  | .hbm, ⟨14, _⟩ => ⟨S8x4096x512, .f32⟩
  | .hbm, ⟨15, _⟩ => ⟨S8x4096x512, .f32⟩
  | .hbm, ⟨16, _⟩ => ⟨S8x4096x512, .f32⟩
  | .hbm, ⟨17, _⟩ => ⟨S8x4096x8x64, .f32⟩
  | .hbm, ⟨18, _⟩ => ⟨S8x4096x256, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x256, .f32⟩
  | .hbm, ⟨30, _⟩ => ⟨S8x4096x256, .f32⟩
  | .hbm, ⟨31, _⟩ => ⟨S256, .f32⟩
  | .hbm, ⟨32, _⟩ => ⟨S1x1x256, .f32⟩
  | .hbm, ⟨33, _⟩ => ⟨S8x4096x256, .f32⟩
  | .hbm, ⟨34, _⟩ => ⟨S8x4096x256, .f32⟩
  | .hbm, ⟨35, _⟩ => ⟨S8x4096x8x64, .f32⟩
  | .hbm, ⟨36, _⟩ => ⟨S_, .f32⟩
  | .hbm, ⟨37, _⟩ => ⟨S8x4096x8x64, .f32⟩
  | .hbm, ⟨38, _⟩ => ⟨S8x4096x8x64, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x64, .f32⟩
  | .hbm, ⟨46, _⟩ => ⟨S8x4096x64, .f32⟩
  | .hbm, ⟨47, _⟩ => ⟨S8x4096x64, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x64, .f32⟩
  | .hbm, ⟨55, _⟩ => ⟨S8x4096x64, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x64, .f32⟩
  | .hbm, ⟨61, _⟩ => ⟨S8x4096x64, .f32⟩
  | .hbm, ⟨62, _⟩ => ⟨S64, .f32⟩
  | .hbm, ⟨63, _⟩ => ⟨S1x1x64, .f32⟩
  | .hbm, ⟨64, _⟩ => ⟨S8x4096x64, .f32⟩
  | .hbm, ⟨65, _⟩ => ⟨S8x4096x64, .f32⟩
  | .hbm, ⟨66, _⟩ => ⟨S64, .f32⟩
  | .hbm, ⟨67, _⟩ => ⟨S1x1x64, .f32⟩
  | .hbm, ⟨68, _⟩ => ⟨S8x4096x64, .f32⟩
  | .hbm, ⟨69, _⟩ => ⟨S8x4096x64, .f32⟩
  | .hbm, ⟨70, _⟩ => ⟨S8x4096x72, .f32⟩
  | .hbm, ⟨71, _⟩ => ⟨S_, .f32⟩
  | .hbm, ⟨72, _⟩ => ⟨S8x4096x72, .f32⟩
  | .hbm, ⟨73, _⟩ => ⟨S8x4096x72, .f32⟩
  | .hbm, ⟨74, _⟩ => ⟨S256x8x64, .f32⟩
  | .hbm, ⟨75, _⟩ => ⟨S8x256x8x4096, .f32⟩
  | .hbm, ⟨76, _⟩ => ⟨S8x4096x8x256, .f32⟩
  | .hbm, ⟨77, _⟩ => ⟨S_, .f32⟩
  | .hbm, ⟨78, _⟩ => ⟨S8x4096x8x256, .f32⟩
  | .hbm, ⟨79, _⟩ => ⟨S8x4096x8x256, .f32⟩
  | .hbm, ⟨80, _⟩ => ⟨S_, .f32⟩
  | .hbm, ⟨81, _⟩ => ⟨S8x4096x8x256, .f32⟩
  | .hbm, ⟨82, _⟩ => ⟨S8x4096x8x256, .f32⟩
  | .hbm, ⟨83, _⟩ => ⟨S32768x2048, .f32⟩
  | .hbm, ⟨84, _⟩ => ⟨S2048x32768, .f32⟩
  | .hbm, ⟨85, _⟩ => ⟨S2048x32768, .bf16⟩
  | .hbm, ⟨86, _⟩ => ⟨S_, .i32⟩
  | .hbm, ⟨87, _⟩ => ⟨S_, .f32⟩
  | .hbm, ⟨88, _⟩ => ⟨S8x4096x8x128, .f32⟩
  | .hbm, ⟨89, _⟩ => ⟨S32768x1024, .f32⟩
  | .hbm, ⟨90, _⟩ => ⟨S1024x32768, .f32⟩
  | .hbm, ⟨91, _⟩ => ⟨S1024x32768, .bf16⟩
  | .hbm, ⟨92, _⟩ => ⟨S_, .i32⟩
  | .hbm, ⟨93, _⟩ => ⟨S_, .f32⟩
  | .hbm, ⟨94, _⟩ => ⟨S8x4096x128, .f32⟩
  | .hbm, ⟨95, _⟩ => ⟨S32768x128, .f32⟩
  | .hbm, ⟨96, _⟩ => ⟨S128x32768, .f32⟩
  | .hbm, ⟨97, _⟩ => ⟨S32768x256, .f32⟩
  | .hbm, ⟨98, _⟩ => ⟨S32768x256, .bf16⟩
  | .hbm, ⟨99, _⟩ => ⟨S32768x256, .f32⟩
  | .hbm, ⟨100, _⟩ => ⟨S256x32768, .f32⟩
  | .hbm, ⟨101, _⟩ => ⟨S256x32768, .bf16⟩
  | .hbm, ⟨102, _⟩ => ⟨S_, .i32⟩
  | .hbm, ⟨103, _⟩ => ⟨S_, .f32⟩
  | .hbm, ⟨104, _⟩ => ⟨S8x4096x128, .f32⟩
  | .hbm, ⟨105, _⟩ => ⟨S32768x128, .f32⟩
  | .hbm, ⟨106, _⟩ => ⟨S32768x128, .bf16⟩
  | .hbm, ⟨107, _⟩ => ⟨S8x4096x2048, .f32⟩
  | .hbm, ⟨108, _⟩ => ⟨S32768x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c : Ref sig .tc := ⟨.hbm, 86, rfl⟩
abbrev main_call0_v0 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_11 : Ref sig .tc := ⟨.hbm, 92, rfl⟩
abbrev main_call1_v0 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_12 : Ref sig .tc := ⟨.hbm, 102, rfl⟩
abbrev main_call2_v0 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Kernel3.lean ====
abbrev S288 : Shape := ⟨1, ![288]⟩
abbrev S147456x1024 : Shape := ⟨2, ![147456, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩
abbrev S1 : Shape := ⟨1, ![1]⟩
abbrev S287 : Shape := ⟨1, ![287]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 18
  | .vmem => 14
  | .smem => 3
  | _ => 0

abbrev bufTy : (tb : Table) → Fin (tcTables nBuf tb) → BufTy
  | .hbm, ⟨0, _⟩ => ⟨S147456x1024, .bf16⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S_, .i32⟩
  | .hbm, ⟨6, _⟩ => ⟨S1, .i32⟩
  | .hbm, ⟨7, _⟩ => ⟨S287, .i32⟩
  | .hbm, ⟨8, _⟩ => ⟨S287, .i32⟩
  | .hbm, ⟨9, _⟩ => ⟨S287, .i1⟩
  | .hbm, ⟨10, _⟩ => ⟨S287, .i32⟩
  | .hbm, ⟨11, _⟩ => ⟨S32x1024x2048, .f32⟩
  | .hbm, ⟨12, _⟩ => ⟨S32x2048, .f32⟩
  | .hbm, ⟨13, _⟩ => ⟨S32x1x2048, .f32⟩
  | .hbm, ⟨14, _⟩ => ⟨S32x1024x1024, .f32⟩
  | .hbm, ⟨15, _⟩ => ⟨S32x1024, .f32⟩
  | .hbm, ⟨16, _⟩ => ⟨S32x1x1024, .f32⟩
  | .hbm, ⟨17, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_arg0 : Ref sig .tc := ⟨.smem, 0, rfl⟩
abbrev main_v0 : Ref sig .tc := ⟨.smem, 1, rfl⟩
abbrev main_v6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_v0.idx, main_v6.idx], fun | 0 => main_arg0.names | 1 => main_v0.names | 2 => main_v6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S288 : Shape := ⟨1, ![288]⟩
abbrev S147456x1024 : Shape := ⟨2, ![147456, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x512x1024 : Shape := ⟨3, ![288, 512, 1024]⟩
abbrev S_ : Shape := ⟨0, ![]⟩
abbrev S1x512x1024 : Shape := ⟨3, ![1, 512, 1024]⟩
abbrev S512x1024 : Shape := ⟨2, ![512, 1024]⟩
abbrev S1 : Shape := ⟨1, ![1]⟩
abbrev S1x1024x2048 : Shape := ⟨3, ![1, 1024, 2048]⟩
abbrev S1024x2048 : Shape := ⟨2, ![1024, 2048]⟩
abbrev S512x2048 : Shape := ⟨2, ![512, 2048]⟩
abbrev S1x2048 : Shape := ⟨2, ![1, 2048]⟩
abbrev S2048 : Shape := ⟨1, ![2048]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 151
  | .vmem => 0
  | .smem => 0
  | _ => 0

abbrev hbmTy0_0 (i : Nat) : BufTy := match i % 128 with
  | 0 => ⟨S288, .i32⟩
  | 1 => ⟨S147456x1024, .bf16⟩
  | 2 => ⟨S1x32x1024x2048, .f32⟩
  | 3 => ⟨S1x32x2048, .f32⟩
  | 4 => ⟨S1x32x1024x1024, .f32⟩
  | 5 => ⟨S1x32x1024, .f32⟩
  | 6 => ⟨S32x1024x2048, .f32⟩
  | 7 => ⟨S32x2048, .f32⟩
  | 8 => ⟨S32x1024x1024, .f32⟩
  | 9 => ⟨S32x1024, .f32⟩
  | 10 => ⟨S288x512x1024, .bf16⟩
  | 11 => ⟨S_, .f32⟩
  | 12 => ⟨S288x512x1024, .f32⟩
  | 13 => ⟨S_, .i32⟩
  | 14 => ⟨S288x512x1024, .bf16⟩
  | 15 => ⟨S288, .i32⟩
  | 16 => ⟨S32x1024x2048, .f32⟩
  | 17 => ⟨S32x2048, .f32⟩
  | 18 => ⟨S32x1024x1024, .f32⟩
  | 19 => ⟨S32x1024, .f32⟩
  | 20 => ⟨S_, .i32⟩
  | 21 => ⟨S288x512x1024, .f32⟩
  | 22 => ⟨S_, .i32⟩
  | 23 => ⟨S_, .i1⟩
  | 24 => ⟨S_, .i32⟩
  | 25 => ⟨S_, .i32⟩
  | 26 => ⟨S1x512x1024, .bf16⟩
  | 27 => ⟨S512x1024, .bf16⟩
  | 28 => ⟨S1, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S1x1024x2048, .f32⟩
  | 52 => ⟨S1024x2048, .f32⟩
  | 53 => ⟨S512x2048, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S1x2048, .f32⟩
  | 68 => ⟨S2048, .f32⟩
  | 69 => ⟨S1x2048, .f32⟩
  | 70 => ⟨S512x2048, .f32⟩
  | 71 => ⟨S512x2048, .f32⟩
  | 72 => ⟨S512x1024, .f32⟩
  | 73 => ⟨S_, .f32⟩
  | 74 => ⟨S512x1024, .f32⟩
  | 75 => ⟨S512x1024, .f32⟩
  | 76 => ⟨S512x1024, .f32⟩
  | 77 => ⟨S_, .f32⟩
  | 78 => ⟨S_, .f32⟩
  | 79 => ⟨S_, .f32⟩
  | 80 => ⟨S512x1024, .f32⟩
  | 81 => ⟨S512x1024, .f32⟩
  | 82 => ⟨S_, .f32⟩
  | 83 => ⟨S512x1024, .f32⟩
  | 84 => ⟨S512x1024, .f32⟩
  | 85 => ⟨S_, .f32⟩
  | 86 => ⟨S512x1024, .f32⟩
  | 87 => ⟨S512x1024, .f32⟩
  | 88 => ⟨S512x1024, .f32⟩
  | 89 => ⟨S512x1024, .f32⟩
  | 90 => ⟨S_, .f32⟩
  | 91 => ⟨S512x1024, .f32⟩
  | 92 => ⟨S512x1024, .f32⟩
  | 93 => ⟨S_, .f32⟩
  | 94 => ⟨S512x1024, .f32⟩
  | 95 => ⟨S512x1024, .f32⟩
  | 96 => ⟨S512x1024, .f32⟩
  | 97 => ⟨S_, .f32⟩
  | 98 => ⟨S512x1024, .f32⟩
  | 99 => ⟨S512x1024, .f32⟩
  | 100 => ⟨S512x1024, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S1x1024x1024, .f32⟩
  | 123 => ⟨S1024x1024, .f32⟩
  | 124 => ⟨S512x1024, .f32⟩
  | 125 => ⟨S_, .i32⟩
  | 126 => ⟨S_, .i1⟩
  | 127 => ⟨S_, .i32⟩
  | _ => ⟨S288, .i32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S1x1024, .f32⟩
  | 11 => ⟨S1024, .f32⟩
  | 12 => ⟨S1x1024, .f32⟩
  | 13 => ⟨S512x1024, .f32⟩
  | 14 => ⟨S512x1024, .f32⟩
  | 15 => ⟨S1x512x1024, .f32⟩
  | 16 => ⟨S_, .i32⟩
  | 17 => ⟨S_, .i32⟩
  | 18 => ⟨S288x512x1024, .f32⟩
  | 19 => ⟨S_, .i32⟩
  | 20 => ⟨S_, .i32⟩
  | 21 => ⟨S147456x1024, .f32⟩
  | 22 => ⟨S147456x1024, .bf16⟩
  | _ => ⟨S288, .i32⟩

abbrev hbmTy (i : Nat) : BufTy := match i / 128 with
  | 0 => hbmTy0_0 i
  | 1 => hbmTy0_1 i
  | _ => ⟨S288, .i32⟩

abbrev bufTy : (tb : Table) → Fin (tcTables nBuf tb) → BufTy
  | .hbm, ⟨i, _⟩ => hbmTy i
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_while0c_c_7 : Ref sig .tc := ⟨.hbm, 22, rfl⟩
abbrev main_while0c_v9 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v9 : Ref sig .tc := ⟨.hbm, 27, rfl⟩
abbrev main_while0b_call1_v0 : Ref sig .tc := ⟨.hbm, 28, rfl⟩
abbrev main_while0b_v10 : Ref sig .tc := ⟨.hbm, 29, rfl⟩
abbrev main_while0b_c_7 : Ref sig .tc := ⟨.hbm, 30, rfl⟩
abbrev main_while0b_v11 : Ref sig .tc := ⟨.hbm, 31, rfl⟩
abbrev main_while0b_c_8 : Ref sig .tc := ⟨.hbm, 32, rfl⟩
abbrev main_while0b_v12 : Ref sig .tc := ⟨.hbm, 33, rfl⟩
abbrev main_while0b_v13 : Ref sig .tc := ⟨.hbm, 34, rfl⟩
abbrev main_while0b_c_9 : Ref sig .tc := ⟨.hbm, 35, rfl⟩
abbrev main_while0b_c_10 : Ref sig .tc := ⟨.hbm, 36, rfl⟩
abbrev main_while0b_v14 : Ref sig .tc := ⟨.hbm, 37, rfl⟩
abbrev main_while0b_c_11 : Ref sig .tc := ⟨.hbm, 38, rfl⟩
abbrev main_while0b_c_12 : Ref sig .tc := ⟨.hbm, 39, rfl⟩
abbrev main_while0b_v15 : Ref sig .tc := ⟨.hbm, 40, rfl⟩
abbrev main_while0b_c_13 : Ref sig .tc := ⟨.hbm, 41, rfl⟩
abbrev main_while0b_v16 : Ref sig .tc := ⟨.hbm, 42, rfl⟩
abbrev main_while0b_c_14 : Ref sig .tc := ⟨.hbm, 43, rfl⟩
abbrev main_while0b_c_15 : Ref sig .tc := ⟨.hbm, 44, rfl⟩
abbrev main_while0b_v17 : Ref sig .tc := ⟨.hbm, 45, rfl⟩
abbrev main_while0b_c_16 : Ref sig .tc := ⟨.hbm, 46, rfl⟩
abbrev main_while0b_c_17 : Ref sig .tc := ⟨.hbm, 47, rfl⟩
abbrev main_while0b_v18 : Ref sig .tc := ⟨.hbm, 48, rfl⟩
abbrev main_while0b_c_18 : Ref sig .tc := ⟨.hbm, 49, rfl⟩
abbrev main_while0b_v19 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_c_19 : Ref sig .tc := ⟨.hbm, 54, rfl⟩
abbrev main_while0b_v23 : Ref sig .tc := ⟨.hbm, 55, rfl⟩
abbrev main_while0b_c_20 : Ref sig .tc := ⟨.hbm, 56, rfl⟩
abbrev main_while0b_v24 : Ref sig .tc := ⟨.hbm, 57, rfl⟩
abbrev main_while0b_v25 : Ref sig .tc := ⟨.hbm, 58, rfl⟩
abbrev main_while0b_c_21 : Ref sig .tc := ⟨.hbm, 59, rfl⟩
abbrev main_while0b_c_22 : Ref sig .tc := ⟨.hbm, 60, rfl⟩
abbrev main_while0b_v26 : Ref sig .tc := ⟨.hbm, 61, rfl⟩
abbrev main_while0b_c_23 : Ref sig .tc := ⟨.hbm, 62, rfl⟩
abbrev main_while0b_c_24 : Ref sig .tc := ⟨.hbm, 63, rfl⟩
abbrev main_while0b_v27 : Ref sig .tc := ⟨.hbm, 64, rfl⟩
abbrev main_while0b_c_25 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_cst_26 : Ref sig .tc := ⟨.hbm, 73, rfl⟩
abbrev main_while0b_v35 : Ref sig .tc := ⟨.hbm, 74, rfl⟩
abbrev main_while0b_v36 : Ref sig .tc := ⟨.hbm, 75, rfl⟩
abbrev main_while0b_v37 : Ref sig .tc := ⟨.hbm, 76, rfl⟩
abbrev main_while0b_cst_27 : Ref sig .tc := ⟨.hbm, 77, rfl⟩
abbrev main_while0b_cst_28 : Ref sig .tc := ⟨.hbm, 78, rfl⟩
abbrev main_while0b_call2_v0 : Ref sig .tc := ⟨.hbm, 79, rfl⟩
abbrev main_while0b_call2_v1 : Ref sig .tc := ⟨.hbm, 80, rfl⟩
abbrev main_while0b_call2_v2 : Ref sig .tc := ⟨.hbm, 81, rfl⟩
abbrev main_while0b_call2_v3 : Ref sig .tc := ⟨.hbm, 82, rfl⟩
abbrev main_while0b_call2_v4 : Ref sig .tc := ⟨.hbm, 83, rfl⟩
abbrev main_while0b_v38 : Ref sig .tc := ⟨.hbm, 84, rfl⟩
abbrev main_while0b_cst_29 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_v42 : Ref sig .tc := ⟨.hbm, 89, rfl⟩
abbrev main_while0b_cst_30 : Ref sig .tc := ⟨.hbm, 90, rfl⟩
abbrev main_while0b_v43 : Ref sig .tc := ⟨.hbm, 91, rfl⟩
abbrev main_while0b_v44 : Ref sig .tc := ⟨.hbm, 92, rfl⟩
abbrev main_while0b_cst_31 : Ref sig .tc := ⟨.hbm, 93, rfl⟩
abbrev main_while0b_v45 : Ref sig .tc := ⟨.hbm, 94, rfl⟩
abbrev main_while0b_v46 : Ref sig .tc := ⟨.hbm, 95, rfl⟩
abbrev main_while0b_v47 : Ref sig .tc := ⟨.hbm, 96, rfl⟩
abbrev main_while0b_cst_32 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_c_33 : Ref sig .tc := ⟨.hbm, 101, rfl⟩
abbrev main_while0b_v51 : Ref sig .tc := ⟨.hbm, 102, rfl⟩
abbrev main_while0b_c_34 : Ref sig .tc := ⟨.hbm, 103, rfl⟩
abbrev main_while0b_v52 : Ref sig .tc := ⟨.hbm, 104, rfl⟩
abbrev main_while0b_v53 : Ref sig .tc := ⟨.hbm, 105, rfl⟩
abbrev main_while0b_c_35 : Ref sig .tc := ⟨.hbm, 106, rfl⟩
abbrev main_while0b_c_36 : Ref sig .tc := ⟨.hbm, 107, rfl⟩
abbrev main_while0b_v54 : Ref sig .tc := ⟨.hbm, 108, rfl⟩
abbrev main_while0b_c_37 : Ref sig .tc := ⟨.hbm, 109, rfl⟩
abbrev main_while0b_c_38 : Ref sig .tc := ⟨.hbm, 110, rfl⟩
abbrev main_while0b_v55 : Ref sig .tc := ⟨.hbm, 111, rfl⟩
abbrev main_while0b_c_39 : Ref sig .tc := ⟨.hbm, 112, rfl⟩
abbrev main_while0b_v56 : Ref sig .tc := ⟨.hbm, 113, rfl⟩
abbrev main_while0b_c_40 : Ref sig .tc := ⟨.hbm, 114, rfl⟩
abbrev main_while0b_c_41 : Ref sig .tc := ⟨.hbm, 115, rfl⟩
abbrev main_while0b_v57 : Ref sig .tc := ⟨.hbm, 116, rfl⟩
abbrev main_while0b_c_42 : Ref sig .tc := ⟨.hbm, 117, rfl⟩
abbrev main_while0b_c_43 : Ref sig .tc := ⟨.hbm, 118, rfl⟩
abbrev main_while0b_v58 : Ref sig .tc := ⟨.hbm, 119, rfl⟩
abbrev main_while0b_c_44 : Ref sig .tc := ⟨.hbm, 120, rfl⟩
abbrev main_while0b_v59 : Ref sig .tc := ⟨.hbm, 121, rfl⟩
abbrev main_while0b_v60 : Ref sig .tc := ⟨.hbm, 122, rfl⟩
abbrev main_while0b_v61 : Ref sig .tc := ⟨.hbm, 123, rfl⟩
abbrev main_while0b_v62 : Ref sig .tc := ⟨.hbm, 124, rfl⟩
abbrev main_while0b_c_45 : Ref sig .tc := ⟨.hbm, 125, rfl⟩
abbrev main_while0b_v63 : Ref sig .tc := ⟨.hbm, 126, rfl⟩
abbrev main_while0b_c_46 : Ref sig .tc := ⟨.hbm, 127, rfl⟩
abbrev main_while0b_v64 : Ref sig .tc := ⟨.hbm, 128, rfl⟩
abbrev main_while0b_v65 : Ref sig .tc := ⟨.hbm, 129, rfl⟩
abbrev main_while0b_c_47 : Ref sig .tc := ⟨.hbm, 130, rfl⟩
abbrev main_while0b_c_48 : Ref sig .tc := ⟨.hbm, 131, rfl⟩
abbrev main_while0b_v66 : Ref sig .tc := ⟨.hbm, 132, rfl⟩
abbrev main_while0b_c_49 : Ref sig .tc := ⟨.hbm, 133, rfl⟩
abbrev main_while0b_c_50 : Ref sig .tc := ⟨.hbm, 134, rfl⟩
abbrev main_while0b_v67 : Ref sig .tc := ⟨.hbm, 135, rfl⟩
abbrev main_while0b_c_51 : Ref sig .tc := ⟨.hbm, 136, rfl⟩
abbrev main_while0b_v68 : Ref sig .tc := ⟨.hbm, 137, rfl⟩
abbrev main_while0b_v69 : Ref sig .tc := ⟨.hbm, 138, rfl⟩
abbrev main_while0b_v70 : Ref sig .tc := ⟨.hbm, 139, rfl⟩
abbrev main_while0b_v71 : Ref sig .tc := ⟨.hbm, 140, rfl⟩
abbrev main_while0b_v72 : Ref sig .tc := ⟨.hbm, 141, rfl⟩
abbrev main_while0b_v73 : Ref sig .tc := ⟨.hbm, 142, rfl⟩
abbrev main_while0b_call3_v0 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_v74 : Ref sig .tc := ⟨.hbm, 146, rfl⟩
abbrev main_while0b_c_52 : Ref sig .tc := ⟨.hbm, 147, rfl⟩
abbrev main_while0b_v75 : Ref sig .tc := ⟨.hbm, 148, rfl⟩
abbrev main_v7 : Ref sig .tc := ⟨.hbm, 149, rfl⟩
abbrev main_v8 : Ref sig .tc := ⟨.hbm, 150, rfl⟩

abbrev nD : Nat := 1
abbrev τ : Topo := Topo.v7x

variable {F : FTy → Type} [FloatOps F]

abbrev main_while0_count : Scf.Loop 32 := ⟨0#32, 288#32, 1#32⟩
-- ==== Proof.PSpec.lean ====
module

public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
/-! # The input projection, over the extended reals

The rows of the input are `X`, the projection's weights `W`, the absorbed key weights `U` (latent channel, head,
channel of the head), the latent's norm weights `kg`, the index key's norm weights `ig` and `ib`. -/

namespace Cert.Inp

/-! ## The constants -/

theorem c_div64 : Scalar.ofBits (F := Ideal) .f32 0x42800000#32 = ((64 : ℝ) : EReal) := by
  show Ideal.ofBits .f32 0x42800000#32 = _
  simp [Ideal.ofBits, Ideal.ieee, -EReal.coe_mul]; norm_num

theorem c_mul64 : Scalar.ofBits (F := Ideal) .f32 0x3C800000#32 = (((1 : ℝ) / 64 : ℝ) : EReal) := by
  show Ideal.ofBits .f32 0x3C800000#32 = _
  simp [Ideal.ofBits, Ideal.ieee, -EReal.coe_mul]; norm_num

/-- Dividing by 64 is multiplying by a sixty-fourth. -/
theorem div64 (x : EReal) : x * Scalar.ofBits (F := Ideal) .f32 0x3C800000#32 = Ideal.div x (Scalar.ofBits (F := Ideal) .f32 0x42800000#32) := by
  rw [c_div64, c_mul64, Ideal.div_coe (by norm_num)]

theorem c_eighth : Scalar.ofBits (F := Ideal) .f32 0x3E000000#32 = (((1 : ℝ) / 8 : ℝ) : EReal) := by
  show Ideal.ofBits .f32 0x3E000000#32 = _
  simp [Ideal.ofBits, Ideal.ieee, -EReal.coe_mul]; norm_num

theorem c_log2e : Scalar.ofBits (F := Ideal) .f32 0x3FB8AA3B#32 = (((12102203 : ℝ) / 8388608 : ℝ) : EReal) := by
  show Ideal.ofBits .f32 0x3FB8AA3B#32 = _
  simp [Ideal.ofBits, Ideal.ieee, -EReal.coe_mul]; norm_num

theorem c_both : Scalar.ofBits (F := Ideal) .f32 0x3E38AA3B#32 = (((12102203 : ℝ) / 67108864 : ℝ) : EReal) := by
  show Ideal.ofBits .f32 0x3E38AA3B#32 = _
  simp [Ideal.ofBits, Ideal.ieee, -EReal.coe_mul]; norm_num

/-- The query's two scales are one. -/
theorem scale_mul : Scalar.ofBits (F := Ideal) .f32 0x3E000000#32 * Scalar.ofBits (F := Ideal) .f32 0x3FB8AA3B#32 = Scalar.ofBits (F := Ideal) .f32 0x3E38AA3B#32 := by
  have e : ∀ a b : ℝ, ((a : ℝ) : EReal) * ((b : ℝ) : EReal) = ((a * b : ℝ) : EReal) := fun a b => (EReal.coe_mul a b).symm
  rw [c_eighth, c_log2e, c_both, e]
  congr 1
  norm_num

/-! ## Sums over padded lanes -/

/-- A sum over 128 lanes of which the upper half is zero. -/
theorem sum_lanes (f : Fin 128 → EReal) : (∑ x : Fin 128, if x.val < 64 then f x else 0) = ∑ i : Fin 64, f ⟨i.val, by omega⟩ := by
  refine (Fin.sum_univ_add (a := 64) (b := 64) (fun x : Fin 128 => if x.val < 64 then f x else 0)).trans ?_
  have h2 : (∑ i : Fin 64, (fun x : Fin 128 => if x.val < 64 then f x else 0) (Fin.natAdd 64 i)) = 0 :=
    Finset.sum_eq_zero fun i _ => if_neg (by show ¬ 64 + i.val < 64; omega)
  rw [h2, add_zero]
  refine Finset.sum_congr rfl fun i _ => ?_
  exact if_pos i.isLt

/-- A sum over the 512 channels of 8 heads of which only head `h`'s count. -/
theorem sum_head (f : Fin 512 → EReal) (h : Fin 8) : (∑ q : Fin 512, if q.val / 64 = h.val then f q else 0) = ∑ d : Fin 64, f ⟨64 * h.val + d.val, by omega⟩ := by
  rw [← Finset.sum_filter]
  symm
  refine Finset.sum_bij (fun d _ => (⟨64 * h.val + d.val, by omega⟩ : Fin 512)) ?_ ?_ ?_ ?_
  · intro d _
    simp only [Finset.mem_filter, Finset.mem_univ, true_and]
    omega
  · intro a _ b _ e
    have := congrArg Fin.val e
    apply Fin.ext
    have e' : 64 * h.val + a.val = 64 * h.val + b.val := this
    omega
  · intro q hq
    simp only [Finset.mem_filter, Finset.mem_univ, true_and] at hq
    exact ⟨⟨q.val - 64 * h.val, by omega⟩, Finset.mem_univ _, Fin.ext (by show 64 * h.val + (q.val - 64 * h.val) = q.val; omega)⟩
  · intro d _
    rfl

variable (X : Fin 32768 → Fin 1024 → EReal) (W : Fin 1024 → Fin 3400 → EReal) (U : Fin 256 → Fin 8 → Fin 64 → EReal)
  (kg : Fin 256 → EReal) (ig ib : Fin 64 → EReal)

/-- Column `j` of the weights. -/
def colW (k : Fin 1024) (j : ℕ) : EReal := W k ⟨j % 3400, Nat.mod_lt _ (by decide)⟩

/-- Row `r` of the input projected to column `j`. -/
def proj (r : Fin 32768) (j : ℕ) : EReal := ∑ k : Fin 1024, X r k * colW W k j

/-- The query of head `h` absorbed into the latent channel `e`, before its scale. -/
def qlat (r : Fin 32768) (h : Fin 8) (e : Fin 256) : EReal := ∑ d : Fin 64, U e h d * proj X W r (64 * h.val + d.val)

/-- The absorbed query, scaled for a softmax to the base two. -/
def qt (r : Fin 32768) (h : Fin 8) (e : Fin 256) : EReal :=
  qlat X W U r h e * Scalar.ofBits (F := Ideal) .f32 0x3E000000#32 * Scalar.ofBits (F := Ideal) .f32 0x3FB8AA3B#32

/-- The indexer's query, scaled, on 128 lanes for each of its 8 heads. -/
def iq (r : Fin 32768) (h l : ℕ) : EReal :=
  if l < 64 then proj X W r (768 + 64 * h + l) * Scalar.ofBits (F := Ideal) .f32 0x3E000000#32 else 0

/-- The indexer's key and head weights, scaled, on 128 lanes. -/
def ikw (r : Fin 32768) (l : ℕ) : EReal :=
  if l < 72 then proj X W r (1280 + l) * Scalar.ofBits (F := Ideal) .f32 0x3EB504F3#32 else 0

/-- The latent, normalised by its root mean square. -/
def lat (r : Fin 32768) (j : Fin 256) : EReal :=
  proj X W r (512 + j.val) * Ideal.rsqrt (Ideal.div (∑ i : Fin 256, proj X W r (512 + i.val) * proj X W r (512 + i.val)) (Scalar.ofBits (F := Ideal) .f32 0x43800000#32)
    + Scalar.ofBits (F := Ideal) .f32 0x358637BD#32) * kg j

/-- The mean of the index key. -/
def mean (r : Fin 32768) : EReal :=
  Ideal.div (∑ i : Fin 64, proj X W r (1280 + i.val)) (Scalar.ofBits (F := Ideal) .f32 0x42800000#32)

/-- The index key less its mean. -/
def cen (r : Fin 32768) (i : Fin 64) : EReal := proj X W r (1280 + i.val) - mean X W r

/-- The index key's layer norm. -/
def ik (r : Fin 32768) (i : Fin 64) : EReal :=
  cen X W r i * Ideal.rsqrt (Ideal.div (∑ i : Fin 64, cen X W r i * cen X W r i) (Scalar.ofBits (F := Ideal) .f32 0x42800000#32)
    + Scalar.ofBits (F := Ideal) .f32 0x3727C5AC#32) * ig i + ib i

/-- The index key's layer norm on 128 lanes. -/
def ikl (r : Fin 32768) (l : Fin 128) : EReal := if h : l.val < 64 then ik X W ig ib r ⟨l.val, h⟩ else 0

end Cert.Inp
-- ==== Proof.PHost.lean ====
module

public import proofs.«01_k».proof.Proof.PSpec
public import proofs.«01_k».proof.Proof.Gen.Kernel2Ideal.Value

@[expose] public section

set_option maxRecDepth 16384

noncomputable section

open Idealize.ShloMosaic Idealize.ShloMosaic.TcCoe Idealize.SL.Sem
/-! # The packed weights that the kernel's host code builds -/

namespace Cert.Kernel2Ideal.Host
open Cert.Kernel2Ideal Cert.Kernel2Ideal.Gen

abbrev Wts := Vec Ideal S1024x3400 .f32

/-- The padding value. -/
def zpad : FVec Ideal S_ .f32 := sitofp .f32 (constantI S_ 32 0#32)

theorem zpad_at (i : S_.Idx) : zpad i = 0 := by
  show (((0#32 : BitVec 32).toInt : ℝ) : EReal) = 0
  norm_num

/-- The index key's columns and the head weights' columns, on 128 columns. -/
def ikw (w : Wts) : Vec Ideal S1024x128 .f32 :=
  pad S1024x128 ![0, 0] ![0, 56] ![0, 0] (concatenate S1024x72 1 [⟨S1024x64, extractStridedSlice S1024x64 ![0, 1280] w slices_S1024x3400_S1024x64_0_1280⟩, ⟨S1024x8, extractStridedSlice S1024x8 ![0, 1344] w slices_S1024x3400_S1024x8_0_1344⟩] concatenates_S1024x64_S1024x8_S1024x72_d1)
    zpad pads_S1024x72_S1024x128_000_0560 h_S_

/-- The index query's columns, each head's on 128 columns. -/
def iqw (w : Wts) : Vec Ideal S1024x1024 .f32 :=
  shapeCast S1024x1024 (pad S1024x8x128 ![0, 0, 0] ![0, 0, 64] ![0, 0, 0] (shapeCast S1024x8x64 (extractStridedSlice S1024x512 ![0, 768] w slices_S1024x3400_S1024x512_0_768) shapeCasts_S1024x512_S1024x8x64)
    zpad pads_S1024x8x64_S1024x8x128_000_000_0640 h_S_) shapeCasts_S1024x8x128_S1024x1024

abbrev nPieces (w : Wts) : List ((s : Shape) × (s.Idx → Ideal .f32)) :=
  [⟨S1024x256, extractStridedSlice S1024x256 ![0, 512] w slices_S1024x3400_S1024x256_0_512⟩, ⟨S1024x128, ikw w⟩,
    ⟨S1024x512, extractStridedSlice S1024x512 ![0, 1352] w slices_S1024x3400_S1024x512_0_1352⟩, ⟨S1024x512, extractStridedSlice S1024x512 ![0, 1864] w slices_S1024x3400_S1024x512_0_1864⟩,
    ⟨S1024x512, extractStridedSlice S1024x512 ![0, 2376] w slices_S1024x3400_S1024x512_0_2376⟩, ⟨S1024x512, extractStridedSlice S1024x512 ![0, 2888] w slices_S1024x3400_S1024x512_0_2888⟩]

/-- The packed weights with one result per column. -/
def wn (w : Wts) : Vec Ideal S1024x2432 .bf16 :=
  truncf (F := Ideal) .bf16 (concatenate S1024x2432 1 (nPieces w) concatenates_S1024x256_S1024x128_S1024x512_S1024x512_S1024x512_S1024x512_S1024x2432_d1) bitsLt_bf16_f32

abbrev tPieces (w : Wts) : List ((s : Shape) × (s.Idx → Ideal .f32)) :=
  [⟨S1024x512, extractStridedSlice S1024x512 ![0, 0] w slices_S1024x3400_S1024x512_0_0⟩, ⟨S1024x1024, iqw w⟩, ⟨S1024x128, ikw w⟩,
    ⟨S1024x256, extractStridedSlice S1024x256 ![0, 512] w slices_S1024x3400_S1024x256_0_512⟩]

/-- The packed weights with one result per row. -/
def wt (w : Wts) : Vec Ideal S1920x1024 .bf16 :=
  truncf (F := Ideal) .bf16 (transpose S1920x1024 [1, 0] (concatenate S1024x1920 1 (tPieces w) concatenates_S1024x512_S1024x1024_S1024x128_S1024x256_S1024x1920_d1) transposes_S1024x1920_S1920x1024_1_0) bitsLt_bf16_f32

/-- The identity matrix that keeps each head's key weights to its own head. -/
def eye : Vec Ideal S8x8 .f32 :=
  uitofp (F := Ideal) .f32 (cmpi .eq (addi (iotaInDim S8x8 32 0) (broadcastInDim S8x8 ![] bcast_S_S8x8 (constantI S_ 32 0#32))) (iotaInDim S8x8 32 1))

/-- The absorbed key weights, a block for each head on the diagonal. -/
def wuk (u : Vec Ideal S256x8x64 .f32) : Vec Ideal S2048x512 .bf16 :=
  truncf (F := Ideal) .bf16 (shapeCast S2048x512 (mulf (F := Ideal) (broadcastInDim S8x256x8x64 ![0, 1, 2, 3] bcast_S8x256x1x64_S8x256x8x64_0_1_2_3 (broadcastInDim S8x256x1x64 ![0, 1, 3] bcast_S8x256x64_S8x256x1x64_0_1_3 (transpose S8x256x64 [1, 0, 2] u transposes_S256x8x64_S8x256x64_1_0_2)))
    (broadcastInDim S8x256x8x64 ![0, 1, 2, 3] bcast_S8x1x8x1_S8x256x8x64_0_1_2_3 (broadcastInDim S8x1x8x1 ![0, 2] bcast_S8x8_S8x1x8x1_0_2 eye))) shapeCasts_S8x256x8x64_S2048x512) bitsLt_bf16_f32

/-- 64 weights on 128 lanes. -/
def lanes (g : Vec Ideal S1x64 .f32) : Vec Ideal S1x128 .f32 :=
  pad S1x128 ![0, 0] ![0, 64] ![0, 0] (shapeCast S1x64 (shapeCast S64 g shapeCasts_S1x64_S64) shapeCasts_S64_S1x64) zpad pads_S1x64_S1x128_000_0640 h_S_

variable (w : Wts)

theorem ikw_at (k : Fin 1024) (l : Fin 128) : ikw w (ix2 k l) = if h : l.val < 72 then w (ix2 k ⟨1280 + l.val, by omega⟩) else 0 := by
  have hz := zpad_at
  unfold ikw
  generalize zpad = z at hz ⊢
  pointwise []
  by_cases h : l.val < 72
  · rw [dif_pos h, dif_pos h]
    by_cases h2 : l.val < 64
    · rw [dif_pos h2]
    · rw [dif_neg h2]
      exact congrArg (fun i => w (ix2 k i)) (Fin.ext (by show 1344 + (l.val - 64) = 1280 + l.val; omega))
  · rw [dif_neg h, dif_neg h]
    exact hz _

theorem iqw_at (k : Fin 1024) (j : Fin 1024) : iqw w (ix2 k j) =
    if h : j.val % 128 < 64 then w (ix2 k ⟨768 + 64 * (j.val / 128) + j.val % 128, by omega⟩) else 0 := by
  have hz := zpad_at
  unfold iqw
  generalize zpad = z at hz ⊢
  pointwise []
  by_cases h : j.val % 128 < 64
  · rw [dif_pos (⟨by omega, h⟩ : j.val / 128 < 8 ∧ j.val % 128 < 64), dif_pos h]
    exact congrArg (fun i => w (ix2 k i)) (Fin.ext (by show 768 + (j.val / 128 * 64 + j.val % 128) = 768 + 64 * (j.val / 128) + j.val % 128; omega))
  · rw [dif_neg (fun q : j.val / 128 < 8 ∧ j.val % 128 < 64 => h q.2), dif_neg h]
    exact hz _

theorem wn_lat (k : Fin 1024) (j : Fin 256) : wn w (ix2 k ⟨0 + j.val, by omega⟩) = w (ix2 k ⟨512 + j.val, by omega⟩) := by
  refine (concatenate_apply_piece (t := S1024x2432) 1 (nPieces w) concatenates_S1024x256_S1024x128_S1024x512_S1024x512_S1024x512_S1024x512_S1024x2432_d1 _ 0 (by show 0 < 6; omega) S1024x256 _ rfl rfl 0 (by rfl) (ix2 k j) ?_ ?_).trans ?_
  · intro b hb
    match b with
    | ⟨0, _⟩ => rfl
    | ⟨1, _⟩ => exact absurd rfl hb
  · rfl
  · first | rfl | pointwise []

theorem wn_ikw (k : Fin 1024) (j : Fin 128) : wn w (ix2 k ⟨256 + j.val, by omega⟩) = ikw w (ix2 k j) := by
  refine (concatenate_apply_piece (t := S1024x2432) 1 (nPieces w) concatenates_S1024x256_S1024x128_S1024x512_S1024x512_S1024x512_S1024x512_S1024x2432_d1 _ 1 (by show 1 < 6; omega) S1024x128 _ rfl rfl 256 (by rfl) (ix2 k j) ?_ ?_).trans ?_
  · intro b hb
    match b with
    | ⟨0, _⟩ => rfl
    | ⟨1, _⟩ => exact absurd rfl hb
  · rfl
  · first | rfl | pointwise []

theorem wn_g0 (k : Fin 1024) (j : Fin 512) : wn w (ix2 k ⟨384 + j.val, by omega⟩) = w (ix2 k ⟨1352 + j.val, by omega⟩) := by
  refine (concatenate_apply_piece (t := S1024x2432) 1 (nPieces w) concatenates_S1024x256_S1024x128_S1024x512_S1024x512_S1024x512_S1024x512_S1024x2432_d1 _ 2 (by show 2 < 6; omega) S1024x512 _ rfl rfl 384 (by rfl) (ix2 k j) ?_ ?_).trans ?_
  · intro b hb
    match b with
    | ⟨0, _⟩ => rfl
    | ⟨1, _⟩ => exact absurd rfl hb
  · rfl
  · first | rfl | pointwise []

theorem wn_g1 (k : Fin 1024) (j : Fin 512) : wn w (ix2 k ⟨896 + j.val, by omega⟩) = w (ix2 k ⟨1864 + j.val, by omega⟩) := by
  refine (concatenate_apply_piece (t := S1024x2432) 1 (nPieces w) concatenates_S1024x256_S1024x128_S1024x512_S1024x512_S1024x512_S1024x512_S1024x2432_d1 _ 3 (by show 3 < 6; omega) S1024x512 _ rfl rfl 896 (by rfl) (ix2 k j) ?_ ?_).trans ?_
  · intro b hb
    match b with
    | ⟨0, _⟩ => rfl
    | ⟨1, _⟩ => exact absurd rfl hb
  · rfl
  · first | rfl | pointwise []

theorem wn_g2 (k : Fin 1024) (j : Fin 512) : wn w (ix2 k ⟨1408 + j.val, by omega⟩) = w (ix2 k ⟨2376 + j.val, by omega⟩) := by
  refine (concatenate_apply_piece (t := S1024x2432) 1 (nPieces w) concatenates_S1024x256_S1024x128_S1024x512_S1024x512_S1024x512_S1024x512_S1024x2432_d1 _ 4 (by show 4 < 6; omega) S1024x512 _ rfl rfl 1408 (by rfl) (ix2 k j) ?_ ?_).trans ?_
  · intro b hb
    match b with
    | ⟨0, _⟩ => rfl
    | ⟨1, _⟩ => exact absurd rfl hb
  · rfl
  · first | rfl | pointwise []

theorem wn_g3 (k : Fin 1024) (j : Fin 512) : wn w (ix2 k ⟨1920 + j.val, by omega⟩) = w (ix2 k ⟨2888 + j.val, by omega⟩) := by
  refine (concatenate_apply_piece (t := S1024x2432) 1 (nPieces w) concatenates_S1024x256_S1024x128_S1024x512_S1024x512_S1024x512_S1024x512_S1024x2432_d1 _ 5 (by show 5 < 6; omega) S1024x512 _ rfl rfl 1920 (by rfl) (ix2 k j) ?_ ?_).trans ?_
  · intro b hb
    match b with
    | ⟨0, _⟩ => rfl
    | ⟨1, _⟩ => exact absurd rfl hb
  · rfl
  · first | rfl | pointwise []

theorem wn_hg (k : Fin 1024) (j : Fin 2048) : wn w (ix2 k ⟨384 + j.val, by omega⟩) = w (ix2 k ⟨1352 + j.val, by omega⟩) := by
  by_cases h0 : j.val < 512
  · exact (congrArg (fun i => wn w (ix2 k i)) (Fin.ext (by show 384 + j.val = 384 + j.val; omega))).trans ((wn_g0 w k ⟨j.val, h0⟩).trans (congrArg (fun i => w (ix2 k i)) (Fin.ext (by show 1352 + j.val = 1352 + j.val; omega))))
  by_cases h1 : j.val < 1024
  · exact (congrArg (fun i => wn w (ix2 k i)) (Fin.ext (by show 384 + j.val = 896 + (j.val - 512); omega))).trans ((wn_g1 w k ⟨j.val - 512, by omega⟩).trans (congrArg (fun i => w (ix2 k i)) (Fin.ext (by show 1864 + (j.val - 512) = 1352 + j.val; omega))))
  by_cases h2 : j.val < 1536
  · exact (congrArg (fun i => wn w (ix2 k i)) (Fin.ext (by show 384 + j.val = 1408 + (j.val - 1024); omega))).trans ((wn_g2 w k ⟨j.val - 1024, by omega⟩).trans (congrArg (fun i => w (ix2 k i)) (Fin.ext (by show 2376 + (j.val - 1024) = 1352 + j.val; omega))))
  · exact (congrArg (fun i => wn w (ix2 k i)) (Fin.ext (by show 384 + j.val = 1920 + (j.val - 1536); omega))).trans ((wn_g3 w k ⟨j.val - 1536, by omega⟩).trans (congrArg (fun i => w (ix2 k i)) (Fin.ext (by show 2888 + (j.val - 1536) = 1352 + j.val; omega))))

theorem wt_eq (k : Fin 1024) (j : Fin 1920) : wt w (ix2 j k) = concatenate S1024x1920 1 (tPieces w) concatenates_S1024x512_S1024x1024_S1024x128_S1024x256_S1024x1920_d1 (ix2 k j) := by
  unfold wt
  generalize concatenate S1024x1920 1 (tPieces w) concatenates_S1024x512_S1024x1024_S1024x128_S1024x256_S1024x1920_d1 = y
  pointwise []

theorem wt_q (k : Fin 1024) (j : Fin 512) : wt w (ix2 ⟨0 + j.val, by omega⟩ k) = w (ix2 k ⟨0 + j.val, by omega⟩) := by
  refine (wt_eq w k _).trans ((concatenate_apply_piece (t := S1024x1920) 1 (tPieces w) concatenates_S1024x512_S1024x1024_S1024x128_S1024x256_S1024x1920_d1 _ 0 (by show 0 < 4; omega) S1024x512 _ rfl rfl 0 (by rfl) (ix2 k j) ?_ ?_).trans ?_)
  · intro b hb
    match b with
    | ⟨0, _⟩ => rfl
    | ⟨1, _⟩ => exact absurd rfl hb
  · rfl
  · first | rfl | pointwise []

theorem wt_iq (k : Fin 1024) (j : Fin 1024) : wt w (ix2 ⟨512 + j.val, by omega⟩ k) = iqw w (ix2 k j) := by
  refine (wt_eq w k _).trans ((concatenate_apply_piece (t := S1024x1920) 1 (tPieces w) concatenates_S1024x512_S1024x1024_S1024x128_S1024x256_S1024x1920_d1 _ 1 (by show 1 < 4; omega) S1024x1024 _ rfl rfl 512 (by rfl) (ix2 k j) ?_ ?_).trans ?_)
  · intro b hb
    match b with
    | ⟨0, _⟩ => rfl
    | ⟨1, _⟩ => exact absurd rfl hb
  · rfl
  · first | rfl | pointwise []

theorem wt_ikw (k : Fin 1024) (j : Fin 128) : wt w (ix2 ⟨1536 + j.val, by omega⟩ k) = ikw w (ix2 k j) := by
  refine (wt_eq w k _).trans ((concatenate_apply_piece (t := S1024x1920) 1 (tPieces w) concatenates_S1024x512_S1024x1024_S1024x128_S1024x256_S1024x1920_d1 _ 2 (by show 2 < 4; omega) S1024x128 _ rfl rfl 1536 (by rfl) (ix2 k j) ?_ ?_).trans ?_)
  · intro b hb
    match b with
    | ⟨0, _⟩ => rfl
    | ⟨1, _⟩ => exact absurd rfl hb
  · rfl
  · first | rfl | pointwise []

theorem wt_lat (k : Fin 1024) (j : Fin 256) : wt w (ix2 ⟨1664 + j.val, by omega⟩ k) = w (ix2 k ⟨512 + j.val, by omega⟩) := by
  refine (wt_eq w k _).trans ((concatenate_apply_piece (t := S1024x1920) 1 (tPieces w) concatenates_S1024x512_S1024x1024_S1024x128_S1024x256_S1024x1920_d1 _ 3 (by show 3 < 4; omega) S1024x256 _ rfl rfl 1664 (by rfl) (ix2 k j) ?_ ?_).trans ?_)
  · intro b hb
    match b with
    | ⟨0, _⟩ => rfl
    | ⟨1, _⟩ => exact absurd rfl hb
  · rfl
  · first | rfl | pointwise []

theorem wuk_at (u : Vec Ideal S256x8x64 .f32) (p : Fin 2048) (q : Fin 512) : wuk u (ix2 p q) = u (ix3 ⟨p.val % 256, by omega⟩ ⟨p.val / 256, by omega⟩ ⟨q.val % 64, by omega⟩) * eye (ix2 ⟨p.val / 256, by omega⟩ ⟨q.val / 64, by omega⟩) := by
  unfold wuk
  generalize eye = e
  pointwise []

theorem eye_at (a b : Fin 8) : eye (ix2 a b) = if a = b then 1 else 0 := by
  unfold eye
  pointwise []
  have e : IntOp.cmpi CmpIPredicate.eq (IntOp.addi (BitVec.ofNat 32 a.val) 0#32) (BitVec.ofNat 32 b.val) = if a = b then 1#1 else 0#1 := by
    revert a b; decide +kernel
  rw [e]
  by_cases h : a = b
  · rw [if_pos h, if_pos h]
    show (((1#1 : BitVec 1).toNat : ℝ) : EReal) = 1
    norm_num
  · rw [if_neg h, if_neg h]
    show (((0#1 : BitVec 1).toNat : ℝ) : EReal) = 0
    norm_num

theorem lanes_at (g : Vec Ideal S1x64 .f32) (l : Fin 128) : lanes g (ix2 0 l) = if h : l.val < 64 then g (ix2 0 ⟨l.val, h⟩) else 0 := by
  have hz := zpad_at
  unfold lanes
  generalize zpad = z at hz ⊢
  pointwise []
  split_ifs
  · rfl
  · exact hz _
end Cert.Kernel2Ideal.Host
-- ==== Proof.PLaunch.lean ====
module

public import proofs.«01_k».proof.Proof.PHost

@[expose] public section

set_option maxRecDepth 16384

noncomputable section

open Idealize.ShloMosaic Idealize.ShloMosaic.TcCoe Idealize.SL.Sem
/-! # The arrays the launch reads -/

namespace Cert.Kernel2Ideal.Host
open Cert.Kernel2Ideal Cert.Kernel2Ideal.Gen

variable (m : (ℓ : Loc nD τ sig) → Buf (Elt Ideal) ℓ)

/-- The weights, as a matrix. -/
def mat (c : Dev nD) : Wts := shapeCast S1024x3400 (m ((c.tc : Thread nD τ).loc main_arg1) : Vec Ideal S1x1024x3400 .f32) shapeCasts_S1x1024x3400_S1024x3400

theorem V_v0 (c : Dev nD) : (V m c main_v0 : Vec Ideal S32768x1024 .f32) = shapeCast S32768x1024 (m ((c.tc : Thread nD τ).loc main_arg0)) shapeCasts_S8x4096x1024_S32768x1024 := by
  show StableHlo.after (List.flatten [hostOps0, hostOps0_1, hostOps0_2, hostOps0_3, hostOps0_4, hostOps0_5, hostOps0_6, hostOps0_7]) (fun b => m (c, b)) (Proc.devRef .tc main_v0) = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_v17 (c : Dev nD) : (V m c main_v17 : Vec Ideal S1024x2432 .bf16) = wn (mat m c) := by
  show StableHlo.after (List.flatten [hostOps0, hostOps0_1, hostOps0_2, hostOps0_3, hostOps0_4, hostOps0_5, hostOps0_6, hostOps0_7]) (fun b => m (c, b)) (Proc.devRef .tc main_v17) = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_v20 (c : Dev nD) : (V m c main_v20 : Vec Ideal S1920x1024 .bf16) = wt (mat m c) := by
  show StableHlo.after (List.flatten [hostOps0, hostOps0_1, hostOps0_2, hostOps0_3, hostOps0_4, hostOps0_5, hostOps0_6, hostOps0_7]) (fun b => m (c, b)) (Proc.devRef .tc main_v20) = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_v35 (c : Dev nD) : (V m c main_v35 : Vec Ideal S2048x512 .bf16) = wuk (shapeCast S256x8x64 (m ((c.tc : Thread nD τ).loc main_arg5)) shapeCasts_S1x256x8x64_S256x8x64) := by
  show StableHlo.after (List.flatten [hostOps0, hostOps0_1, hostOps0_2, hostOps0_3, hostOps0_4, hostOps0_5, hostOps0_6, hostOps0_7]) (fun b => m (c, b)) (Proc.devRef .tc main_v35) = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_v37 (c : Dev nD) : (V m c main_v37 : Vec Ideal S1x256 .f32) = shapeCast S1x256 (shapeCast S256 (m ((c.tc : Thread nD τ).loc main_arg2)) shapeCasts_S1x256_S256) shapeCasts_S256_S1x256 := by
  show StableHlo.after (List.flatten [hostOps0, hostOps0_1, hostOps0_2, hostOps0_3, hostOps0_4, hostOps0_5, hostOps0_6, hostOps0_7]) (fun b => m (c, b)) (Proc.devRef .tc main_v37) = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_v39 (c : Dev nD) : (V m c main_v39 : Vec Ideal S256x1 .f32) = shapeCast S256x1 (shapeCast S256 (m ((c.tc : Thread nD τ).loc main_arg2)) shapeCasts_S1x256_S256) shapeCasts_S256_S256x1 := by
  show StableHlo.after (List.flatten [hostOps0, hostOps0_1, hostOps0_2, hostOps0_3, hostOps0_4, hostOps0_5, hostOps0_6, hostOps0_7]) (fun b => m (c, b)) (Proc.devRef .tc main_v39) = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_v42 (c : Dev nD) : (V m c main_v42 : Vec Ideal S1x128 .f32) = lanes (m ((c.tc : Thread nD τ).loc main_arg3)) := by
  show StableHlo.after (List.flatten [hostOps0, hostOps0_1, hostOps0_2, hostOps0_3, hostOps0_4, hostOps0_5, hostOps0_6, hostOps0_7]) (fun b => m (c, b)) (Proc.devRef .tc main_v42) = _
  simp only [hostOps0, hostOps0_1, hostOps0_2, hostOps0_3, hostOps0_4, hostOps0_5, hostOps0_6, hostOps0_7, List.flatten_cons, List.flatten_nil, List.append_nil, List.cons_append, List.nil_append]
  after_results
  rfl

theorem V_v45 (c : Dev nD) : (V m c main_v45 : Vec Ideal S1x128 .f32) = lanes (m ((c.tc : Thread nD τ).loc main_arg4)) := by
  show StableHlo.after (List.flatten [hostOps0, hostOps0_1, hostOps0_2, hostOps0_3, hostOps0_4, hostOps0_5, hostOps0_6, hostOps0_7]) (fun b => m (c, b)) (Proc.devRef .tc main_v45) = _
  simp only [hostOps0, hostOps0_1, hostOps0_2, hostOps0_3, hostOps0_4, hostOps0_5, hostOps0_6, hostOps0_7, List.flatten_cons, List.flatten_nil, List.append_nil, List.cons_append, List.nil_append]
  after_results
  rfl

end Cert.Kernel2Ideal.Host
-- ==== Proof.PPay.lean ====
module

public import proofs.«01_k».proof.Proof.PSpec
public import proofs.«01_k».proof.Proof.Gen.Kernel2Ideal.Value

@[expose] public section

set_option maxRecDepth 16384

noncomputable section

open Idealize.ShloMosaic Idealize.ShloMosaic.TcCoe Idealize.SL.Sem
/-! # What each store of the kernel's body writes, element by element -/

namespace Cert.Kernel2Ideal.Pay
open Cert.Kernel2Ideal Cert.Kernel2Ideal.Gen

/-- Row `i` of the weights times row `r` of the input. -/
def nt {n : ℕ} (w : Vec Ideal (⟨2, ![n, 1024]⟩ : Shape) .bf16) (x : Vec Ideal S512x1024 .f32) (i : Fin n) (r : Fin 512) : EReal :=
  ∑ k : Fin 1024, w (ix2 i k) * x (ix2 r k)

/-- Row `r` of the input times column `j` of the weights. -/
def nn {n : ℕ} (x : Vec Ideal S512x1024 .bf16) (w : Vec Ideal (⟨2, ![1024, n]⟩ : Shape) .bf16) (r : Fin 512) (j : Fin n) : EReal :=
  ∑ k : Fin 1024, x (ix2 r k) * w (ix2 k j)

theorem pay1_at (v0 : Vec Ideal S512x1024 .f32) (r : Fin 512) (k : Fin 1024) : k0_pay1 v0 (ix2 r k) = v0 (ix2 r k) := by
  unfold k0_pay1
  pointwise []

theorem pay2_at (v0 : Vec Ideal S512x1024 .f32) (v3 : Vec Ideal S512x1024 .bf16) (i r : Fin 512) : k0_pay2 v0 v3 (ix2 i r) = nt v3 v0 i r := by
  unfold k0_pay2 nt k0_pay1
  pointwise []

theorem pay3_at (v0 : Vec Ideal S512x1024 .f32) (v7 : Vec Ideal S1024x1024 .bf16) (i : Fin 1024) (r : Fin 512) :
    k0_pay3 v0 v7 (ix2 i r) = nt v7 v0 i r * Scalar.ofBits (F := Ideal) .f32 0x3E000000#32 := by
  unfold k0_pay3 nt k0_pay1
  pointwise []

theorem pay4_at (v0 : Vec Ideal S512x1024 .f32) (v14 : Vec Ideal S128x1024 .bf16) (i : Fin 128) (r : Fin 512) :
    k0_pay4 v0 v14 (ix2 i r) = nt v14 v0 i r * Scalar.ofBits (F := Ideal) .f32 0x3EB504F3#32 := by
  unfold k0_pay4 nt k0_pay1
  pointwise []

theorem pay5_at (v0 : Vec Ideal S512x1024 .f32) (v20 : Vec Ideal S256x1024 .bf16) (i : Fin 256) (r : Fin 512) :
    k0_pay5 v0 v20 (ix2 i r) = nt v20 v0 i r * Ideal.rsqrt (Ideal.div (∑ a : Fin 256, nt v20 v0 a r * nt v20 v0 a r) (Scalar.ofBits (F := Ideal) .f32 0x43800000#32)
      + Scalar.ofBits (F := Ideal) .f32 0x358637BD#32) := by
  unfold k0_pay5 nt k0_pay1
  pointwise []

theorem pay6_at (v32 : FVec Ideal S256x512 .f32) (v33 : Vec Ideal S256x1 .f32) (i : Fin 256) (r : Fin 512) :
    k0_pay6 v32 v33 (ix2 i r) = v32 (ix2 i r) * v33 (ix2 i 0) := by
  unfold k0_pay6
  pointwise []

theorem pay7_at (v6 : FVec Ideal S512x512 .bf16) (v39 : Vec Ideal S2048x512 .bf16) (p : Fin 2048) (r : Fin 512) :
    k0_pay7 v6 v39 (ix2 p r) = (∑ q : Fin 512, v39 (ix2 p q) * v6 (ix2 q r)) * Scalar.ofBits (F := Ideal) .f32 0x3E38AA3B#32 := by
  unfold k0_pay7
  pointwise []

theorem pay8_at (v2 : FVec Ideal S512x1024 .bf16) (v46 : Vec Ideal S1024x256 .bf16) (v59 : Vec Ideal S1x256 .f32) (r : Fin 512) (j : Fin 256) :
    k0_pay8 v2 v46 v59 (ix2 r j) = nn v2 v46 r j * Ideal.rsqrt (Ideal.div (∑ a : Fin 256, nn v2 v46 r a * nn v2 v46 r a) (Scalar.ofBits (F := Ideal) .f32 0x43800000#32)
      + Scalar.ofBits (F := Ideal) .f32 0x358637BD#32) * v59 (ix2 0 j) := by
  unfold k0_pay8 nn
  pointwise []

theorem pay9_at (v2 : FVec Ideal S512x1024 .bf16) (v65 : Vec Ideal S1024x128 .bf16) (r : Fin 512) (l : Fin 128) :
    k0_pay9 v2 v65 (ix2 r l) = nn v2 v65 r l := by
  unfold k0_pay9 nn
  pointwise []

theorem pay11_at (v2 : FVec Ideal S512x1024 .bf16) (v101 : Vec Ideal S1024x2048 .bf16) (r : Fin 512) (j : Fin 2048) :
    k0_pay11 v2 v101 (ix2 r j) = nn v2 v101 r j := by
  unfold k0_pay11 nn
  pointwise []

/-- The lanes below 64, as the body's comparison selects them. -/
theorem sel_at (l : Fin 128) (a b : EReal) : Scalar.select (IntOp.cmpi CmpIPredicate.slt (BitVec.ofNat 32 l.val) 64#32) a b = if l.val < 64 then a else b := by
  have e : IntOp.cmpi CmpIPredicate.slt (BitVec.ofNat 32 l.val) 64#32 = if l.val < 64 then 1#1 else 0#1 := by
    revert l; decide +kernel
  rw [e]
  by_cases h : l.val < 64
  · rw [if_pos h, if_pos h]; rfl
  · rw [if_neg h, if_neg h]; rfl

theorem pay10_at (v67 : FVec Ideal S512x128 .f32) (v91 v95 : Vec Ideal S1x128 .f32) (r : Fin 512) (y : Fin 64 → EReal)
    (hy : ∀ i : Fin 64, v67 (ix2 r ⟨i.val, by omega⟩) = y i) (l : Fin 128) :
    k0_pay10 v67 v91 v95 (ix2 r l) =
      (if h : l.val < 64 then
        (y ⟨l.val, h⟩ - Ideal.div (∑ i : Fin 64, y i) (Scalar.ofBits (F := Ideal) .f32 0x42800000#32))
          * Ideal.rsqrt (Ideal.div (∑ i : Fin 64, (y i - Ideal.div (∑ i : Fin 64, y i) (Scalar.ofBits (F := Ideal) .f32 0x42800000#32))
              * (y i - Ideal.div (∑ i : Fin 64, y i) (Scalar.ofBits (F := Ideal) .f32 0x42800000#32))) (Scalar.ofBits (F := Ideal) .f32 0x42800000#32)
            + Scalar.ofBits (F := Ideal) .f32 0x3727C5AC#32) * v91 (ix2 0 l)
       else 0) + v95 (ix2 0 l) := by
  unfold k0_pay10
  pointwise []
  simp only [sel_at]
  have c : ∀ x : EReal, x * Ideal.ofBits FTy.f32 1015021568#32 = Ideal.div x (Scalar.ofBits (F := Ideal) .f32 0x42800000#32) := Inp.div64
  simp only [c]
  rw [Inp.sum_lanes (fun x => v67 (ix2 r x))]
  simp only [hy]
  generalize Ideal.div (∑ i : Fin 64, y i) (Scalar.ofBits (F := Ideal) .f32 0x42800000#32) = mu
  have e : (∑ x : Fin 128, if x.val < 64 then (if x.val < 64 then (v67 (ix2 r x) - mu) * (v67 (ix2 r x) - mu) else 0) else 0) = ∑ i : Fin 64, (y i - mu) * (y i - mu) := by
    rw [Inp.sum_lanes (fun x => if x.val < 64 then (v67 (ix2 r x) - mu) * (v67 (ix2 r x) - mu) else 0)]
    refine Finset.sum_congr rfl fun i _ => ?_
    rw [if_pos (show (⟨i.val, by omega⟩ : Fin 128).val < 64 from i.isLt), hy]
  rw [e]
  by_cases h : l.val < 64
  · rw [if_pos h, dif_pos h, ← hy ⟨l.val, h⟩]
    rfl
  · rw [if_neg h, dif_neg h]

end Cert.Kernel2Ideal.Pay
-- ==== Proof.PBlk.lean ====
module

public import proofs.«01_k».proof.Proof.PLaunch
public import proofs.«01_k».proof.Proof.PPay

@[expose] public section

set_option maxRecDepth 16384

noncomputable section

open Idealize.ShloMosaic Idealize.ShloMosaic.TcCoe Idealize.SL.Sem
/-! # The blocks each grid point reads, and the blocks it writes -/

namespace Cert.Kernel2Ideal.Blk
open Cert.Kernel2Ideal Cert.Kernel2Ideal.Gen Cert.Kernel2Ideal.Host Cert.Kernel2Ideal.Pay

variable (m : (ℓ : Loc nD τ sig) → Buf (Elt Ideal) ℓ)

/-- The rows of the input. -/
def argX (c : Dev nD) : Fin 32768 → Fin 1024 → EReal := fun r k => (m ((c.tc : Thread nD τ).loc main_arg0) : Vec Ideal S8x4096x1024 .f32) (ix3 ⟨r.val / 4096, by omega⟩ ⟨r.val % 4096, by omega⟩ k)
/-- The projection's weights. -/
def argW (c : Dev nD) : Fin 1024 → Fin 3400 → EReal := fun k j => (m ((c.tc : Thread nD τ).loc main_arg1) : Vec Ideal S1x1024x3400 .f32) (ix3 0 k j)
/-- The latent's norm weights. -/
def argG (c : Dev nD) : Fin 256 → EReal := fun j => (m ((c.tc : Thread nD τ).loc main_arg2) : Vec Ideal S1x256 .f32) (ix2 0 j)
/-- The index key's norm weights. -/
def argI (c : Dev nD) : Fin 64 → EReal := fun j => (m ((c.tc : Thread nD τ).loc main_arg3) : Vec Ideal S1x64 .f32) (ix2 0 j)
def argB (c : Dev nD) : Fin 64 → EReal := fun j => (m ((c.tc : Thread nD τ).loc main_arg4) : Vec Ideal S1x64 .f32) (ix2 0 j)
/-- The absorbed key weights. -/
def argU (c : Dev nD) : Fin 256 → Fin 8 → Fin 64 → EReal := fun e h d => (m ((c.tc : Thread nD τ).loc main_arg5) : Vec Ideal S1x256x8x64 .f32) (ix4 0 e h d)

theorem rows_at (x : Vec Ideal S8x4096x1024 .f32) (r : Fin 32768) (k : Fin 1024) :
    shapeCast S32768x1024 x shapeCasts_S8x4096x1024_S32768x1024 (ix2 r k) = x (ix3 ⟨r.val / 4096, by omega⟩ ⟨r.val % 4096, by omega⟩ k) := by
  pointwise []

theorem mat_at (c : Dev nD) (k : Fin 1024) (j : ℕ) (h : j < 3400) : mat m c (ix2 k ⟨j, h⟩) = Inp.colW (argW m c) k j := by
  have e : ∀ (x : Vec Ideal S1x1024x3400 .f32) (i : Fin 3400), shapeCast S1024x3400 x shapeCasts_S1x1024x3400_S1024x3400 (ix2 k i) = x (ix3 0 k i) := by
    intro x i
    pointwise []
  unfold mat Inp.colW argW
  rw [e]
  congr 2
  exact Fin.ext (Nat.mod_eq_of_lt h).symm

theorem g1_at (x : Vec Ideal S1x256 .f32) (j : Fin 256) : shapeCast S1x256 (shapeCast S256 x shapeCasts_S1x256_S256) shapeCasts_S256_S1x256 (ix2 0 j) = x (ix2 0 j) := by
  pointwise []
theorem g2_at (x : Vec Ideal S1x256 .f32) (j : Fin 256) : shapeCast S256x1 (shapeCast S256 x shapeCasts_S1x256_S256) shapeCasts_S256_S256x1 (ix2 j 0) = x (ix2 0 j) := by
  pointwise []
theorem u_at (x : Vec Ideal S1x256x8x64 .f32) (e : Fin 256) (h : Fin 8) (d : Fin 64) : shapeCast S256x8x64 x shapeCasts_S1x256x8x64_S256x8x64 (ix3 e h d) = x (ix4 0 e h d) := by
  pointwise []

/-- A row of the input, `512` to a block. -/
abbrev row (t : Fin cfg0.N) (r : Fin 512) : Fin 32768 := ⟨512 * t.val + r.val, by have := lt_of_lt_of_eq t.isLt N_0; omega⟩

theorem idx0 : ∀ t : Fin cfg0.N, win0_0.index t (0 : Fin 2) = t.val ∧ win0_0.index t (1 : Fin 2) = 0 :=
  (by decide +kernel : ∀ t : Fin grid0.N, _)

theorem b0 (c : Dev nD) (t : Fin cfg0.N) (r : Fin 512) (k : Fin 1024) : iblk m c 0 t (ix2 r k) = argX m c (row t r) k := by
  obtain ⟨e0, e1⟩ := idx0 t
  have hN := lt_of_lt_of_eq t.isLt N_0
  blk_simp [iblk]
  rw [V_v0]
  have e : (win0_0.blk t).view.emb (ix2 r k) = (ix2 (row t r) k : S32768x1024.Idx) := by
    funext a
    apply Fin.ext
    match a with
    | ⟨0, _⟩ => show win0_0.index t (0 : Fin 2) * 512 + 1 * r.val = _; rw [e0]; show t.val * 512 + 1 * r.val = 512 * t.val + r.val; omega
    | ⟨1, _⟩ => show win0_0.index t (1 : Fin 2) * 1024 + 1 * k.val = _; rw [e1]; show 0 * 1024 + 1 * k.val = k.val; omega
  rw [e]
  exact rows_at _ _ _

theorem idx1 : ∀ t : Fin cfg0.N, win0_1.index t (0 : Fin 2) = 0 ∧ win0_1.index t (1 : Fin 2) = 0 :=
  (by decide +kernel : ∀ t : Fin grid0.N, _)

theorem b1 (c : Dev nD) (t : Fin cfg0.N) (a : Fin 1024) (b : Fin 2432) : iblk m c 1 t (ix2 a b) = wn (mat m c) (ix2 a b) := by
  obtain ⟨e0, e1⟩ := idx1 t
  blk_simp [iblk]
  rw [V_v17]
  have e : (win0_1.blk t).view.emb (ix2 a b) = (ix2 a b : S1024x2432.Idx) := by
    funext x
    apply Fin.ext
    match x with
    | ⟨0, _⟩ => show win0_1.index t (0 : Fin 2) * 1024 + 1 * a.val = _; rw [e0]; show 0 * 1024 + 1 * a.val = a.val; omega
    | ⟨1, _⟩ => show win0_1.index t (1 : Fin 2) * 2432 + 1 * b.val = _; rw [e1]; show 0 * 2432 + 1 * b.val = b.val; omega
  rw [e]

theorem idx2 : ∀ t : Fin cfg0.N, win0_2.index t (0 : Fin 2) = 0 ∧ win0_2.index t (1 : Fin 2) = 0 :=
  (by decide +kernel : ∀ t : Fin grid0.N, _)

theorem b2 (c : Dev nD) (t : Fin cfg0.N) (a : Fin 1920) (b : Fin 1024) : iblk m c 2 t (ix2 a b) = wt (mat m c) (ix2 a b) := by
  obtain ⟨e0, e1⟩ := idx2 t
  blk_simp [iblk]
  rw [V_v20]
  have e : (win0_2.blk t).view.emb (ix2 a b) = (ix2 a b : S1920x1024.Idx) := by
    funext x
    apply Fin.ext
    match x with
    | ⟨0, _⟩ => show win0_2.index t (0 : Fin 2) * 1920 + 1 * a.val = _; rw [e0]; show 0 * 1920 + 1 * a.val = a.val; omega
    | ⟨1, _⟩ => show win0_2.index t (1 : Fin 2) * 1024 + 1 * b.val = _; rw [e1]; show 0 * 1024 + 1 * b.val = b.val; omega
  rw [e]

theorem idx3 : ∀ t : Fin cfg0.N, win0_3.index t (0 : Fin 2) = 0 ∧ win0_3.index t (1 : Fin 2) = 0 :=
  (by decide +kernel : ∀ t : Fin grid0.N, _)

theorem b3 (c : Dev nD) (t : Fin cfg0.N) (a : Fin 2048) (b : Fin 512) : iblk m c 3 t (ix2 a b) = wuk (shapeCast S256x8x64 (m ((c.tc : Thread nD τ).loc main_arg5)) shapeCasts_S1x256x8x64_S256x8x64) (ix2 a b) := by
  obtain ⟨e0, e1⟩ := idx3 t
  blk_simp [iblk]
  rw [V_v35]
  have e : (win0_3.blk t).view.emb (ix2 a b) = (ix2 a b : S2048x512.Idx) := by
    funext x
    apply Fin.ext
    match x with
    | ⟨0, _⟩ => show win0_3.index t (0 : Fin 2) * 2048 + 1 * a.val = _; rw [e0]; show 0 * 2048 + 1 * a.val = a.val; omega
    | ⟨1, _⟩ => show win0_3.index t (1 : Fin 2) * 512 + 1 * b.val = _; rw [e1]; show 0 * 512 + 1 * b.val = b.val; omega
  rw [e]

theorem idx4 : ∀ t : Fin cfg0.N, win0_4.index t (0 : Fin 2) = 0 ∧ win0_4.index t (1 : Fin 2) = 0 :=
  (by decide +kernel : ∀ t : Fin grid0.N, _)

theorem b4 (c : Dev nD) (t : Fin cfg0.N) (a : Fin 1) (b : Fin 256) : iblk m c 4 t (ix2 a b) = shapeCast S1x256 (shapeCast S256 (m ((c.tc : Thread nD τ).loc main_arg2)) shapeCasts_S1x256_S256) shapeCasts_S256_S1x256 (ix2 a b) := by
  obtain ⟨e0, e1⟩ := idx4 t
  blk_simp [iblk]
  rw [V_v37]
  have e : (win0_4.blk t).view.emb (ix2 a b) = (ix2 a b : S1x256.Idx) := by
    funext x
    apply Fin.ext
    match x with
    | ⟨0, _⟩ => show win0_4.index t (0 : Fin 2) * 1 + 1 * a.val = _; rw [e0]; show 0 * 1 + 1 * a.val = a.val; omega
    | ⟨1, _⟩ => show win0_4.index t (1 : Fin 2) * 256 + 1 * b.val = _; rw [e1]; show 0 * 256 + 1 * b.val = b.val; omega
  rw [e]

theorem idx5 : ∀ t : Fin cfg0.N, win0_5.index t (0 : Fin 2) = 0 ∧ win0_5.index t (1 : Fin 2) = 0 :=
  (by decide +kernel : ∀ t : Fin grid0.N, _)

theorem b5 (c : Dev nD) (t : Fin cfg0.N) (a : Fin 256) (b : Fin 1) : iblk m c 5 t (ix2 a b) = shapeCast S256x1 (shapeCast S256 (m ((c.tc : Thread nD τ).loc main_arg2)) shapeCasts_S1x256_S256) shapeCasts_S256_S256x1 (ix2 a b) := by
  obtain ⟨e0, e1⟩ := idx5 t
  blk_simp [iblk]
  rw [V_v39]
  have e : (win0_5.blk t).view.emb (ix2 a b) = (ix2 a b : S256x1.Idx) := by
    funext x
    apply Fin.ext
    match x with
    | ⟨0, _⟩ => show win0_5.index t (0 : Fin 2) * 256 + 1 * a.val = _; rw [e0]; show 0 * 256 + 1 * a.val = a.val; omega
    | ⟨1, _⟩ => show win0_5.index t (1 : Fin 2) * 1 + 1 * b.val = _; rw [e1]; show 0 * 1 + 1 * b.val = b.val; omega
  rw [e]

theorem idx6 : ∀ t : Fin cfg0.N, win0_6.index t (0 : Fin 2) = 0 ∧ win0_6.index t (1 : Fin 2) = 0 :=
  (by decide +kernel : ∀ t : Fin grid0.N, _)

theorem b6 (c : Dev nD) (t : Fin cfg0.N) (a : Fin 1) (b : Fin 128) : iblk m c 6 t (ix2 a b) = lanes (m ((c.tc : Thread nD τ).loc main_arg3)) (ix2 a b) := by
  obtain ⟨e0, e1⟩ := idx6 t
  blk_simp [iblk]
  rw [V_v42]
  have e : (win0_6.blk t).view.emb (ix2 a b) = (ix2 a b : S1x128.Idx) := by
    funext x
    apply Fin.ext
    match x with
    | ⟨0, _⟩ => show win0_6.index t (0 : Fin 2) * 1 + 1 * a.val = _; rw [e0]; show 0 * 1 + 1 * a.val = a.val; omega
    | ⟨1, _⟩ => show win0_6.index t (1 : Fin 2) * 128 + 1 * b.val = _; rw [e1]; show 0 * 128 + 1 * b.val = b.val; omega
  rw [e]

theorem idx7 : ∀ t : Fin cfg0.N, win0_7.index t (0 : Fin 2) = 0 ∧ win0_7.index t (1 : Fin 2) = 0 :=
  (by decide +kernel : ∀ t : Fin grid0.N, _)

theorem b7 (c : Dev nD) (t : Fin cfg0.N) (a : Fin 1) (b : Fin 128) : iblk m c 7 t (ix2 a b) = lanes (m ((c.tc : Thread nD τ).loc main_arg4)) (ix2 a b) := by
  obtain ⟨e0, e1⟩ := idx7 t
  blk_simp [iblk]
  rw [V_v45]
  have e : (win0_7.blk t).view.emb (ix2 a b) = (ix2 a b : S1x128.Idx) := by
    funext x
    apply Fin.ext
    match x with
    | ⟨0, _⟩ => show win0_7.index t (0 : Fin 2) * 1 + 1 * a.val = _; rw [e0]; show 0 * 1 + 1 * a.val = a.val; omega
    | ⟨1, _⟩ => show win0_7.index t (1 : Fin 2) * 128 + 1 * b.val = _; rw [e1]; show 0 * 128 + 1 * b.val = b.val; omega
  rw [e]

/-! ## The output arrays, from the blocks that the grid points write -/

theorem idx8 : ∀ t : Fin cfg0.N, win0_8.index t (0 : Fin 2) = 0 ∧ win0_8.index t (1 : Fin 2) = t.val :=
  (by decide +kernel : ∀ t : Fin grid0.N, _)
theorem fl8 : ∀ t : Fin cfg0.N, (cfg0.win 8).flush t = true :=
  (by decide +kernel : ∀ t : Fin grid0.N, _)

theorem arr8 (c : Dev nD) (t : Fin cfg0.N) (r : Fin 512) (j : Fin 2048) :
    ((dats m 0 c).arrAt 8 cfg0.N : S2048x32768.Idx → Elt Ideal _) (ix2 j (row t r)) = out0_8 (iblk m c 0 t) (iblk m c 1 t) (iblk m c 2 t) (iblk m c 3 t) (iblk m c 4 t) (iblk m c 5 t) (iblk m c 6 t) (iblk m c 7 t) (ix2 j r) := by
  obtain ⟨e0, e1⟩ := idx8 t
  have h := congrFun ((Value.blocks8 m c t (fl8 t)).trans (Value.flushed8 m c t)) (ix2 j r)
  have e : (win0_8.blk t).view.emb (ix2 j r) = (ix2 j (row t r) : S2048x32768.Idx) := by
    funext x
    apply Fin.ext
    match x with
    | ⟨0, _⟩ => show win0_8.index t (0 : Fin 2) * 2048 + 1 * j.val = _; rw [e0]; show 0 * 2048 + 1 * j.val = j.val; omega
    | ⟨1, _⟩ => show win0_8.index t (1 : Fin 2) * 512 + 1 * r.val = _; rw [e1]; show t.val * 512 + 1 * r.val = 512 * t.val + r.val; omega
  rw [← e]
  exact h

theorem idx9 : ∀ t : Fin cfg0.N, win0_9.index t (0 : Fin 2) = 0 ∧ win0_9.index t (1 : Fin 2) = t.val :=
  (by decide +kernel : ∀ t : Fin grid0.N, _)
theorem fl9 : ∀ t : Fin cfg0.N, (cfg0.win 9).flush t = true :=
  (by decide +kernel : ∀ t : Fin grid0.N, _)

theorem arr9 (c : Dev nD) (t : Fin cfg0.N) (r : Fin 512) (j : Fin 1024) :
    ((dats m 0 c).arrAt 9 cfg0.N : S1024x32768.Idx → Elt Ideal _) (ix2 j (row t r)) = out0_9 (iblk m c 0 t) (iblk m c 1 t) (iblk m c 2 t) (iblk m c 3 t) (iblk m c 4 t) (iblk m c 5 t) (iblk m c 6 t) (iblk m c 7 t) (ix2 j r) := by
  obtain ⟨e0, e1⟩ := idx9 t
  have h := congrFun ((Value.blocks9 m c t (fl9 t)).trans (Value.flushed9 m c t)) (ix2 j r)
  have e : (win0_9.blk t).view.emb (ix2 j r) = (ix2 j (row t r) : S1024x32768.Idx) := by
    funext x
    apply Fin.ext
    match x with
    | ⟨0, _⟩ => show win0_9.index t (0 : Fin 2) * 1024 + 1 * j.val = _; rw [e0]; show 0 * 1024 + 1 * j.val = j.val; omega
    | ⟨1, _⟩ => show win0_9.index t (1 : Fin 2) * 512 + 1 * r.val = _; rw [e1]; show t.val * 512 + 1 * r.val = 512 * t.val + r.val; omega
  rw [← e]
  exact h

theorem idx10 : ∀ t : Fin cfg0.N, win0_10.index t (0 : Fin 2) = 0 ∧ win0_10.index t (1 : Fin 2) = t.val :=
  (by decide +kernel : ∀ t : Fin grid0.N, _)
theorem fl10 : ∀ t : Fin cfg0.N, (cfg0.win 10).flush t = true :=
  (by decide +kernel : ∀ t : Fin grid0.N, _)

theorem arr10 (c : Dev nD) (t : Fin cfg0.N) (r : Fin 512) (j : Fin 128) :
    ((dats m 0 c).arrAt 10 cfg0.N : S128x32768.Idx → Elt Ideal _) (ix2 j (row t r)) = out0_10 (iblk m c 0 t) (iblk m c 1 t) (iblk m c 2 t) (iblk m c 3 t) (iblk m c 4 t) (iblk m c 5 t) (iblk m c 6 t) (iblk m c 7 t) (ix2 j r) := by
  obtain ⟨e0, e1⟩ := idx10 t
  have h := congrFun ((Value.blocks10 m c t (fl10 t)).trans (Value.flushed10 m c t)) (ix2 j r)
  have e : (win0_10.blk t).view.emb (ix2 j r) = (ix2 j (row t r) : S128x32768.Idx) := by
    funext x
    apply Fin.ext
    match x with
    | ⟨0, _⟩ => show win0_10.index t (0 : Fin 2) * 128 + 1 * j.val = _; rw [e0]; show 0 * 128 + 1 * j.val = j.val; omega
    | ⟨1, _⟩ => show win0_10.index t (1 : Fin 2) * 512 + 1 * r.val = _; rw [e1]; show t.val * 512 + 1 * r.val = 512 * t.val + r.val; omega
  rw [← e]
  exact h

theorem idx11 : ∀ t : Fin cfg0.N, win0_11.index t (0 : Fin 2) = t.val ∧ win0_11.index t (1 : Fin 2) = 0 :=
  (by decide +kernel : ∀ t : Fin grid0.N, _)
theorem fl11 : ∀ t : Fin cfg0.N, (cfg0.win 11).flush t = true :=
  (by decide +kernel : ∀ t : Fin grid0.N, _)

theorem arr11 (c : Dev nD) (t : Fin cfg0.N) (r : Fin 512) (j : Fin 256) :
    ((dats m 0 c).arrAt 11 cfg0.N : S32768x256.Idx → Elt Ideal _) (ix2 (row t r) j) = out0_11 (iblk m c 0 t) (iblk m c 1 t) (iblk m c 2 t) (iblk m c 3 t) (iblk m c 4 t) (iblk m c 5 t) (iblk m c 6 t) (iblk m c 7 t) (ix2 r j) := by
  obtain ⟨e0, e1⟩ := idx11 t
  have h := congrFun ((Value.blocks11 m c t (fl11 t)).trans (Value.flushed11 m c t)) (ix2 r j)
  have e : (win0_11.blk t).view.emb (ix2 r j) = (ix2 (row t r) j : S32768x256.Idx) := by
    funext x
    apply Fin.ext
    match x with
    | ⟨0, _⟩ => show win0_11.index t (0 : Fin 2) * 512 + 1 * r.val = _; rw [e0]; show t.val * 512 + 1 * r.val = 512 * t.val + r.val; omega
    | ⟨1, _⟩ => show win0_11.index t (1 : Fin 2) * 256 + 1 * j.val = _; rw [e1]; show 0 * 256 + 1 * j.val = j.val; omega
  rw [← e]
  exact h

theorem idx12 : ∀ t : Fin cfg0.N, win0_12.index t (0 : Fin 2) = 0 ∧ win0_12.index t (1 : Fin 2) = t.val :=
  (by decide +kernel : ∀ t : Fin grid0.N, _)
theorem fl12 : ∀ t : Fin cfg0.N, (cfg0.win 12).flush t = true :=
  (by decide +kernel : ∀ t : Fin grid0.N, _)

theorem arr12 (c : Dev nD) (t : Fin cfg0.N) (r : Fin 512) (j : Fin 256) :
    ((dats m 0 c).arrAt 12 cfg0.N : S256x32768.Idx → Elt Ideal _) (ix2 j (row t r)) = out0_12 (iblk m c 0 t) (iblk m c 1 t) (iblk m c 2 t) (iblk m c 3 t) (iblk m c 4 t) (iblk m c 5 t) (iblk m c 6 t) (iblk m c 7 t) (ix2 j r) := by
  obtain ⟨e0, e1⟩ := idx12 t
  have h := congrFun ((Value.blocks12 m c t (fl12 t)).trans (Value.flushed12 m c t)) (ix2 j r)
  have e : (win0_12.blk t).view.emb (ix2 j r) = (ix2 j (row t r) : S256x32768.Idx) := by
    funext x
    apply Fin.ext
    match x with
    | ⟨0, _⟩ => show win0_12.index t (0 : Fin 2) * 256 + 1 * j.val = _; rw [e0]; show 0 * 256 + 1 * j.val = j.val; omega
    | ⟨1, _⟩ => show win0_12.index t (1 : Fin 2) * 512 + 1 * r.val = _; rw [e1]; show t.val * 512 + 1 * r.val = 512 * t.val + r.val; omega
  rw [← e]
  exact h

theorem idx13 : ∀ t : Fin cfg0.N, win0_13.index t (0 : Fin 2) = t.val ∧ win0_13.index t (1 : Fin 2) = 0 :=
  (by decide +kernel : ∀ t : Fin grid0.N, _)
theorem fl13 : ∀ t : Fin cfg0.N, (cfg0.win 13).flush t = true :=
  (by decide +kernel : ∀ t : Fin grid0.N, _)

theorem arr13 (c : Dev nD) (t : Fin cfg0.N) (r : Fin 512) (j : Fin 128) :
    ((dats m 0 c).arrAt 13 cfg0.N : S32768x128.Idx → Elt Ideal _) (ix2 (row t r) j) = out0_13 (iblk m c 0 t) (iblk m c 1 t) (iblk m c 2 t) (iblk m c 3 t) (iblk m c 4 t) (iblk m c 5 t) (iblk m c 6 t) (iblk m c 7 t) (ix2 r j) := by
  obtain ⟨e0, e1⟩ := idx13 t
  have h := congrFun ((Value.blocks13 m c t (fl13 t)).trans (Value.flushed13 m c t)) (ix2 r j)
  have e : (win0_13.blk t).view.emb (ix2 r j) = (ix2 (row t r) j : S32768x128.Idx) := by
    funext x
    apply Fin.ext
    match x with
    | ⟨0, _⟩ => show win0_13.index t (0 : Fin 2) * 512 + 1 * r.val = _; rw [e0]; show t.val * 512 + 1 * r.val = 512 * t.val + r.val; omega
    | ⟨1, _⟩ => show win0_13.index t (1 : Fin 2) * 128 + 1 * j.val = _; rw [e1]; show 0 * 128 + 1 * j.val = j.val; omega
  rw [← e]
  exact h

theorem idx14 : ∀ t : Fin cfg0.N, win0_14.index t (0 : Fin 2) = t.val ∧ win0_14.index t (1 : Fin 2) = 0 :=
  (by decide +kernel : ∀ t : Fin grid0.N, _)
theorem fl14 : ∀ t : Fin cfg0.N, (cfg0.win 14).flush t = true :=
  (by decide +kernel : ∀ t : Fin grid0.N, _)

theorem arr14 (c : Dev nD) (t : Fin cfg0.N) (r : Fin 512) (j : Fin 2048) :
    ((dats m 0 c).arrAt 14 cfg0.N : S32768x2048.Idx → Elt Ideal _) (ix2 (row t r) j) = out0_14 (iblk m c 0 t) (iblk m c 1 t) (iblk m c 2 t) (iblk m c 3 t) (iblk m c 4 t) (iblk m c 5 t) (iblk m c 6 t) (iblk m c 7 t) (ix2 r j) := by
  obtain ⟨e0, e1⟩ := idx14 t
  have h := congrFun ((Value.blocks14 m c t (fl14 t)).trans (Value.flushed14 m c t)) (ix2 r j)
  have e : (win0_14.blk t).view.emb (ix2 r j) = (ix2 (row t r) j : S32768x2048.Idx) := by
    funext x
    apply Fin.ext
    match x with
    | ⟨0, _⟩ => show win0_14.index t (0 : Fin 2) * 512 + 1 * r.val = _; rw [e0]; show t.val * 512 + 1 * r.val = 512 * t.val + r.val; omega
    | ⟨1, _⟩ => show win0_14.index t (1 : Fin 2) * 2048 + 1 * j.val = _; rw [e1]; show 0 * 2048 + 1 * j.val = j.val; omega
  rw [← e]
  exact h

end Cert.Kernel2Ideal.Blk
-- ==== Proof.PArr.lean ====
module

public import proofs.«01_k».proof.Proof.PBlk

@[expose] public section

set_option maxRecDepth 16384

noncomputable section

open Idealize.ShloMosaic Idealize.ShloMosaic.TcCoe Idealize.SL.Sem
/-! # The seven arrays that the projection kernel leaves, element by element -/

namespace Cert.Kernel2Ideal.Blk
open Cert.Kernel2Ideal Cert.Kernel2Ideal.Gen Cert.Kernel2Ideal.Host Cert.Kernel2Ideal.Pay

variable (m : (ℓ : Loc nD τ sig) → Buf (Elt Ideal) ℓ)

/-! ## The loads of the body -/

theorem ld0 (x : Vec Ideal S512x1024 .f32) (i : Fin 512) (j : Fin 1024) : View.ld x r0_0 (ix2 i j) = x (ix2 i j) :=
  View.ld_unit_apply_of _ _ _ _ _ _ fun a => by
    match a with
    | ⟨0, _⟩ => exact (Nat.zero_add _).symm
    | ⟨1, _⟩ => exact (Nat.zero_add _).symm
theorem ld1 (x : Vec Ideal S1920x1024 .bf16) (i : Fin 512) (j : Fin 1024) : View.ld x r0_1 (ix2 i j) = x (ix2 ⟨0 + i.val, by omega⟩ j) :=
  View.ld_unit_apply_of _ _ _ _ _ _ fun a => by
    match a with
    | ⟨0, _⟩ => rfl
    | ⟨1, _⟩ => exact (Nat.zero_add _).symm
theorem ld2 (x : Vec Ideal S1920x1024 .bf16) (i : Fin 1024) (j : Fin 1024) : View.ld x r0_2 (ix2 i j) = x (ix2 ⟨512 + i.val, by omega⟩ j) :=
  View.ld_unit_apply_of _ _ _ _ _ _ fun a => by
    match a with
    | ⟨0, _⟩ => rfl
    | ⟨1, _⟩ => exact (Nat.zero_add _).symm
theorem ld4 (x : Vec Ideal S1920x1024 .bf16) (i : Fin 128) (j : Fin 1024) : View.ld x r0_4 (ix2 i j) = x (ix2 ⟨1536 + i.val, by omega⟩ j) :=
  View.ld_unit_apply_of _ _ _ _ _ _ fun a => by
    match a with
    | ⟨0, _⟩ => rfl
    | ⟨1, _⟩ => exact (Nat.zero_add _).symm
theorem ld6 (x : Vec Ideal S1920x1024 .bf16) (i : Fin 256) (j : Fin 1024) : View.ld x r0_6 (ix2 i j) = x (ix2 ⟨1664 + i.val, by omega⟩ j) :=
  View.ld_unit_apply_of _ _ _ _ _ _ fun a => by
    match a with
    | ⟨0, _⟩ => rfl
    | ⟨1, _⟩ => exact (Nat.zero_add _).symm
theorem ld9 (x : Vec Ideal S2048x512 .bf16) (i : Fin 2048) (j : Fin 512) : View.ld x r0_9 (ix2 i j) = x (ix2 i j) :=
  View.ld_unit_apply_of _ _ _ _ _ _ fun a => by
    match a with
    | ⟨0, _⟩ => exact (Nat.zero_add _).symm
    | ⟨1, _⟩ => exact (Nat.zero_add _).symm
theorem ld10 (x : Vec Ideal S1024x2432 .bf16) (i : Fin 1024) (j : Fin 256) : View.ld x r0_10 (ix2 i j) = x (ix2 i ⟨0 + j.val, by omega⟩) :=
  View.ld_unit_apply_of _ _ _ _ _ _ fun a => by
    match a with
    | ⟨0, _⟩ => exact (Nat.zero_add _).symm
    | ⟨1, _⟩ => rfl
theorem ld13 (x : Vec Ideal S1024x2432 .bf16) (i : Fin 1024) (j : Fin 128) : View.ld x r0_13 (ix2 i j) = x (ix2 i ⟨256 + j.val, by omega⟩) :=
  View.ld_unit_apply_of _ _ _ _ _ _ fun a => by
    match a with
    | ⟨0, _⟩ => exact (Nat.zero_add _).symm
    | ⟨1, _⟩ => rfl
theorem ld16 (x : Vec Ideal S1024x2432 .bf16) (i : Fin 1024) (j : Fin 2048) : View.ld x r0_16 (ix2 i j) = x (ix2 i ⟨384 + j.val, by omega⟩) :=
  View.ld_unit_apply_of _ _ _ _ _ _ fun a => by
    match a with
    | ⟨0, _⟩ => exact (Nat.zero_add _).symm
    | ⟨1, _⟩ => rfl
theorem ld11 (x : Vec Ideal S1x256 .f32) (i : Fin 1) (j : Fin 256) : View.ld x r0_11 (ix2 i j) = x (ix2 i j) :=
  View.ld_unit_apply_of _ _ _ _ _ _ fun a => by
    match a with
    | ⟨0, _⟩ => exact (Nat.zero_add _).symm
    | ⟨1, _⟩ => exact (Nat.zero_add _).symm
theorem ld7 (x : Vec Ideal S256x1 .f32) (i : Fin 256) (j : Fin 1) : View.ld x r0_7 (ix2 i j) = x (ix2 i j) :=
  View.ld_unit_apply_of _ _ _ _ _ _ fun a => by
    match a with
    | ⟨0, _⟩ => exact (Nat.zero_add _).symm
    | ⟨1, _⟩ => exact (Nat.zero_add _).symm
theorem ld14 (x : Vec Ideal S1x128 .f32) (i : Fin 1) (j : Fin 128) : View.ld x r0_14 (ix2 i j) = x (ix2 i j) :=
  View.ld_unit_apply_of _ _ _ _ _ _ fun a => by
    match a with
    | ⟨0, _⟩ => exact (Nat.zero_add _).symm
    | ⟨1, _⟩ => exact (Nat.zero_add _).symm

/-! ## The products -/

theorem nt_proj {n : ℕ} (c : Dev nD) (t : Fin cfg0.N) (w : Vec Ideal (⟨2, ![n, 1024]⟩ : Shape) .bf16) (i : Fin n) (r : Fin 512) (j : ℕ)
    (h : ∀ k : Fin 1024, w (ix2 i k) = Inp.colW (argW m c) k j) :
    nt w (View.ld (iblk m c 0 t : Vec Ideal S512x1024 .f32) r0_0) i r = Inp.proj (argX m c) (argW m c) (row t r) j := by
  unfold nt Inp.proj
  refine Finset.sum_congr rfl fun k _ => ?_
  rw [h, ld0, b0, mul_comm]

theorem nt_zero {n : ℕ} (x : Vec Ideal S512x1024 .f32) (w : Vec Ideal (⟨2, ![n, 1024]⟩ : Shape) .bf16) (i : Fin n) (r : Fin 512)
    (h : ∀ k : Fin 1024, w (ix2 i k) = 0) : nt w x i r = 0 := by
  unfold nt
  refine Finset.sum_eq_zero fun k _ => ?_
  rw [h, zero_mul]

/-- The block's rows, as the later statements read them. -/
abbrev xb (c : Dev nD) (t : Fin cfg0.N) : FVec Ideal S512x1024 .bf16 := k0_pay1 (View.ld (iblk m c 0 t : Vec Ideal S512x1024 .f32) r0_0)

theorem nn_proj {n : ℕ} (c : Dev nD) (t : Fin cfg0.N) (w : Vec Ideal (⟨2, ![1024, n]⟩ : Shape) .bf16) (i : Fin n) (r : Fin 512) (j : ℕ)
    (h : ∀ k : Fin 1024, w (ix2 k i) = Inp.colW (argW m c) k j) :
    nn (xb m c t) w r i = Inp.proj (argX m c) (argW m c) (row t r) j := by
  unfold nn Inp.proj
  refine Finset.sum_congr rfl fun k _ => ?_
  rw [h]
  exact congrArg (· * Inp.colW (argW m c) k j) ((pay1_at _ r k).trans ((ld0 _ r k).trans (b0 m c t r k)))

theorem off0 : (![0, 0] : Fin 2 → ℕ) = fun _ => 0 := by
  funext a
  match a with
  | ⟨0, _⟩ => rfl
  | ⟨1, _⟩ => rfl

/-- The norm's formula takes equal rows to equal results. -/
theorem norm_congr (f g : Fin 256 → EReal) (a b : EReal) (j : Fin 256) (h : ∀ i, f i = g i) (hab : a = b) :
    f j * Ideal.rsqrt (Ideal.div (∑ i : Fin 256, f i * f i) (Scalar.ofBits (F := Ideal) .f32 0x43800000#32) + Scalar.ofBits (F := Ideal) .f32 0x358637BD#32) * a
      = g j * Ideal.rsqrt (Ideal.div (∑ i : Fin 256, g i * g i) (Scalar.ofBits (F := Ideal) .f32 0x43800000#32) + Scalar.ofBits (F := Ideal) .f32 0x358637BD#32) * b := by
  rw [show f = g from funext h, hab]

variable (c : Dev nD) (t : Fin cfg0.N) (r : Fin 512)

/-! ## What each grid point writes -/

theorem o14 (j : Fin 2048) : out0_14 (iblk m c 0 t) (iblk m c 1 t) (iblk m c 2 t) (iblk m c 3 t) (iblk m c 4 t) (iblk m c 5 t) (iblk m c 6 t) (iblk m c 7 t) (ix2 r j) = Inp.proj (argX m c) (argW m c) (row t r) (1352 + j.val) := by
  unfold_out out0_14
  rw [View.canon_unit_zero off0]
  refine (pay11_at _ _ r j).trans (nn_proj m c t _ j r _ fun k => ?_)
  rw [ld16, b1, wn_hg, mat_at]

theorem o11 (j : Fin 256) : out0_11 (iblk m c 0 t) (iblk m c 1 t) (iblk m c 2 t) (iblk m c 3 t) (iblk m c 4 t) (iblk m c 5 t) (iblk m c 6 t) (iblk m c 7 t) (ix2 r j) = Inp.lat (argX m c) (argW m c) (argG m c) (row t r) j := by
  unfold_out out0_11
  rw [View.canon_unit_zero off0]
  refine (pay8_at _ _ _ r j).trans ?_
  have h : ∀ i : Fin 256, nn (xb m c t) (View.ld (iblk m c 1 t : Vec Ideal S1024x2432 .bf16) r0_10) r i = Inp.proj (argX m c) (argW m c) (row t r) (512 + i.val) := fun i =>
    nn_proj m c t _ i r _ fun k => by rw [ld10, b1, wn_lat, mat_at]
  exact norm_congr _ _ _ _ j h ((ld11 _ 0 j).trans ((b4 m c t 0 j).trans (g1_at _ j)))

/-- The latents of one block, one to a column, from the blocks' elements. -/
theorem out12_at (x0 : Vec Ideal S512x1024 .f32) (x1 : Vec Ideal S1024x2432 .bf16) (x2 : Vec Ideal S1920x1024 .bf16) (x3 : Vec Ideal S2048x512 .bf16)
    (x4 : Vec Ideal S1x256 .f32) (x5 : Vec Ideal S256x1 .f32) (x6 x7 : Vec Ideal S1x128 .f32) (r : Fin 512) (j : Fin 256)
    (y g : Fin 256 → EReal) (hy : ∀ i : Fin 256, (∑ k : Fin 1024, x2 (ix2 ⟨1664 + i.val, by omega⟩ k) * x0 (ix2 r k)) = y i) (hg : ∀ i : Fin 256, x5 (ix2 i 0) = g i) :
    out0_12 x0 x1 x2 x3 x4 x5 x6 x7 (ix2 j r) =
      y j * Ideal.rsqrt (Ideal.div (∑ i : Fin 256, y i * y i) (Scalar.ofBits (F := Ideal) .f32 0x43800000#32) + Scalar.ofBits (F := Ideal) .f32 0x358637BD#32) * g j := by
  unfold_out out0_12
  rw [View.canon_unit_zero off0, pay6_at, pay5_at, ld7, hg]
  have h : ∀ i : Fin 256, nt (View.ld x2 r0_6) (View.ld x0 r0_0) i r = y i := fun i => by
    rw [← hy i]
    unfold nt
    refine Finset.sum_congr rfl fun k _ => ?_
    rw [ld6, ld0]
  have hs : (∑ i : Fin 256, nt (View.ld x2 r0_6) (View.ld x0 r0_0) i r * nt (View.ld x2 r0_6) (View.ld x0 r0_0) i r) = ∑ i : Fin 256, y i * y i :=
    Finset.sum_congr rfl fun i _ => by rw [h i]
  rw [h j, hs]

theorem proj_rows (x0 : Vec Ideal S512x1024 .f32) (x2 : Vec Ideal S1920x1024 .bf16) (a : Fin 1920) (j : ℕ)
    (h0 : ∀ k : Fin 1024, x0 (ix2 r k) = argX m c (row t r) k) (h2 : ∀ k : Fin 1024, x2 (ix2 a k) = Inp.colW (argW m c) k j) :
    (∑ k : Fin 1024, x2 (ix2 a k) * x0 (ix2 r k)) = Inp.proj (argX m c) (argW m c) (row t r) j := by
  unfold Inp.proj
  refine Finset.sum_congr rfl fun k _ => ?_
  rw [h0, h2, mul_comm]

theorem o12 (j : Fin 256) : out0_12 (iblk m c 0 t) (iblk m c 1 t) (iblk m c 2 t) (iblk m c 3 t) (iblk m c 4 t) (iblk m c 5 t) (iblk m c 6 t) (iblk m c 7 t) (ix2 j r) = Inp.lat (argX m c) (argW m c) (argG m c) (row t r) j :=
  out12_at _ _ _ _ _ _ _ _ r j (fun i => Inp.proj (argX m c) (argW m c) (row t r) (512 + i.val)) (argG m c)
    (fun i => proj_rows m c t r (iblk m c 0 t) (iblk m c 2 t) ⟨1664 + i.val, by omega⟩ (512 + i.val) (b0 m c t r) fun k =>
      (b2 m c t _ k).trans ((wt_lat (mat m c) k i).trans (mat_at m c k _ _)))
    (fun i => (b5 m c t i 0).trans (g2_at _ i))

theorem o10 (l : Fin 128) : out0_10 (iblk m c 0 t) (iblk m c 1 t) (iblk m c 2 t) (iblk m c 3 t) (iblk m c 4 t) (iblk m c 5 t) (iblk m c 6 t) (iblk m c 7 t) (ix2 l r) = Inp.ikw (argX m c) (argW m c) (row t r) l.val := by
  unfold_out out0_10
  rw [View.canon_unit_zero off0]
  refine (pay4_at _ _ l r).trans ?_
  have w : ∀ k : Fin 1024, View.ld (iblk m c 2 t : Vec Ideal S1920x1024 .bf16) r0_4 (ix2 l k) = ikw (mat m c) (ix2 k l) := fun k => by rw [ld4, b2, wt_ikw]
  unfold Inp.ikw
  by_cases h : l.val < 72
  · rw [if_pos h]
    exact congrArg (· * _) (nt_proj m c t _ l r (1280 + l.val) fun k => (w k).trans (by rw [ikw_at, dif_pos h, mat_at]))
  · rw [if_neg h]
    exact (congrArg (· * _) (nt_zero _ _ l r fun k => (w k).trans (by rw [ikw_at, dif_neg h]))).trans (zero_mul _)

theorem o9 (j : Fin 1024) : out0_9 (iblk m c 0 t) (iblk m c 1 t) (iblk m c 2 t) (iblk m c 3 t) (iblk m c 4 t) (iblk m c 5 t) (iblk m c 6 t) (iblk m c 7 t) (ix2 j r) = Inp.iq (argX m c) (argW m c) (row t r) (j.val / 128) (j.val % 128) := by
  unfold_out out0_9
  rw [View.canon_unit_zero off0]
  refine (pay3_at _ _ j r).trans ?_
  have w : ∀ k : Fin 1024, View.ld (iblk m c 2 t : Vec Ideal S1920x1024 .bf16) r0_2 (ix2 j k) = iqw (mat m c) (ix2 k j) := fun k => by rw [ld2, b2, wt_iq]
  unfold Inp.iq
  by_cases h : j.val % 128 < 64
  · rw [if_pos h]
    exact congrArg (· * _) (nt_proj m c t _ j r (768 + 64 * (j.val / 128) + j.val % 128) fun k => (w k).trans (by rw [iqw_at, dif_pos h, mat_at]))
  · rw [if_neg h]
    exact (congrArg (· * _) (nt_zero _ _ j r fun k => (w k).trans (by rw [iqw_at, dif_neg h]))).trans (zero_mul _)

theorem o13 (l : Fin 128) : out0_13 (iblk m c 0 t) (iblk m c 1 t) (iblk m c 2 t) (iblk m c 3 t) (iblk m c 4 t) (iblk m c 5 t) (iblk m c 6 t) (iblk m c 7 t) (ix2 r l) = Inp.ikl (argX m c) (argW m c) (argI m c) (argB m c) (row t r) l := by
  unfold_out out0_13
  rw [View.canon_unit_zero off0]
  refine (pay10_at _ _ _ r (fun i => Inp.proj (argX m c) (argW m c) (row t r) (1280 + i.val)) (fun i => ?_) l).trans ?_
  · refine (pay9_at _ _ r _).trans (nn_proj m c t _ _ r _ fun k => ?_)
    rw [ld13, b1, wn_ikw, ikw_at, dif_pos (by show i.val < 72; omega), mat_at]
  · rw [ld14, ld14, b6, b7, lanes_at, lanes_at]
    unfold Inp.ikl
    by_cases h : l.val < 64
    · rw [dif_pos h, dif_pos h, dif_pos h, dif_pos h]
      rfl
    · rw [dif_neg h, dif_neg h, dif_neg h, zero_add]

/-- The absorbed queries of one block, from the blocks' elements. -/
theorem out8_at (x0 : Vec Ideal S512x1024 .f32) (x1 : Vec Ideal S1024x2432 .bf16) (x2 : Vec Ideal S1920x1024 .bf16) (x3 : Vec Ideal S2048x512 .bf16)
    (x4 : Vec Ideal S1x256 .f32) (x5 : Vec Ideal S256x1 .f32) (x6 x7 : Vec Ideal S1x128 .f32) (r : Fin 512) (p : Fin 2048)
    (y u : Fin 512 → EReal) (h : Fin 8) (hy : ∀ q : Fin 512, (∑ k : Fin 1024, x2 (ix2 ⟨0 + q.val, by omega⟩ k) * x0 (ix2 r k)) = y q)
    (hu : ∀ q : Fin 512, x3 (ix2 p q) = u q * (if q.val / 64 = h.val then 1 else 0)) :
    out0_8 x0 x1 x2 x3 x4 x5 x6 x7 (ix2 p r) =
      (∑ d : Fin 64, u ⟨64 * h.val + d.val, by omega⟩ * y ⟨64 * h.val + d.val, by omega⟩) * Scalar.ofBits (F := Ideal) .f32 0x3E38AA3B#32 := by
  unfold_out out0_8
  rw [View.canon_unit_zero off0, pay7_at, ← Inp.sum_head (fun q => u q * y q) h]
  congr 1
  refine Finset.sum_congr rfl fun q _ => ?_
  have hq : nt (View.ld x2 r0_1) (View.ld x0 r0_0) q r = y q := by
    rw [← hy q]
    unfold nt
    refine Finset.sum_congr rfl fun k _ => ?_
    rw [ld1, ld0]
  rw [ld9, hu, pay2_at, hq]
  by_cases e : q.val / 64 = h.val
  · rw [if_pos e, if_pos e, mul_one]
  · rw [if_neg e, if_neg e, mul_zero, zero_mul]

theorem wuk_head (p : Fin 2048) (q : Fin 512) : iblk m c 3 t (ix2 p q) =
    argU m c ⟨p.val % 256, by omega⟩ ⟨p.val / 256, by omega⟩ ⟨q.val % 64, by omega⟩ * (if q.val / 64 = (⟨p.val / 256, by omega⟩ : Fin 8).val then 1 else 0) := by
  refine (b3 m c t p q).trans ((wuk_at _ p q).trans (congrArg₂ (fun a b : EReal => a * b) (u_at _ _ _ _) ((eye_at _ _).trans ?_)))
  by_cases e : q.val / 64 = p.val / 256
  · rw [if_pos (Fin.ext e.symm), if_pos e]
  · rw [if_neg (fun x => e (congrArg Fin.val x).symm), if_neg e]

theorem o8 (p : Fin 2048) : out0_8 (iblk m c 0 t) (iblk m c 1 t) (iblk m c 2 t) (iblk m c 3 t) (iblk m c 4 t) (iblk m c 5 t) (iblk m c 6 t) (iblk m c 7 t) (ix2 p r) = Inp.qt (argX m c) (argW m c) (argU m c) (row t r) ⟨p.val / 256, by omega⟩ ⟨p.val % 256, by omega⟩ := by
  refine (out8_at _ _ _ _ _ _ _ _ r p (fun q => Inp.proj (argX m c) (argW m c) (row t r) q.val)
    (fun q => argU m c ⟨p.val % 256, by omega⟩ ⟨p.val / 256, by omega⟩ ⟨q.val % 64, by omega⟩) ⟨p.val / 256, by omega⟩
    (fun q => proj_rows m c t r (iblk m c 0 t) (iblk m c 2 t) ⟨0 + q.val, by omega⟩ q.val (b0 m c t r) fun k =>
      (b2 m c t _ k).trans ((wt_q (mat m c) k q).trans ((mat_at m c k _ _).trans (by rw [Nat.zero_add]))))
    (wuk_head m c t p)).trans ?_
  unfold Inp.qt
  rw [mul_assoc, Inp.scale_mul]
  congr 1
  unfold Inp.qlat
  refine Finset.sum_congr rfl fun d _ => ?_
  have e : (⟨(64 * (p.val / 256) + d.val) % 64, by omega⟩ : Fin 64) = d := Fin.ext (by show (64 * (p.val / 256) + d.val) % 64 = d.val; omega)
  show argU m c _ _ ⟨(64 * (p.val / 256) + d.val) % 64, _⟩ * _ = _
  rw [e]

/-! ## The arrays -/

theorem row_surj (R : Fin 32768) : ∃ (t : Fin cfg0.N) (r : Fin 512), R = row t r :=
  ⟨⟨R.val / 512, lt_of_lt_of_eq (by omega) N_0.symm⟩, ⟨R.val % 512, by omega⟩, Fin.ext (by show R.val = 512 * (R.val / 512) + R.val % 512; omega)⟩

/-- The absorbed queries, one to a column. -/
theorem res8 (p : Fin 2048) (R : Fin 32768) : ((dats m 0 c).arrAt 8 cfg0.N : S2048x32768.Idx → Elt Ideal _) (ix2 p R) = Inp.qt (argX m c) (argW m c) (argU m c) R ⟨p.val / 256, by omega⟩ ⟨p.val % 256, by omega⟩ := by
  obtain ⟨t, r, rfl⟩ := row_surj R
  exact (arr8 m c t r p).trans (o8 m c t r p)

/-- The index queries, one to a column. -/
theorem res9 (p : Fin 1024) (R : Fin 32768) : ((dats m 0 c).arrAt 9 cfg0.N : S1024x32768.Idx → Elt Ideal _) (ix2 p R) = Inp.iq (argX m c) (argW m c) R (p.val / 128) (p.val % 128) := by
  obtain ⟨t, r, rfl⟩ := row_surj R
  exact (arr9 m c t r p).trans (o9 m c t r p)

/-- The index keys and head weights, scaled, one to a column. -/
theorem res10 (p : Fin 128) (R : Fin 32768) : ((dats m 0 c).arrAt 10 cfg0.N : S128x32768.Idx → Elt Ideal _) (ix2 p R) = Inp.ikw (argX m c) (argW m c) R p.val := by
  obtain ⟨t, r, rfl⟩ := row_surj R
  exact (arr10 m c t r p).trans (o10 m c t r p)

/-- The latents, one to a row. -/
theorem res11 (p : Fin 256) (R : Fin 32768) : ((dats m 0 c).arrAt 11 cfg0.N : S32768x256.Idx → Elt Ideal _) (ix2 R p) = Inp.lat (argX m c) (argW m c) (argG m c) R p := by
  obtain ⟨t, r, rfl⟩ := row_surj R
  exact (arr11 m c t r p).trans (o11 m c t r p)

/-- The latents, one to a column. -/
theorem res12 (p : Fin 256) (R : Fin 32768) : ((dats m 0 c).arrAt 12 cfg0.N : S256x32768.Idx → Elt Ideal _) (ix2 p R) = Inp.lat (argX m c) (argW m c) (argG m c) R p := by
  obtain ⟨t, r, rfl⟩ := row_surj R
  exact (arr12 m c t r p).trans (o12 m c t r p)

/-- The index keys' layer norms, one to a row. -/
theorem res13 (p : Fin 128) (R : Fin 32768) : ((dats m 0 c).arrAt 13 cfg0.N : S32768x128.Idx → Elt Ideal _) (ix2 R p) = Inp.ikl (argX m c) (argW m c) (argI m c) (argB m c) R p := by
  obtain ⟨t, r, rfl⟩ := row_surj R
  exact (arr13 m c t r p).trans (o13 m c t r p)

/-- The recurrence's inputs, one to a row. -/
theorem res14 (p : Fin 2048) (R : Fin 32768) : ((dats m 0 c).arrAt 14 cfg0.N : S32768x2048.Idx → Elt Ideal _) (ix2 R p) = Inp.proj (argX m c) (argW m c) R (1352 + p.val) := by
  obtain ⟨t, r, rfl⟩ := row_surj R
  exact (arr14 m c t r p).trans (o14 m c t r p)

end Cert.Kernel2Ideal.Blk
-- ==== Proof.PRef.lean ====
module

public import proofs.«01_k».proof.Proof.PSpec
public import proofs.«01_k».proof.Proof.Gen.Reference2Ideal.Run
public import Idealize.ShloMosaic.Lib.Quiescent

@[expose] public section

set_option maxRecDepth 16384

noncomputable section

open Idealize.ShloMosaic Idealize.ShloMosaic.TcCoe Idealize.SL.Sem
/-! # What the input projection's reference computes -/

namespace Cert.Reference2Ideal.Ref
open Cert.Reference2Ideal Cert.Reference2Ideal.Gen Cert.Reference2Ideal.Value Idealize.ShloMosaic.StableHlo

/-! ## The stages -/

/-- The projection. -/
def hh (x : FVec Ideal S8x4096x1024 .f32) (w : FVec Ideal S1x1024x3400 .f32) : FVec Ideal S8x4096x3400 .f32 :=
  Host.dotGeneral dot_S8x4096x1024_S1024x3400_S8x4096x3400_2_0_01_1_n_n none x (shapeCast _ w shapeCasts_S1x1024x3400_S1024x3400)

/-- The latent's part. -/
def cc (h : FVec Ideal S8x4096x3400 .f32) : FVec Ideal S8x4096x256 .f32 := extractStridedSlice S8x4096x256 ![0, 0, 512] h slices_S8x4096x3400_S8x4096x256_0_0_512
/-- The index key's part. -/
def kk (h : FVec Ideal S8x4096x3400 .f32) : FVec Ideal S8x4096x64 .f32 := extractStridedSlice S8x4096x64 ![0, 0, 1280] h slices_S8x4096x3400_S8x4096x64_0_0_1280

/-- The absorbed queries. -/
def qabs (h : FVec Ideal S8x4096x3400 .f32) (u : FVec Ideal S1x256x8x64 .f32) : FVec Ideal S8x4096x8x256 .f32 :=
  transpose S8x4096x8x256 [2, 3, 0, 1] (Host.dotGeneral dot_S256x8x64_S8x4096x8x64_S8x256x8x4096_2_3_0_01_1_2 none (shapeCast _ u shapeCasts_S1x256x8x64_S256x8x64) (shapeCast _ (extractStridedSlice S8x4096x512 ![0, 0, 0] h slices_S8x4096x3400_S8x4096x512_0_0_0) shapeCasts_S8x4096x512_S8x4096x8x64)) transposes_S8x256x8x4096_S8x4096x8x256_2_3_0_1

def r67 (h : FVec Ideal S8x4096x3400 .f32) (u : FVec Ideal S1x256x8x64 .f32) : FVec Ideal S2048x32768 .bf16 :=
  truncf .bf16 (transpose S2048x32768 [1, 0] (shapeCast _ (mulf (mulf (qabs h u) (broadcastInDim S8x4096x8x256 ![] bcast_S_S8x4096x8x256 (constant S_ .f32 0x3E000000#32))) (broadcastInDim S8x4096x8x256 ![] bcast_S_S8x4096x8x256 (constant S_ .f32 0x3FB8AA3B#32))) shapeCasts_S8x4096x8x256_S32768x2048) transposes_S32768x2048_S2048x32768_1_0) bitsLt_bf16_f32

def qidx (h : FVec Ideal S8x4096x3400 .f32) : FVec Ideal S8x4096x8x64 .f32 :=
  mulf (shapeCast _ (extractStridedSlice S8x4096x512 ![0, 0, 768] h slices_S8x4096x3400_S8x4096x512_0_0_768) shapeCasts_S8x4096x512_S8x4096x8x64) (broadcastInDim S8x4096x8x64 ![] bcast_S_S8x4096x8x64 (constant S_ .f32 0x3E000000#32))

def pad4 (y : FVec Ideal S8x4096x8x64 .f32) : FVec Ideal S8x4096x8x128 .f32 :=
  pad S8x4096x8x128 ![0, 0, 0, 0] ![0, 0, 0, 64] ![0, 0, 0, 0] y (sitofp .f32 (constantI S_ 32 0#32)) pads_S8x4096x8x64_S8x4096x8x128_000_000_000_0640 h_S_

def r71 (h : FVec Ideal S8x4096x3400 .f32) : FVec Ideal S1024x32768 .bf16 :=
  truncf .bf16 (transpose S1024x32768 [1, 0] (shapeCast _ (pad4 (qidx h)) shapeCasts_S8x4096x8x128_S32768x1024) transposes_S32768x1024_S1024x32768_1_0) bitsLt_bf16_f32

def ww (h : FVec Ideal S8x4096x3400 .f32) : FVec Ideal S8x4096x8 .f32 := extractStridedSlice S8x4096x8 ![0, 0, 1344] h slices_S8x4096x3400_S8x4096x8_0_0_1344

def kwcat (h : FVec Ideal S8x4096x3400 .f32) : FVec Ideal S8x4096x72 .f32 :=
  concatenate S8x4096x72 2 [⟨S8x4096x64, kk h⟩, ⟨S8x4096x8, ww h⟩] concatenates_S8x4096x64_S8x4096x8_S8x4096x72_d2

def pad72 (y : FVec Ideal S8x4096x72 .f32) : FVec Ideal S8x4096x128 .f32 :=
  pad S8x4096x128 ![0, 0, 0] ![0, 0, 56] ![0, 0, 0] y (sitofp .f32 (constantI S_ 32 0#32)) pads_S8x4096x72_S8x4096x128_000_000_0560 h_S_

def r74 (h : FVec Ideal S8x4096x3400 .f32) : FVec Ideal S128x32768 .f32 :=
  transpose S128x32768 [1, 0] (shapeCast _ (pad72 (mulf (kwcat h) (broadcastInDim S8x4096x72 ![] bcast_S_S8x4096x72 (constant S_ .f32 0x3EB504F3#32)))) shapeCasts_S8x4096x128_S32768x128) transposes_S32768x128_S128x32768_1_0

/-- The normalised latent. -/
def rms (y : FVec Ideal S8x4096x256 .f32) (g : FVec Ideal S1x256 .f32) : FVec Ideal S8x4096x256 .f32 :=
  mulf (mulf y (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf y y) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32)))))) (broadcastInDim S8x4096x256 ![0, 1, 2] bcast_S1x1x256_S8x4096x256_0_1_2 (broadcastInDim S1x1x256 ![2] bcast_S256_S1x1x256_2 (shapeCast _ g shapeCasts_S1x256_S256)))

def r76 (h : FVec Ideal S8x4096x3400 .f32) (g : FVec Ideal S1x256 .f32) : FVec Ideal S32768x256 .bf16 :=
  truncf .bf16 (shapeCast _ (rms (cc h) g) shapeCasts_S8x4096x256_S32768x256) bitsLt_bf16_f32

def r79 (h : FVec Ideal S8x4096x3400 .f32) (g : FVec Ideal S1x256 .f32) : FVec Ideal S256x32768 .bf16 :=
  truncf .bf16 (transpose S256x32768 [1, 0] (shapeCast _ (rms (cc h) g) shapeCasts_S8x4096x256_S32768x256) transposes_S32768x256_S256x32768_1_0) bitsLt_bf16_f32

/-- The mean over the index key's 64 channels. -/
def mean64 (y : FVec Ideal S8x4096x64 .f32) : FVec Ideal S8x4096x1 .f32 :=
  Host.divf (broadcastInDim S8x4096x1 ![0, 1] bcast_S8x4096_S8x4096x1_0_1 (Host.reduceAdd y (constant S_ .f32 0x00000000#32) reducesTo_S8x4096x64_S8x4096_d2 h_S_)) (broadcastInDim S8x4096x1 ![] bcast_S_S8x4096x1 (constant S_ .f32 0x42800000#32))

/-- The index key less its mean. -/
def cent (y : FVec Ideal S8x4096x64 .f32) : FVec Ideal S8x4096x64 .f32 :=
  subf y (broadcastInDim S8x4096x64 ![0, 1, 2] bcast_S8x4096x1_S8x4096x64_0_1_2 (mean64 y))

/-- A row of 64 on every token. -/
def spread (g : FVec Ideal S1x64 .f32) : FVec Ideal S8x4096x64 .f32 :=
  broadcastInDim S8x4096x64 ![0, 1, 2] bcast_S1x1x64_S8x4096x64_0_1_2 (broadcastInDim S1x1x64 ![2] bcast_S64_S1x1x64_2 (shapeCast _ g shapeCasts_S1x64_S64))

/-- The layer norm of a centred index key. -/
def norm (z : FVec Ideal S8x4096x64 .f32) (g b : FVec Ideal S1x64 .f32) : FVec Ideal S8x4096x64 .f32 :=
  addf (mulf (mulf z (broadcastInDim S8x4096x64 ![0, 1, 2] bcast_S8x4096x1_S8x4096x64_0_1_2 (Host.rsqrt (addf (mean64 (mulf z z)) (broadcastInDim S8x4096x1 ![] bcast_S_S8x4096x1 (constant S_ .f32 0x3727C5AC#32)))))) (spread g)) (spread b)

def pad64 (y : FVec Ideal S8x4096x64 .f32) : FVec Ideal S8x4096x128 .f32 :=
  pad S8x4096x128 ![0, 0, 0] ![0, 0, 64] ![0, 0, 0] y (sitofp .f32 (constantI S_ 32 0#32)) pads_S8x4096x64_S8x4096x128_000_000_0640 h_S_

def r82 (h : FVec Ideal S8x4096x3400 .f32) (g b : FVec Ideal S1x64 .f32) : FVec Ideal S32768x128 .bf16 :=
  truncf .bf16 (shapeCast _ (pad64 (norm (cent (kk h)) g b)) shapeCasts_S8x4096x128_S32768x128) bitsLt_bf16_f32

/-- The gated recurrence's four parts. -/
def gcat (h : FVec Ideal S8x4096x3400 .f32) : FVec Ideal S8x4096x2048 .f32 :=
  concatenate S8x4096x2048 2 [⟨S8x4096x512, extractStridedSlice S8x4096x512 ![0, 0, 1352] h slices_S8x4096x3400_S8x4096x512_0_0_1352⟩, ⟨S8x4096x512, extractStridedSlice S8x4096x512 ![0, 0, 1864] h slices_S8x4096x3400_S8x4096x512_0_0_1864⟩, ⟨S8x4096x512, extractStridedSlice S8x4096x512 ![0, 0, 2376] h slices_S8x4096x3400_S8x4096x512_0_0_2376⟩, ⟨S8x4096x512, extractStridedSlice S8x4096x512 ![0, 0, 2888] h slices_S8x4096x3400_S8x4096x512_0_0_2888⟩] concatenates_S8x4096x512_S8x4096x512_S8x4096x512_S8x4096x512_S8x4096x2048_d2

def r84 (h : FVec Ideal S8x4096x3400 .f32) : FVec Ideal S32768x2048 .f32 := shapeCast _ (gcat h) shapeCasts_S8x4096x2048_S32768x2048

/-! ## Their elements -/

theorem hh_at (x : FVec Ideal S8x4096x1024 .f32) (w : FVec Ideal S1x1024x3400 .f32) (b : Fin 8) (t : Fin 4096) (j : Fin 3400) :
    hh x w (ix3 b t j) = ∑ k : Fin 1024, x (ix3 b t k) * w (ix3 0 k j) := by
  pointwise [hh]

theorem zero_lane (i : S_.Idx) : (sitofp .f32 (constantI S_ 32 0#32) : FVec Ideal S_ .f32) i = 0 := by
  show (((0#32 : BitVec 32).toInt : ℝ) : EReal) = 0
  norm_num

variable (h : FVec Ideal S8x4096x3400 .f32)

theorem cc_at (b : Fin 8) (t : Fin 4096) (j : Fin 256) : cc h (ix3 b t j) = h (ix3 b t ⟨512 + j.val, by omega⟩) := by
  pointwise [cc]
theorem kk_at (b : Fin 8) (t : Fin 4096) (j : Fin 64) : kk h (ix3 b t j) = h (ix3 b t ⟨1280 + j.val, by omega⟩) := by
  pointwise [kk]
theorem ww_at (b : Fin 8) (t : Fin 4096) (j : Fin 8) : ww h (ix3 b t j) = h (ix3 b t ⟨1344 + j.val, by omega⟩) := by
  pointwise [ww]

theorem qabs_at (u : FVec Ideal S1x256x8x64 .f32) (b : Fin 8) (t : Fin 4096) (n : Fin 8) (e : Fin 256) :
    qabs h u (ix4 b t n e) = ∑ d : Fin 64, u (ix4 0 e n d) * h (ix3 b t ⟨64 * n.val + d.val, by omega⟩) := by
  pointwise [qabs]
  refine Finset.sum_congr rfl fun d _ => congrArg (fun i => u (ix4 0 e n d) * h (ix3 b t i)) (Fin.ext (by show n.val * 64 + d.val = 64 * n.val + d.val; omega))

theorem r67_at (u : FVec Ideal S1x256x8x64 .f32) (p : Fin 2048) (R : Fin 32768) : r67 h u (ix2 p R) =
    qabs h u (ix4 ⟨R.val / 4096, by omega⟩ ⟨R.val % 4096, by omega⟩ ⟨p.val / 256, by omega⟩ ⟨p.val % 256, by omega⟩)
      * Scalar.ofBits (F := Ideal) .f32 0x3E000000#32 * Scalar.ofBits (F := Ideal) .f32 0x3FB8AA3B#32 := by
  unfold r67
  generalize qabs h u = y
  pointwise []

theorem qidx_at (b : Fin 8) (t : Fin 4096) (n : Fin 8) (d : Fin 64) :
    qidx h (ix4 b t n d) = h (ix3 b t ⟨768 + (64 * n.val + d.val), by omega⟩) * Scalar.ofBits (F := Ideal) .f32 0x3E000000#32 := by
  pointwise [qidx]
  exact congrArg (fun i => h (ix3 b t i) * Ideal.ofBits FTy.f32 0x3E000000#32) (Fin.ext (by show 768 + (n.val * 64 + d.val) = 768 + (64 * n.val + d.val); omega))

theorem pad4_at (y : FVec Ideal S8x4096x8x64 .f32) (b : Fin 8) (t : Fin 4096) (n : Fin 8) (l : Fin 128) :
    pad4 y (ix4 b t n l) = if h : l.val < 64 then y (ix4 b t n ⟨l.val, h⟩) else 0 := by
  have z := zero_lane (Shape.Idx.first h_S_)
  unfold pad4
  generalize (sitofp .f32 (constantI S_ 32 0#32) : FVec Ideal S_ .f32) = v at z ⊢
  by_cases e : l.val < 64
  · rw [dif_pos e]
    pointwise []
    rw [dif_pos (by omega)]
  · rw [dif_neg e, ← z]
    pointwise []
    rw [dif_neg (by omega)]

theorem r71_at (p : Fin 1024) (R : Fin 32768) : r71 h (ix2 p R) =
    pad4 (qidx h) (ix4 ⟨R.val / 4096, by omega⟩ ⟨R.val % 4096, by omega⟩ ⟨p.val / 128, by omega⟩ ⟨p.val % 128, by omega⟩) := by
  unfold r71
  generalize pad4 (qidx h) = y
  pointwise []

theorem pad72_at (y : FVec Ideal S8x4096x72 .f32) (b : Fin 8) (t : Fin 4096) (l : Fin 128) :
    pad72 y (ix3 b t l) = if h : l.val < 72 then y (ix3 b t ⟨l.val, h⟩) else 0 := by
  have z := zero_lane (Shape.Idx.first h_S_)
  unfold pad72
  generalize (sitofp .f32 (constantI S_ 32 0#32) : FVec Ideal S_ .f32) = v at z ⊢
  by_cases e : l.val < 72
  · rw [dif_pos e]
    pointwise []
    rw [dif_pos (by omega)]
  · rw [dif_neg e, ← z]
    pointwise []
    rw [dif_neg (by omega)]

theorem pad64_at (y : FVec Ideal S8x4096x64 .f32) (b : Fin 8) (t : Fin 4096) (l : Fin 128) :
    pad64 y (ix3 b t l) = if h : l.val < 64 then y (ix3 b t ⟨l.val, h⟩) else 0 := by
  have z := zero_lane (Shape.Idx.first h_S_)
  unfold pad64
  generalize (sitofp .f32 (constantI S_ 32 0#32) : FVec Ideal S_ .f32) = v at z ⊢
  by_cases e : l.val < 64
  · rw [dif_pos e]
    pointwise []
    rw [dif_pos (by omega)]
  · rw [dif_neg e, ← z]
    pointwise []
    rw [dif_neg (by omega)]

theorem kwcat_at (b : Fin 8) (t : Fin 4096) (l : Fin 72) : kwcat h (ix3 b t l) = h (ix3 b t ⟨1280 + l.val, by omega⟩) := by
  have h1 := kk_at h
  have h2 := ww_at h
  unfold kwcat
  generalize kk h = y1 at h1 ⊢
  generalize ww h = y2 at h2 ⊢
  by_cases e : l.val < 64
  · refine (?_ : _ = y1 (ix3 b t ⟨l.val, e⟩)).trans (h1 b t ⟨l.val, e⟩)
    pointwise []
    rw [dif_pos e]
  · refine (?_ : _ = y2 (ix3 b t ⟨l.val - 64, by omega⟩)).trans ((h2 b t ⟨l.val - 64, by omega⟩).trans (congrArg (fun i => h (ix3 b t i)) (Fin.ext (by show 1344 + (l.val - 64) = 1280 + l.val; omega))))
    pointwise []
    rw [dif_neg e]

theorem r74_at (p : Fin 128) (R : Fin 32768) : r74 h (ix2 p R) =
    pad72 (mulf (kwcat h) (broadcastInDim S8x4096x72 ![] bcast_S_S8x4096x72 (constant S_ .f32 0x3EB504F3#32))) (ix3 ⟨R.val / 4096, by omega⟩ ⟨R.val % 4096, by omega⟩ p) := by
  unfold r74
  generalize pad72 (mulf (kwcat h) (broadcastInDim S8x4096x72 ![] bcast_S_S8x4096x72 (constant S_ .f32 0x3EB504F3#32))) = y
  pointwise []

theorem rms_at (y : FVec Ideal S8x4096x256 .f32) (g : FVec Ideal S1x256 .f32) (b : Fin 8) (t : Fin 4096) (j : Fin 256) : rms y g (ix3 b t j) =
    y (ix3 b t j) * Ideal.rsqrt (Ideal.div (∑ i : Fin 256, y (ix3 b t i) * y (ix3 b t i)) (Scalar.ofBits (F := Ideal) .f32 0x43800000#32)
      + Scalar.ofBits (F := Ideal) .f32 0x358637BD#32) * g (ix2 0 j) := by
  pointwise [rms]

theorem r76_at (g : FVec Ideal S1x256 .f32) (R : Fin 32768) (j : Fin 256) : r76 h g (ix2 R j) =
    rms (cc h) g (ix3 ⟨R.val / 4096, by omega⟩ ⟨R.val % 4096, by omega⟩ j) := by
  unfold r76
  generalize rms (cc h) g = y
  pointwise []

theorem r79_at (g : FVec Ideal S1x256 .f32) (R : Fin 32768) (j : Fin 256) : r79 h g (ix2 j R) =
    rms (cc h) g (ix3 ⟨R.val / 4096, by omega⟩ ⟨R.val % 4096, by omega⟩ j) := by
  unfold r79
  generalize rms (cc h) g = y
  pointwise []

theorem mean64_at (y : FVec Ideal S8x4096x64 .f32) (b : Fin 8) (t : Fin 4096) :
    mean64 y (ix3 b t 0) = Ideal.div (∑ i : Fin 64, y (ix3 b t i)) (Scalar.ofBits (F := Ideal) .f32 0x42800000#32) := by
  pointwise [mean64]

theorem cent_at (y : FVec Ideal S8x4096x64 .f32) (b : Fin 8) (t : Fin 4096) (i : Fin 64) :
    cent y (ix3 b t i) = y (ix3 b t i) - mean64 y (ix3 b t 0) := by
  unfold cent
  generalize mean64 y = z
  pointwise []

theorem spread_at (g : FVec Ideal S1x64 .f32) (b : Fin 8) (t : Fin 4096) (i : Fin 64) : spread g (ix3 b t i) = g (ix2 0 i) := by
  pointwise [spread]

theorem norm_at (z : FVec Ideal S8x4096x64 .f32) (g q : FVec Ideal S1x64 .f32) (b : Fin 8) (t : Fin 4096) (i : Fin 64) : norm z g q (ix3 b t i) =
    z (ix3 b t i) * Ideal.rsqrt (mean64 (mulf z z) (ix3 b t 0) + Scalar.ofBits (F := Ideal) .f32 0x3727C5AC#32) * g (ix2 0 i) + q (ix2 0 i) := by
  have hg := spread_at g b t i
  have hq := spread_at q b t i
  rw [← hg, ← hq]
  unfold norm
  generalize spread g = g'
  generalize spread q = q'
  generalize mean64 (mulf z z) = v
  pointwise []

theorem r82_at (g q : FVec Ideal S1x64 .f32) (R : Fin 32768) (l : Fin 128) : r82 h g q (ix2 R l) =
    pad64 (norm (cent (kk h)) g q) (ix3 ⟨R.val / 4096, by omega⟩ ⟨R.val % 4096, by omega⟩ l) := by
  unfold r82
  generalize pad64 (norm (cent (kk h)) g q) = y
  pointwise []

theorem gcat_at (b : Fin 8) (t : Fin 4096) (j : Fin 2048) : gcat h (ix3 b t j) = h (ix3 b t ⟨1352 + j.val, by omega⟩) := by
  have s0 : ∀ i : Fin 512, extractStridedSlice S8x4096x512 ![0, 0, 1352] h slices_S8x4096x3400_S8x4096x512_0_0_1352 (ix3 b t i) = h (ix3 b t ⟨1352 + i.val, by omega⟩) := by
    intro i; pointwise []
  have s1 : ∀ i : Fin 512, extractStridedSlice S8x4096x512 ![0, 0, 1864] h slices_S8x4096x3400_S8x4096x512_0_0_1864 (ix3 b t i) = h (ix3 b t ⟨1864 + i.val, by omega⟩) := by
    intro i; pointwise []
  have s2 : ∀ i : Fin 512, extractStridedSlice S8x4096x512 ![0, 0, 2376] h slices_S8x4096x3400_S8x4096x512_0_0_2376 (ix3 b t i) = h (ix3 b t ⟨2376 + i.val, by omega⟩) := by
    intro i; pointwise []
  have s3 : ∀ i : Fin 512, extractStridedSlice S8x4096x512 ![0, 0, 2888] h slices_S8x4096x3400_S8x4096x512_0_0_2888 (ix3 b t i) = h (ix3 b t ⟨2888 + i.val, by omega⟩) := by
    intro i; pointwise []
  unfold gcat
  generalize extractStridedSlice S8x4096x512 ![0, 0, 1352] h slices_S8x4096x3400_S8x4096x512_0_0_1352 = y0 at s0 ⊢
  generalize extractStridedSlice S8x4096x512 ![0, 0, 1864] h slices_S8x4096x3400_S8x4096x512_0_0_1864 = y1 at s1 ⊢
  generalize extractStridedSlice S8x4096x512 ![0, 0, 2376] h slices_S8x4096x3400_S8x4096x512_0_0_2376 = y2 at s2 ⊢
  generalize extractStridedSlice S8x4096x512 ![0, 0, 2888] h slices_S8x4096x3400_S8x4096x512_0_0_2888 = y3 at s3 ⊢
  by_cases e0 : j.val < 512
  · refine (?_ : _ = y0 (ix3 b t ⟨j.val, e0⟩)).trans (s0 ⟨j.val, e0⟩)
    pointwise []
    rw [dif_pos e0]
  by_cases e1 : j.val < 1024
  · refine (?_ : _ = y1 (ix3 b t ⟨j.val - 512, by omega⟩)).trans ((s1 ⟨j.val - 512, by omega⟩).trans (congrArg (fun i => h (ix3 b t i)) (Fin.ext (by show 1864 + (j.val - 512) = 1352 + j.val; omega))))
    pointwise []
    rw [dif_neg e0, dif_pos (by omega)]
  by_cases e2 : j.val < 1536
  · refine (?_ : _ = y2 (ix3 b t ⟨j.val - 1024, by omega⟩)).trans ((s2 ⟨j.val - 1024, by omega⟩).trans (congrArg (fun i => h (ix3 b t i)) (Fin.ext (by show 2376 + (j.val - 1024) = 1352 + j.val; omega))))
    pointwise []
    rw [dif_neg e0, dif_neg (by omega), dif_pos (by omega)]
    exact congrArg (fun i => y2 (ix3 b t i)) (Fin.ext (by show j.val - 512 - 512 = j.val - 1024; omega))
  · refine (?_ : _ = y3 (ix3 b t ⟨j.val - 1536, by omega⟩)).trans ((s3 ⟨j.val - 1536, by omega⟩).trans (congrArg (fun i => h (ix3 b t i)) (Fin.ext (by show 2888 + (j.val - 1536) = 1352 + j.val; omega))))
    pointwise []
    rw [dif_neg e0, dif_neg (by omega), dif_neg (by omega)]
    exact congrArg (fun i => y3 (ix3 b t i)) (Fin.ext (by show j.val - 512 - 512 - 512 = j.val - 1536; omega))

theorem r84_at (R : Fin 32768) (j : Fin 2048) : r84 h (ix2 R j) = gcat h (ix3 ⟨R.val / 4096, by omega⟩ ⟨R.val % 4096, by omega⟩ j) := by
  unfold r84
  generalize gcat h = y
  pointwise []

/-! ## The results, as the specification states them -/

/-- The rows of an input. -/
def PX (x : FVec Ideal S8x4096x1024 .f32) : Fin 32768 → Fin 1024 → EReal := fun r k => x (ix3 ⟨r.val / 4096, by omega⟩ ⟨r.val % 4096, by omega⟩ k)
/-- The weights of a projection. -/
def PW (w : FVec Ideal S1x1024x3400 .f32) : Fin 1024 → Fin 3400 → EReal := fun k j => w (ix3 0 k j)

variable (x : FVec Ideal S8x4096x1024 .f32) (w : FVec Ideal S1x1024x3400 .f32)

theorem proj_at (R : Fin 32768) (j : ℕ) (hj : j < 3400) :
    hh x w (ix3 ⟨R.val / 4096, by omega⟩ ⟨R.val % 4096, by omega⟩ ⟨j, hj⟩) = Inp.proj (PX x) (PW w) R j := by
  rw [hh_at]
  unfold Inp.proj Inp.colW PX PW
  refine Finset.sum_congr rfl fun k _ => ?_
  have e : (⟨j % 3400, Nat.mod_lt _ (by decide)⟩ : Fin 3400) = ⟨j, hj⟩ := Fin.ext (Nat.mod_eq_of_lt hj)
  rw [e]

theorem v67 (u : FVec Ideal S1x256x8x64 .f32) (p : Fin 2048) (R : Fin 32768) : r67 (hh x w) u (ix2 p R) =
    Inp.qt (PX x) (PW w) (fun e h d => u (ix4 0 e h d)) R ⟨p.val / 256, by omega⟩ ⟨p.val % 256, by omega⟩ := by
  rw [r67_at, qabs_at]
  unfold Inp.qt Inp.qlat
  congr 2
  refine Finset.sum_congr rfl fun d _ => ?_
  rw [proj_at]

theorem v71 (p : Fin 1024) (R : Fin 32768) : r71 (hh x w) (ix2 p R) = Inp.iq (PX x) (PW w) R (p.val / 128) (p.val % 128) := by
  rw [r71_at, pad4_at]
  unfold Inp.iq
  by_cases e : p.val % 128 < 64
  · rw [dif_pos e, if_pos e, qidx_at, proj_at]
    show Inp.proj (PX x) (PW w) R (768 + (64 * (p.val / 128) + p.val % 128)) * _ = _
    rw [Nat.add_assoc]
  · rw [dif_neg e, if_neg e]

theorem v74 (p : Fin 128) (R : Fin 32768) : r74 (hh x w) (ix2 p R) = Inp.ikw (PX x) (PW w) R p.val := by
  rw [r74_at, pad72_at]
  unfold Inp.ikw
  by_cases e : p.val < 72
  · rw [dif_pos e, if_pos e, ← proj_at x w R (1280 + p.val) (by omega)]
    show kwcat (hh x w) (ix3 _ _ ⟨p.val, e⟩) * _ = _
    rw [kwcat_at]
    rfl
  · rw [dif_neg e, if_neg e]

theorem lat_at (g : FVec Ideal S1x256 .f32) (R : Fin 32768) (j : Fin 256) :
    rms (cc (hh x w)) g (ix3 ⟨R.val / 4096, by omega⟩ ⟨R.val % 4096, by omega⟩ j) = Inp.lat (PX x) (PW w) (fun j => g (ix2 0 j)) R j := by
  have e : ∀ i : Fin 256, cc (hh x w) (ix3 ⟨R.val / 4096, by omega⟩ ⟨R.val % 4096, by omega⟩ i) = Inp.proj (PX x) (PW w) R (512 + i.val) := fun i => by
    rw [cc_at, proj_at]
  rw [rms_at]
  unfold Inp.lat
  simp only [e]

theorem v76 (g : FVec Ideal S1x256 .f32) (R : Fin 32768) (j : Fin 256) : r76 (hh x w) g (ix2 R j) = Inp.lat (PX x) (PW w) (fun j => g (ix2 0 j)) R j := by
  rw [r76_at, lat_at]

theorem v79 (g : FVec Ideal S1x256 .f32) (R : Fin 32768) (j : Fin 256) : r79 (hh x w) g (ix2 j R) = Inp.lat (PX x) (PW w) (fun j => g (ix2 0 j)) R j := by
  rw [r79_at, lat_at]

theorem v82 (g q : FVec Ideal S1x64 .f32) (R : Fin 32768) (l : Fin 128) : r82 (hh x w) g q (ix2 R l) =
    Inp.ikl (PX x) (PW w) (fun j => g (ix2 0 j)) (fun j => q (ix2 0 j)) R l := by
  have e : ∀ i : Fin 64, kk (hh x w) (ix3 ⟨R.val / 4096, by omega⟩ ⟨R.val % 4096, by omega⟩ i) = Inp.proj (PX x) (PW w) R (1280 + i.val) := fun i => by
    rw [kk_at, proj_at]
  have ec : ∀ i : Fin 64, cent (kk (hh x w)) (ix3 ⟨R.val / 4096, by omega⟩ ⟨R.val % 4096, by omega⟩ i) = Inp.cen (PX x) (PW w) R i := fun i => by
    rw [cent_at, mean64_at]
    unfold Inp.cen Inp.mean
    simp only [e]
  have em : mean64 (mulf (cent (kk (hh x w))) (cent (kk (hh x w)))) (ix3 ⟨R.val / 4096, by omega⟩ ⟨R.val % 4096, by omega⟩ 0) =
      Ideal.div (∑ i : Fin 64, Inp.cen (PX x) (PW w) R i * Inp.cen (PX x) (PW w) R i) (Scalar.ofBits (F := Ideal) .f32 0x42800000#32) := by
    refine (mean64_at _ _ _).trans (congrArg (fun s => Ideal.div s (Scalar.ofBits (F := Ideal) .f32 0x42800000#32)) (Finset.sum_congr rfl fun i _ => ?_))
    exact congrArg₂ (fun a b : EReal => a * b) (ec i) (ec i)
  rw [r82_at, pad64_at]
  unfold Inp.ikl
  by_cases hl : l.val < 64
  · rw [dif_pos hl, dif_pos hl, norm_at, em, ec]
    rfl
  · rw [dif_neg hl, dif_neg hl]

theorem v84 (R : Fin 32768) (j : Fin 2048) : r84 (hh x w) (ix2 R j) = Inp.proj (PX x) (PW w) R (1352 + j.val) := by
  rw [r84_at, gcat_at, proj_at]

/-! ## The run -/

variable (m : (ℓ : Loc nD τ sig) → Buf (Elt Ideal) ℓ)

def a0 (c : Dev nD) : FVec Ideal S8x4096x1024 .f32 := m ((c.tc : Thread nD τ).loc main_arg0)
def a1 (c : Dev nD) : FVec Ideal S1x1024x3400 .f32 := m ((c.tc : Thread nD τ).loc main_arg1)
def a2 (c : Dev nD) : FVec Ideal S1x256 .f32 := m ((c.tc : Thread nD τ).loc main_arg2)
def a3 (c : Dev nD) : FVec Ideal S1x64 .f32 := m ((c.tc : Thread nD τ).loc main_arg3)
def a4 (c : Dev nD) : FVec Ideal S1x64 .f32 := m ((c.tc : Thread nD τ).loc main_arg4)
def a5 (c : Dev nD) : FVec Ideal S1x256x8x64 .f32 := m ((c.tc : Thread nD τ).loc main_arg5)

/-- The reference's run: each result is its stage of the arguments, which end as they began. -/
theorem run2 (g : Dev nD → PrngReg) : θ_run (defs (F := Ideal)) (onTc (τ := τ) (main (F := Ideal))) ⟨m, fun _ => 0, g⟩ (fun r => ∀ c : Dev nD,
    r.2.mem ((c.tc : Thread nD τ).loc main_v67) = r67 (hh (a0 m c) (a1 m c)) (a5 m c)
    ∧ r.2.mem ((c.tc : Thread nD τ).loc main_v71) = r71 (hh (a0 m c) (a1 m c))
    ∧ r.2.mem ((c.tc : Thread nD τ).loc main_v74) = r74 (hh (a0 m c) (a1 m c))
    ∧ r.2.mem ((c.tc : Thread nD τ).loc main_v76) = r76 (hh (a0 m c) (a1 m c)) (a2 m c)
    ∧ r.2.mem ((c.tc : Thread nD τ).loc main_v79) = r79 (hh (a0 m c) (a1 m c)) (a2 m c)
    ∧ r.2.mem ((c.tc : Thread nD τ).loc main_v82) = r82 (hh (a0 m c) (a1 m c)) (a3 m c) (a4 m c)
    ∧ r.2.mem ((c.tc : Thread nD τ).loc main_v84) = r84 (hh (a0 m c) (a1 m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  Value.run m g

/-- The reference leaves its arguments and its counters as they began. -/
theorem frame2 (g : Dev nD → PrngReg) : θ_run (defs (F := Ideal)) (onTc (τ := τ) (main (F := Ideal))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) ∧ r.2.sem = fun _ => 0) :=
  (θ_run _ _ _).mono (fun r h => ⟨fun c => (h c).2.2.2.2.2.2.2, sem_eq_zero_of_no_sems rfl _⟩) (run2 m g)

end Cert.Reference2Ideal.Ref
-- ==== Proof.PEq.lean ====
module

public import proofs.«01_k».proof.Proof.PArr
public import proofs.«01_k».proof.Proof.PRef

@[expose] public section

set_option maxRecDepth 16384

noncomputable section

open Idealize.ShloMosaic Idealize.ShloMosaic.TcCoe Idealize.SL.Sem
/-! # The input projection's arrays and its reference's results are equal -/

namespace Cert.InpEq
open Cert.Reference2Ideal.Ref

theorem ix2_eta {n k : ℕ} (i : (⟨2, ![n, k]⟩ : Shape).Idx) : i = ix2 (i 0) (i 1) := by
  funext a
  match a with
  | ⟨0, _⟩ => rfl
  | ⟨1, _⟩ => rfl

variable (m : (ℓ : Loc Kernel2Ideal.nD Kernel2Ideal.τ Kernel2Ideal.sig) → Buf (Elt Ideal) ℓ)
  (m' : (ℓ : Loc Reference2Ideal.nD Reference2Ideal.τ Reference2Ideal.sig) → Buf (Elt Ideal) ℓ) (c : Dev Kernel2Ideal.nD)

/-- The two programs' arguments are equal. -/
def Agree : Prop :=
  m' ((c.tc : Thread Reference2Ideal.nD Reference2Ideal.τ).loc Reference2Ideal.main_arg0) = m ((c.tc : Thread Kernel2Ideal.nD Kernel2Ideal.τ).loc Kernel2Ideal.main_arg0) ∧ m' ((c.tc : Thread Reference2Ideal.nD Reference2Ideal.τ).loc Reference2Ideal.main_arg1) = m ((c.tc : Thread Kernel2Ideal.nD Kernel2Ideal.τ).loc Kernel2Ideal.main_arg1) ∧ m' ((c.tc : Thread Reference2Ideal.nD Reference2Ideal.τ).loc Reference2Ideal.main_arg2) = m ((c.tc : Thread Kernel2Ideal.nD Kernel2Ideal.τ).loc Kernel2Ideal.main_arg2) ∧ m' ((c.tc : Thread Reference2Ideal.nD Reference2Ideal.τ).loc Reference2Ideal.main_arg3) = m ((c.tc : Thread Kernel2Ideal.nD Kernel2Ideal.τ).loc Kernel2Ideal.main_arg3) ∧ m' ((c.tc : Thread Reference2Ideal.nD Reference2Ideal.τ).loc Reference2Ideal.main_arg4) = m ((c.tc : Thread Kernel2Ideal.nD Kernel2Ideal.τ).loc Kernel2Ideal.main_arg4) ∧ m' ((c.tc : Thread Reference2Ideal.nD Reference2Ideal.τ).loc Reference2Ideal.main_arg5) = m ((c.tc : Thread Kernel2Ideal.nD Kernel2Ideal.τ).loc Kernel2Ideal.main_arg5)

variable {m m' c} (h : Agree m m' c)
include h

theorem eX : PX (a0 m' c) = Kernel2Ideal.Blk.argX m c := by
  unfold PX a0 Kernel2Ideal.Blk.argX
  rw [h.1]
theorem eW : PW (a1 m' c) = Kernel2Ideal.Blk.argW m c := by
  unfold PW a1 Kernel2Ideal.Blk.argW
  rw [h.2.1]
theorem eG : (fun j : Fin 256 => a2 m' c (ix2 0 j)) = Kernel2Ideal.Blk.argG m c := by
  unfold a2 Kernel2Ideal.Blk.argG
  rw [h.2.2.1]
theorem eI : (fun j : Fin 64 => a3 m' c (ix2 0 j)) = Kernel2Ideal.Blk.argI m c := by
  unfold a3 Kernel2Ideal.Blk.argI
  rw [h.2.2.2.1]
theorem eB : (fun j : Fin 64 => a4 m' c (ix2 0 j)) = Kernel2Ideal.Blk.argB m c := by
  unfold a4 Kernel2Ideal.Blk.argB
  rw [h.2.2.2.2.1]
theorem eU : (fun (e : Fin 256) (n : Fin 8) (d : Fin 64) => a5 m' c (ix4 0 e n d)) = Kernel2Ideal.Blk.argU m c := by
  unfold a5 Kernel2Ideal.Blk.argU
  rw [h.2.2.2.2.2]

/-- The absorbed queries are the reference's. -/
theorem eq8 : r67 (hh (a0 m' c) (a1 m' c)) (a5 m' c) = (Kernel2Ideal.Gen.dats m 0 c).arrAt 8 Kernel2Ideal.cfg0.N := by
  funext i
  have ei : i = ix2 (i 0) (i 1) := ix2_eta i
  rw [ei]
  refine (v67 _ _ _ (i 0) (i 1)).trans ?_
  rw [eX h, eW h, eU h]
  exact (Kernel2Ideal.Blk.res8 m c (i 0) (i 1)).symm

/-- The indexer's queries are the reference's. -/
theorem eq9 : r71 (hh (a0 m' c) (a1 m' c)) = (Kernel2Ideal.Gen.dats m 0 c).arrAt 9 Kernel2Ideal.cfg0.N := by
  funext i
  have ei : i = ix2 (i 0) (i 1) := ix2_eta i
  rw [ei]
  refine (v71 _ _ (i 0) (i 1)).trans ?_
  rw [eX h, eW h]
  exact (Kernel2Ideal.Blk.res9 m c (i 0) (i 1)).symm

/-- The indexer's keys and head weights are the reference's. -/
theorem eq10 : r74 (hh (a0 m' c) (a1 m' c)) = (Kernel2Ideal.Gen.dats m 0 c).arrAt 10 Kernel2Ideal.cfg0.N := by
  funext i
  have ei : i = ix2 (i 0) (i 1) := ix2_eta i
  rw [ei]
  refine (v74 _ _ (i 0) (i 1)).trans ?_
  rw [eX h, eW h]
  exact (Kernel2Ideal.Blk.res10 m c (i 0) (i 1)).symm

/-- The latents are the reference's. -/
theorem eq11 : r76 (hh (a0 m' c) (a1 m' c)) (a2 m' c) = (Kernel2Ideal.Gen.dats m 0 c).arrAt 11 Kernel2Ideal.cfg0.N := by
  funext i
  have ei : i = ix2 (i 0) (i 1) := ix2_eta i
  rw [ei]
  refine (v76 _ _ _ (i 0) (i 1)).trans ?_
  rw [eX h, eW h, eG h]
  exact (Kernel2Ideal.Blk.res11 m c (i 1) (i 0)).symm

/-- The transposed latents are the reference's. -/
theorem eq12 : r79 (hh (a0 m' c) (a1 m' c)) (a2 m' c) = (Kernel2Ideal.Gen.dats m 0 c).arrAt 12 Kernel2Ideal.cfg0.N := by
  funext i
  have ei : i = ix2 (i 0) (i 1) := ix2_eta i
  rw [ei]
  refine (v79 _ _ _ (i 1) (i 0)).trans ?_
  rw [eX h, eW h, eG h]
  exact (Kernel2Ideal.Blk.res12 m c (i 0) (i 1)).symm

/-- The normed index keys are the reference's. -/
theorem eq13 : r82 (hh (a0 m' c) (a1 m' c)) (a3 m' c) (a4 m' c) = (Kernel2Ideal.Gen.dats m 0 c).arrAt 13 Kernel2Ideal.cfg0.N := by
  funext i
  have ei : i = ix2 (i 0) (i 1) := ix2_eta i
  rw [ei]
  refine (v82 _ _ _ _ (i 0) (i 1)).trans ?_
  rw [eX h, eW h, eI h, eB h]
  exact (Kernel2Ideal.Blk.res13 m c (i 1) (i 0)).symm

/-- The gated recurrence's inputs are the reference's. -/
theorem eq14 : r84 (hh (a0 m' c) (a1 m' c)) = (Kernel2Ideal.Gen.dats m 0 c).arrAt 14 Kernel2Ideal.cfg0.N := by
  funext i
  have ei : i = ix2 (i 0) (i 1) := ix2_eta i
  rw [ei]
  refine (v84 _ _ (i 0) (i 1)).trans ?_
  rw [eX h, eW h]
  exact (Kernel2Ideal.Blk.res14 m c (i 1) (i 0)).symm

end Cert.InpEq
-- ==== Proof.XSetupI.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit

@[expose] public section

set_option maxRecDepth 16384

noncomputable section

/-! # The experts' call: its launch -/

namespace Cert.Kernel3Ideal.Frm

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The buffers of core `c` when the pipelined call begins: the host operations before it have run. -/
abbrev V (c : Dev nD) (b : Ref sig .tc) : Buf (Elt F) ((c : Thread nD τ).loc b) := StableHlo.after hostOps0 (fun b => m (c, b)) b

/-- None of those host operations makes a fresh buffer. -/
theorem hostOps0_fresh : (hostOps0 : List (HloOp τ sig (Elt F))).Forall fun op => op.fresh = ∅ := by
  simp only [List.Forall]; repeat' constructor

set_option maxHeartbeats 800000 in
/-- The program up to the call: its host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Argument 0 is not written before the call. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 1 is not written before the call. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 2 is not written before the call. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 3 is not written before the call. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 4 is not written before the call. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 5 is not written before the call. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The three prefetched tables as the call finds them: the experts, the block numbers, and whether a block begins a new expert. -/
def tbl : pre0.Contents (Elt F) := fun j => V m (0 : Dev nD) (pre0.ref j)
/-- There is one device, so every device has those tables. -/
theorem V_pre (c : Dev nD) (j : Fin 3) : V m c (pre0.ref j) = tbl m j := by
  obtain rfl : c = 0 := Subsingleton.elim _ _; rfl
/-- Every block that the tables name lies inside its array. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-- The tables as the kernel is handed them. -/
abbrev tbM0_0 : Memref sig .tc .smem S288 .i32 := Memref.whole main_arg0
abbrev htbM0_0 : tbM0_0.IsWhole := Memref.isWhole_whole _
abbrev tbM0_1 : Memref sig .tc .smem S288 .i32 := Memref.whole main_v0
abbrev htbM0_1 : tbM0_1.IsWhole := Memref.isWhole_whole _
abbrev tbM0_2 : Memref sig .tc .smem S288 .i32 := Memref.whole main_v6
abbrev htbM0_2 : tbM0_2.IsWhole := Memref.isWhole_whole _

/-- What a table holds, and half of its share at those contents. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The three halves, one by one. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The block of window `w` at point `t`, cut out of its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input 0's staging buffer holds that input's block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's staging buffer holds that input's block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's staging buffer holds that input's block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's staging buffer holds that input's block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's staging buffer holds that input's block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A run that ends as the pipeline promises leaves the six arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-- The kernel reads, at point `i`, that a new expert begins there. -/
abbrev IsNew (c : Dev nD) (i : grid0.Coords) (xt2 : TbBuf0 (F := F) c tbM0_2) : Prop :=
  (Scalar.cmpi .ne (Scalar.extui (Scalar.cmpi .eq (tbM0_2.view.readAt (Elt F) (Rect.unit (s := S288) (k0_off1 i) S1.size (k0_off1_inb i)).toLoadRect xt2 (Shape.Idx.first (numel1_S1.symm ▸ Nat.one_pos))) 1#32)) 0#32) = 1#1

/-- The kernel at point `t`, as the pipeline calls it. -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_v0) (Memref.isWhole_whole _) (Memref.whole main_v6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- One staging buffer of the result, through which the result's blocks are stated. -/
abbrev VO0_5 : View sig .tc .vmem S512x1024 .bf16 := (Memref.whole cc0_stg5_0 : Memref sig .tc .vmem S512x1024 .bf16).view
/-- The windows' staging buffers at point `t`. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The two scratch buffers, which hold an expert's two weight matrices. -/
abbrev scM0_0 : Memref sig .tc .vmem S1024x2048 .bf16 := Memref.whole cc0_scratch0
abbrev scM0_1 : Memref sig .tc .vmem S1024x1024 .bf16 := Memref.whole cc0_scratch1
/-- The scratch buffers as views. -/
abbrev VS0_0 : View sig .tc .vmem S1024x2048 .bf16 := scM0_0.view
abbrev VS0_1 : View sig .tc .vmem S1024x1024 .bf16 := scM0_1.view

/-- What the call owns beside its windows: the two scratch buffers and the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel3Ideal.Frm

end
-- ==== Proof.XRunsI.lean ====
module

public import proofs.«01_k».proof.Proof.XSetupI

@[expose] public section

set_option maxRecDepth 16384

noncomputable section

/-! # The experts' kernel at one point -/

namespace Cert.Kernel3Ideal.Frm

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (c : Dev nD) (i : grid0.Coords)
  (arg4 : Memref sig .tc .vmem S512x1024 .bf16) (harg4 : arg4.IsWhole) (arg5 : Memref sig .tc .vmem S1x1024x2048 .f32) (harg5 : arg5.IsWhole)
  (arg6 : Memref sig .tc .vmem S1x1x2048 .f32) (harg6 : arg6.IsWhole) (arg7 : Memref sig .tc .vmem S1x1024x1024 .f32) (harg7 : arg7.IsWhole)
  (arg8 : Memref sig .tc .vmem S1x1x1024 .f32) (harg8 : arg8.IsWhole) (arg9 : Memref sig .tc .vmem S512x1024 .bf16) (harg9 : arg9.IsWhole)
  (arg10 : Memref sig .tc .vmem S1024x2048 .bf16) (harg10 : arg10.IsWhole) (arg11 : Memref sig .tc .vmem S1024x1024 .bf16) (harg11 : arg11.IsWhole)
  (x0 : Vec F S512x1024 .bf16) (x1 : Vec F S1x1024x2048 .f32) (x2 : Vec F S1x1x2048 .f32) (x3 : Vec F S1x1024x1024 .f32) (x4 : Vec F S1x1x1024 .f32)
  (xt0 : TbBuf0 (F := F) c tbM0_0) (xt1 : TbBuf0 (F := F) c tbM0_1) (xt2 : TbBuf0 (F := F) c tbM0_2)

set_option maxHeartbeats 1000000 in
/-- A point at which a new expert begins: the stores that the kernel makes into the result and the two scratch buffers, with the proof that it runs and leaves the inputs as they were. -/
def runFill (hn : IsNew c i xt2) :
    Σ' (L5 : List (View.Piece (Elt F) S512x1024 .bf16)), Σ' (LS0 : List (View.Piece (Elt F) S1024x2048 .bf16)), { LS1 : List (View.Piece (Elt F) S1024x1024 .bf16) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ tbPt0 c tbM0_0 xt0 ∗ tbPt0 c tbM0_1 xt1 ∗ tbPt0 c tbM0_2 xt2) -∗ K ⟨⟩))
          ⊢ wp frame (wpE (defs₀ (F := F)) Variants.none c none) E (cc0_experts i tbM0_0 htbM0_0 tbM0_1 htbM0_1 tbM0_2 htbM0_2 arg4 harg4 arg5 harg5 arg6 harg6 arg7 harg7 arg8 harg8 arg9 harg9 arg10 harg10 arg11 harg11) K } := by
  refine ⟨?_, ?_, ?_, fun E K => ?run⟩
  case run =>
    simp only [cc0_experts_eq_skeleton]; unfold cc0_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := sl_exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]; · iexists _; iexact HS0
    isplitl [HS1]; · iexists _; iexact HS1
    isplitl [HT0]; · iexact HT0
    isplitl [HT1]; · iexact HT1
    iexact HT2

end

section
variable (c : Dev nD) (i : grid0.Coords)
  (arg4 : Memref sig .tc .vmem S512x1024 .bf16) (harg4 : arg4.IsWhole) (arg5 : Memref sig .tc .vmem S1x1024x2048 .f32) (harg5 : arg5.IsWhole)
  (arg6 : Memref sig .tc .vmem S1x1x2048 .f32) (harg6 : arg6.IsWhole) (arg7 : Memref sig .tc .vmem S1x1024x1024 .f32) (harg7 : arg7.IsWhole)
  (arg8 : Memref sig .tc .vmem S1x1x1024 .f32) (harg8 : arg8.IsWhole) (arg9 : Memref sig .tc .vmem S512x1024 .bf16) (harg9 : arg9.IsWhole)
  (arg10 : Memref sig .tc .vmem S1024x2048 .bf16) (harg10 : arg10.IsWhole) (arg11 : Memref sig .tc .vmem S1024x1024 .bf16) (harg11 : arg11.IsWhole)
  (x0 : Vec F S512x1024 .bf16) (x1 : Vec F S1x1024x2048 .f32) (x2 : Vec F S1x1x2048 .f32) (x3 : Vec F S1x1024x1024 .f32) (x4 : Vec F S1x1x1024 .f32)
  (xt0 : TbBuf0 (F := F) c tbM0_0) (xt1 : TbBuf0 (F := F) c tbM0_1) (xt2 : TbBuf0 (F := F) c tbM0_2)
  (xs0 : Vec F S1024x2048 .bf16) (xs1 : Vec F S1024x1024 .bf16)

set_option maxHeartbeats 1000000 in
/-- A point that goes on with the expert before it: the stores into the result, the scratch buffers staying as they were. -/
def runKeep (hn : ¬ IsNew c i xt2) :
    Σ' (L5 : List (View.Piece (Elt F) S512x1024 .bf16)), Σ' (LS0 : List (View.Piece (Elt F) S1024x2048 .bf16)), { LS1 : List (View.Piece (Elt F) S1024x1024 .bf16) //
      ∀ (E : Set ℕ) (K : PUnit → sProp (MT nD τ sig Unit (Elt F) ℕ (UR sig nD τ) ℕ)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ owns (c : Thread nD τ) arg10 fullShare xs0 ∗ owns (c : Thread nD τ) arg11 fullShare xs1 ∗ tbPt0 c tbM0_0 xt0 ∗ tbPt0 c tbM0_1 xt1 ∗ tbPt0 c tbM0_2 xt2) -∗ K ⟨⟩))
          ⊢ wp frame (wpE (defs₀ (F := F)) Variants.none c none) E (cc0_experts i tbM0_0 htbM0_0 tbM0_1 htbM0_1 tbM0_2 htbM0_2 arg4 harg4 arg5 harg5 arg6 harg6 arg7 harg7 arg8 harg8 arg9 harg9 arg10 harg10 arg11 harg11) K } := by
  refine ⟨?_, [], [], fun E K => ?run⟩
  case run =>
    simp only [cc0_experts_eq_skeleton]; unfold cc0_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    sl_exec (disch := sl_exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HS0]
    · iexists _; isplitr; · ipureintro; exact harg10.read_unread _
      iexact HS0
    isplitl [HS1]
    · iexists _; isplitr; · ipureintro; exact harg11.read_unread _
      iexact HS1
    isplitl [HT0]; · iexact HT0
    isplitl [HT1]; · iexact HT1
    iexact HT2

end

end Cert.Kernel3Ideal.Frm

end
-- ==== Proof.XFrameI.lean ====
module

public import proofs.«01_k».proof.Proof.XRunsI
public import Idealize.ShloMosaic.Lib.Claim

@[expose] public section

set_option maxRecDepth 16384

noncomputable section

/-! # The experts' call: its frame -/

namespace Cert.Kernel3Ideal.Frm

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (c : Dev nD) (i : grid0.Coords)
  (arg4 : Memref sig .tc .vmem S512x1024 .bf16) (harg4 : arg4.IsWhole) (arg5 : Memref sig .tc .vmem S1x1024x2048 .f32) (harg5 : arg5.IsWhole)
  (arg6 : Memref sig .tc .vmem S1x1x2048 .f32) (harg6 : arg6.IsWhole) (arg7 : Memref sig .tc .vmem S1x1024x1024 .f32) (harg7 : arg7.IsWhole)
  (arg8 : Memref sig .tc .vmem S1x1x1024 .f32) (harg8 : arg8.IsWhole) (arg9 : Memref sig .tc .vmem S512x1024 .bf16) (harg9 : arg9.IsWhole)
  (arg10 : Memref sig .tc .vmem S1024x2048 .bf16) (harg10 : arg10.IsWhole) (arg11 : Memref sig .tc .vmem S1024x1024 .bf16) (harg11 : arg11.IsWhole)
  (x0 : Vec F S512x1024 .bf16) (x1 : Vec F S1x1024x2048 .f32) (x2 : Vec F S1x1x2048 .f32) (x3 : Vec F S1x1024x1024 .f32) (x4 : Vec F S1x1x1024 .f32)
  (xt0 : TbBuf0 (F := F) c tbM0_0) (xt1 : TbBuf0 (F := F) c tbM0_1) (xt2 : TbBuf0 (F := F) c tbM0_2)

/-- The stores into the result fill its block. -/
theorem fill_cover (hn : IsNew c i xt2) (y : S512x1024.Idx) : ∃ pc ∈ (runFill c i arg4 harg4 arg5 harg5 arg6 harg6 arg7 harg7 arg8 harg8 arg9 harg9 arg10 harg10 arg11 harg11 x0 x1 x2 x3 x4 xt0 xt1 xt2 hn ).1, y ∈ pc.1.set :=
  View.cover_of_tiledL (runFill c i arg4 harg4 arg5 harg5 arg6 harg6 arg7 harg7 arg8 harg8 arg9 harg9 arg10 harg10 arg11 harg11 x0 x1 x2 x3 x4 xt0 xt1 xt2 hn).1 S256x1024.size (by sl_kernel_rfl) y

/-- The result of such a point. -/
def fillOut (hn : IsNew c i xt2) : Vec F S512x1024 .bf16 :=
  VO0_5.read (Elt F) (VO0_5.writes (Elt F) VO0_5.junk (runFill c i arg4 harg4 arg5 harg5 arg6 harg6 arg7 harg7 arg8 harg8 arg9 harg9 arg10 harg10 arg11 harg11 x0 x1 x2 x3 x4 xt0 xt1 xt2 hn).1)

/-- The store into the first scratch buffer fills it. -/
theorem fill_cover0 (hn : IsNew c i xt2) (y : S1024x2048.Idx) : ∃ pc ∈ (runFill c i arg4 harg4 arg5 harg5 arg6 harg6 arg7 harg7 arg8 harg8 arg9 harg9 arg10 harg10 arg11 harg11 x0 x1 x2 x3 x4 xt0 xt1 xt2 hn ).2.1, y ∈ pc.1.set :=
  View.cover_of_tiledL (runFill c i arg4 harg4 arg5 harg5 arg6 harg6 arg7 harg7 arg8 harg8 arg9 harg9 arg10 harg10 arg11 harg11 x0 x1 x2 x3 x4 xt0 xt1 xt2 hn).2.1 S1024x2048.size (by sl_kernel_rfl) y

/-- The first scratch buffer after such a point. -/
def fillUp (hn : IsNew c i xt2) : Vec F S1024x2048 .bf16 :=
  VS0_0.read (Elt F) (VS0_0.writes (Elt F) VS0_0.junk (runFill c i arg4 harg4 arg5 harg5 arg6 harg6 arg7 harg7 arg8 harg8 arg9 harg9 arg10 harg10 arg11 harg11 x0 x1 x2 x3 x4 xt0 xt1 xt2 hn).2.1)

/-- The store into the second scratch buffer fills it. -/
theorem fill_cover1 (hn : IsNew c i xt2) (y : S1024x1024.Idx) : ∃ pc ∈ (runFill c i arg4 harg4 arg5 harg5 arg6 harg6 arg7 harg7 arg8 harg8 arg9 harg9 arg10 harg10 arg11 harg11 x0 x1 x2 x3 x4 xt0 xt1 xt2 hn ).2.2.1, y ∈ pc.1.set :=
  View.cover_of_tiledL (runFill c i arg4 harg4 arg5 harg5 arg6 harg6 arg7 harg7 arg8 harg8 arg9 harg9 arg10 harg10 arg11 harg11 x0 x1 x2 x3 x4 xt0 xt1 xt2 hn).2.2.1 S1024x1024.size (by sl_kernel_rfl) y

/-- The second scratch buffer after such a point. -/
def fillDown (hn : IsNew c i xt2) : Vec F S1024x1024 .bf16 :=
  VS0_1.read (Elt F) (VS0_1.writes (Elt F) VS0_1.junk (runFill c i arg4 harg4 arg5 harg5 arg6 harg6 arg7 harg7 arg8 harg8 arg9 harg9 arg10 harg10 arg11 harg11 x0 x1 x2 x3 x4 xt0 xt1 xt2 hn).2.2.1)

end

section
variable (c : Dev nD) (i : grid0.Coords)
  (arg4 : Memref sig .tc .vmem S512x1024 .bf16) (harg4 : arg4.IsWhole) (arg5 : Memref sig .tc .vmem S1x1024x2048 .f32) (harg5 : arg5.IsWhole)
  (arg6 : Memref sig .tc .vmem S1x1x2048 .f32) (harg6 : arg6.IsWhole) (arg7 : Memref sig .tc .vmem S1x1024x1024 .f32) (harg7 : arg7.IsWhole)
  (arg8 : Memref sig .tc .vmem S1x1x1024 .f32) (harg8 : arg8.IsWhole) (arg9 : Memref sig .tc .vmem S512x1024 .bf16) (harg9 : arg9.IsWhole)
  (arg10 : Memref sig .tc .vmem S1024x2048 .bf16) (harg10 : arg10.IsWhole) (arg11 : Memref sig .tc .vmem S1024x1024 .bf16) (harg11 : arg11.IsWhole)
  (x0 : Vec F S512x1024 .bf16) (x1 : Vec F S1x1024x2048 .f32) (x2 : Vec F S1x1x2048 .f32) (x3 : Vec F S1x1024x1024 .f32) (x4 : Vec F S1x1x1024 .f32)
  (xt0 : TbBuf0 (F := F) c tbM0_0) (xt1 : TbBuf0 (F := F) c tbM0_1) (xt2 : TbBuf0 (F := F) c tbM0_2)
  (xs0 : Vec F S1024x2048 .bf16) (xs1 : Vec F S1024x1024 .bf16)

/-- The stores into the result fill its block. -/
theorem keep_cover (hn : ¬ IsNew c i xt2) (y : S512x1024.Idx) : ∃ pc ∈ (runKeep c i arg4 harg4 arg5 harg5 arg6 harg6 arg7 harg7 arg8 harg8 arg9 harg9 arg10 harg10 arg11 harg11 x0 x1 x2 x3 x4 xt0 xt1 xt2 xs0 xs1 hn ).1, y ∈ pc.1.set :=
  View.cover_of_tiledL (runKeep c i arg4 harg4 arg5 harg5 arg6 harg6 arg7 harg7 arg8 harg8 arg9 harg9 arg10 harg10 arg11 harg11 x0 x1 x2 x3 x4 xt0 xt1 xt2 xs0 xs1 hn).1 S256x1024.size (by sl_kernel_rfl) y

/-- The result of a point that keeps the scratch buffers. -/
def keepOut (hn : ¬ IsNew c i xt2) : Vec F S512x1024 .bf16 :=
  VO0_5.read (Elt F) (VO0_5.writes (Elt F) VO0_5.junk (runKeep c i arg4 harg4 arg5 harg5 arg6 harg6 arg7 harg7 arg8 harg8 arg9 harg9 arg10 harg10 arg11 harg11 x0 x1 x2 x3 x4 xt0 xt1 xt2 xs0 xs1 hn).1)

end

variable (m : (ℓ : Loc nD τ sig) → Buf (Elt F) ℓ) (ρ : Dev nD → PrngReg)

/-- A new expert begins at point `t`. -/
abbrev New (c : Dev nD) (t : Fin grid0.N) : Prop := IsNew c (grid0.coords t) (tbl m 2)

/-- What a point at which a new expert begins leaves in the result's block and the two scratch buffers. -/
def filled (hO : Ok m) (c : Dev nD) (t : Fin (cfgM m hO).N) (h : New m c t) : Vec F S512x1024 .bf16 × Vec F S1024x2048 .bf16 × Vec F S1024x1024 .bf16 :=
  (fillOut c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) (tbl m 1) (tbl m 2) h,
   fillUp c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) (tbl m 1) (tbl m 2) h,
   fillDown c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) (tbl m 1) (tbl m 2) h)

/-- What another point leaves in the result's block, from what the scratch buffers hold. -/
def kept (hO : Ok m) (c : Dev nD) (t : Fin (cfgM m hO).N) (h : ¬ New m c t) (xs0 : Vec F S1024x2048 .bf16) (xs1 : Vec F S1024x1024 .bf16) : Vec F S512x1024 .bf16 :=
  keepOut c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) (tbl m 1) (tbl m 2) xs0 xs1 h

/-- The result's block and the two scratch buffers after point `n`: by recursion on the points, a point that begins no expert keeping the scratch buffers. -/
def outsAt0 (hO : Ok m) (c : Dev nD) : (n : ℕ) → n < (cfgM m hO).N → Vec F S512x1024 .bf16 × Vec F S1024x2048 .bf16 × Vec F S1024x1024 .bf16
  | 0, hn => if h : New m c ⟨0, hn⟩ then filled m hO c ⟨0, hn⟩ h else
      (kept m hO c ⟨0, hn⟩ h (VS0_0.read (Elt F) VS0_0.junk) (VS0_1.read (Elt F) VS0_1.junk), VS0_0.read (Elt F) VS0_0.junk, VS0_1.read (Elt F) VS0_1.junk)
  | n + 1, hn => if h : New m c ⟨n + 1, hn⟩ then filled m hO c ⟨n + 1, hn⟩ h else
      (kept m hO c ⟨n + 1, hn⟩ h (outsAt0 hO c n (Nat.lt_of_succ_lt hn)).2.1 (outsAt0 hO c n (Nat.lt_of_succ_lt hn)).2.2, (outsAt0 hO c n (Nat.lt_of_succ_lt hn)).2.1, (outsAt0 hO c n (Nat.lt_of_succ_lt hn)).2.2)

/-- The recursion at a point where a new expert begins. -/
theorem outsAt0_fill (hO : Ok m) (c : Dev nD) (t : Fin (cfgM m hO).N) (h : New m c t) : outsAt0 m hO c t.val t.isLt = filled m hO c t h := by
  obtain ⟨n, hn⟩ := t
  cases n with
  | zero => exact dif_pos h
  | succ n => exact dif_pos h

/-- The recursion at another point. -/
theorem outsAt0_keep (hO : Ok m) (c : Dev nD) (t : Fin (cfgM m hO).N) (hz : t.val ≠ 0) (h : ¬ New m c t) :
    outsAt0 m hO c t.val t.isLt = (kept m hO c t h (outsAt0 m hO c (t.val - 1) (Nat.lt_of_le_of_lt (Nat.sub_le _ _) t.isLt)).2.1 (outsAt0 m hO c (t.val - 1) (Nat.lt_of_le_of_lt (Nat.sub_le _ _) t.isLt)).2.2,
      (outsAt0 m hO c (t.val - 1) (Nat.lt_of_le_of_lt (Nat.sub_le _ _) t.isLt)).2.1, (outsAt0 m hO c (t.val - 1) (Nat.lt_of_le_of_lt (Nat.sub_le _ _) t.isLt)).2.2) := by
  obtain ⟨n, hn⟩ := t
  cases n with
  | zero => exact absurd rfl hz
  | succ n => exact dif_neg h

/-- A new expert begins at the first point. -/
def First : Prop := ∀ (c : Dev nD) (h : 0 < grid0.N), New m c ⟨0, h⟩

/-- The scratch buffers between the points: at anything before the first, then at what the point before left. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c)

/-- Before the first point. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n`. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c) := rfl

/-- Before a point that is not the first. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2)) ∗ (∃ r, prngReg c r)) ∗ Pipeline.ΦT pre0 (tbl m) c) := by
  cases n with
  | zero => exact absurd rfl hz
  | succ n => rfl

/-- The pipeline's proof data: the arrays as the call finds them, each input's buffer at its block, the result's at what the recursion says. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

/-- Its arrays. -/
theorem A_eq (hO : Ok m) (c : Dev nD) (w : Fin (cfgM m hO).W) : (dats m hO 0 c).A w = V m c (Pipeline.arrRef spec0 w) := by
  dsimp only [dats]

/-- Its invariant before a point. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the kernel leaves in each window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's buffer holds its block. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- What the kernel is called with. -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- What it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 12800000 in
/-- The kernel at any point: given the inputs' blocks and what the point before left in the scratch buffers, it leaves what the recursion says. -/
theorem sound_body (hO : Ok m) (hF : First m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiT0_eq]
  have hN : t.val < 288 := lt_of_lt_of_eq t.isLt (show (cfgM m hO).N = 288 from N_0)
  by_cases h1 : New m c t
  · by_cases hz : t.val = 0
    · rw [PhiS_castSucc m hO c t, PhiS_zero m hO c _ _ hz, PhiT0_eq, PhiA0_eq]
      rw [outsAt0_fill m hO c t h1]
      unfold filled fillOut fillUp fillDown; (try dsimp only)
      iintro ⟨⟨⟨⟨⟨%z0, HS0⟩, ⟨%z1, HS1⟩⟩, Hg⟩, ⟨HT0, HT1, HT2⟩⟩, Ho, ⟨%d0, H0⟩, ⟨%d1, H1⟩, ⟨%d2, H2⟩, ⟨%d3, H3⟩, ⟨%d4, H4⟩, ⟨%d5, H5⟩⟩
      iapply ((runFill c (grid0.coords t) _ _ _ _ _ _ _ _ _ _ _ _ _ _ _ _ (iblk m hO c 0 t) (iblk m hO c 1 t) (iblk m hO c 2 t) (iblk m hO c 3 t) (iblk m hO c 4 t) (tbl m 0) (tbl m 1) (tbl m 2) h1).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HT0]; · iexact HT0
      isplitl [HT1]; · iexact HT1
      isplitl [HT2]; · iexact HT2
      iintro ⟨H0, H1, H2, H3, H4, ⟨%e5, H5⟩, ⟨%es0, HS0⟩, ⟨%es1, HS1⟩, HT0, HT1, HT2⟩
      isplitl [HS0 HS1 Hg HT0 HT1 HT2]
      · isplitl [HS0 HS1 Hg]
        · isplitl [HS0 HS1]
          · isplitl [HS0]
            · unfold owns; iexists _; isplitr
              swap; · iexact HS0
              ipureintro; exact View.read_writes_of_cover _ _ _ _ _ (fill_cover0 c _ _ _ _ _ _ _ _ _ _ _ _ _ _ _ _ _ _ _ _ _ _ _ _ _ _)
            unfold owns; iexists _; isplitr
            swap; · iexact HS1
            ipureintro; exact View.read_writes_of_cover _ _ _ _ _ (fill_cover1 c _ _ _ _ _ _ _ _ _ _ _ _ _ _ _ _ _ _ _ _ _ _ _ _ _ _)
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (fill_cover c _ _ _ _ _ _ _ _ _ _ _ _ _ _ _ _ _ _ _ _ _ _ _ _ _ _)
    · rw [PhiS_castSucc m hO c t, PhiS_pos m hO c _ _ hz, PhiT0_eq]
      rw [outsAt0_fill m hO c t h1]
      unfold filled fillOut fillUp fillDown; (try dsimp only)
      iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
      iapply ((runFill c (grid0.coords t) _ _ _ _ _ _ _ _ _ _ _ _ _ _ _ _ (iblk m hO c 0 t) (iblk m hO c 1 t) (iblk m hO c 2 t) (iblk m hO c 3 t) (iblk m hO c 4 t) (tbl m 0) (tbl m 1) (tbl m 2) h1).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HT0]; · iexact HT0
      isplitl [HT1]; · iexact HT1
      isplitl [HT2]; · iexact HT2
      iintro ⟨H0, H1, H2, H3, H4, ⟨%e5, H5⟩, ⟨%es0, HS0⟩, ⟨%es1, HS1⟩, HT0, HT1, HT2⟩
      isplitl [HS0 HS1 Hg HT0 HT1 HT2]
      · isplitl [HS0 HS1 Hg]
        · isplitl [HS0 HS1]
          · isplitl [HS0]
            · unfold owns; iexists _; isplitr
              swap; · iexact HS0
              ipureintro; exact View.read_writes_of_cover _ _ _ _ _ (fill_cover0 c _ _ _ _ _ _ _ _ _ _ _ _ _ _ _ _ _ _ _ _ _ _ _ _ _ _)
            unfold owns; iexists _; isplitr
            swap; · iexact HS1
            ipureintro; exact View.read_writes_of_cover _ _ _ _ _ (fill_cover1 c _ _ _ _ _ _ _ _ _ _ _ _ _ _ _ _ _ _ _ _ _ _ _ _ _ _)
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (fill_cover c _ _ _ _ _ _ _ _ _ _ _ _ _ _ _ _ _ _ _ _ _ _ _ _ _ _)
  · by_cases hz : t.val = 0
    · exact absurd (by obtain ⟨n, hn⟩ := t; obtain rfl : n = 0 := hz; exact hF c hn) h1
    · rw [PhiS_castSucc m hO c t, PhiS_pos m hO c _ _ hz, PhiT0_eq]
      rw [outsAt0_keep m hO c t hz h1]
      unfold kept keepOut; (try dsimp only)
      iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
      iapply ((runKeep c (grid0.coords t) _ _ _ _ _ _ _ _ _ _ _ _ _ _ _ _ (iblk m hO c 0 t) (iblk m hO c 1 t) (iblk m hO c 2 t) (iblk m hO c 3 t) (iblk m hO c 4 t) (tbl m 0) (tbl m 1) (tbl m 2) _ _ h1).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      isplitl [HT2]; · iexact HT2
      iintro ⟨H0, H1, H2, H3, H4, ⟨%e5, H5⟩, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (keep_cover c _ _ _ _ _ _ _ _ _ _ _ _ _ _ _ _ _ _ _ _ _ _ _ _ _ _ _ _)

/-- The pipeline calls the kernel. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's obligation on the kernel. -/
theorem body_obligation (hO : Ok m) (hF : First m) (c : Dev nD) : BodyObligation (dats (F := F) m hO 0 c) (defs₀ (F := F)) Variants.none () Set.univ := fun t => by
  rw [bigSep_W0, bigSep_W0, defs₀_row m hO]
  exact triple_restated (sound_body m hO hF c t) rfl .rfl fun _ => .rfl

/-- The launch gives the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the scratch buffers are given back. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- So after the last. -/
theorem hout (hO : Ok m) (c : Dev nD) : (dats m hO 0 c).Φ (Fin.last (cfgM m hO).N) ⊢ Pipeline.ΦA spec0 c :=
  Phi_out m hO c _ (by rw [Fin.val_last]; have : (cfgM m hO).N = 288 := N_0; omega)

set_option backward.isDefEq.respectTransparency.types false in
/-- The launch: every execution ends with the arrays as the proof data says, and no semaphore raised. -/
theorem run_main_quiescent (hO : Ok m) (hF : First m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the semaphores. -/
theorem run_main (hO : Ok m) (hF : First m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hF)

/-- The arguments end unchanged. -/
theorem unchanged (hO : Ok m) (hF : First m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO hF)

/-- The frame: every execution ends, the arguments unchanged and no semaphore raised. -/
theorem frame (hO : Ok m) (hF : First m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hF) ((θ_run defs _ _).mono (fun _ h => h.2) (run_main_quiescent m ρ hO hF))

end Cert.Kernel3Ideal.Frm

end
-- ==== Proof.XTabI.lean ====
module

public import proofs.«01_k».proof.Proof.XFrameI
public import Idealize.ShloMosaic.Lib.Pipeline.ValueKit
public import Idealize.ShloMosaic.Lib.Pointwise

@[expose] public section

set_option maxRecDepth 16384

noncomputable section

/-! # The experts' call: its three tables

The first table holds the blocks' experts (an argument), the second the blocks' numbers, the third a `1` where a block
begins a new expert. -/

namespace Cert.Kernel3Ideal.Frm

open Cert.Kernel3Ideal Cert.Kernel3Ideal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The blocks' experts. -/
abbrev experts (c : Dev nD) : IVec S288 32 := m ((c.tc : Thread nD τ).loc main_arg0)

theorem tbl_exp : tbl m 0 = experts m 0 := V_main_arg0 m 0

theorem tbl_blk : tbl m 1 = iotaInDim S288 32 0 := by
  show StableHlo.after hostOps0 (fun b => m (0, b)) (Proc.devRef .tc main_v0) = _
  unfold hostOps0
  after_results

/-- `1` where an entry differs from the one before it; the first entry counts as different. -/
def changes (e : IVec S288 32) : IVec S288 32 :=
  concatenate S288 0 [⟨S1, broadcastInDim S1 ![] bcast_S_S1 (constantI S_ 32 1#32)⟩,
    ⟨S287, extui 32 (cmpi .ne (extractStridedSlice S287 ![1] e slices_S288_S287_1) (extractStridedSlice S287 ![0] e slices_S288_S287_0)) natLt_1_32⟩] concatenates_S1_S287_S288_d0

theorem tbl_new : tbl m 2 = changes (experts m 0) := by
  show StableHlo.after hostOps0 (fun b => m (0, b)) (Proc.devRef .tc main_v6) = _
  unfold hostOps0
  after_results
  rfl

theorem coord_word : ∀ i : Fin 288, (Scalar.indexCast (BitVec.ofNat 32 i.val)).toNat = i.val := by decide +kernel

theorem off_at (i : grid0.Coords) : (k0_off1 i) 0 = (i 0).val := coord_word (i 0)

theorem first_at (i : grid0.Coords) (h : ∀ a, (k0_off1 i) a + S1.size a ≤ S288.size a) (h1 : S1.numel = 1) :
    (Rect.unit (s := S288) (k0_off1 i) S1.size h).emb (Shape.Idx.first (h1.symm ▸ Nat.one_pos)) = (ix1 (i 0) : S288.Idx) := by
  funext a
  apply Fin.ext
  match a with
  | ⟨0, _⟩ =>
    show (k0_off1 i) 0 + 1 * _ = (i 0).val
    rw [off_at]
    have hl : ∀ y : Fin 1, y.val = 0 := fun y => by omega
    exact (congrArg (fun z => (i 0).val + 1 * z) (hl _)).trans (by omega)

theorem exp_at (i : grid0.Coords) : (tbl m).at 0 (Rect.unit (s := S288) (k0_off1 i) S1.size (k0_off1_inb i)) numel1_S1 = experts m 0 (ix1 (i 0)) := by
  show tbl m 0 _ = _
  rw [tbl_exp]
  exact congrArg (experts m 0) (first_at i _ numel1_S1)

theorem iota_word : ∀ i : Fin 288, (BitVec.ofNat 32 i.val).toNat = i.val := by decide +kernel

theorem blk_at (i : grid0.Coords) : BitVec.toNat ((tbl m).at 1 (Rect.unit (s := S288) (k0_off1 i) S1.size (k0_off1_inb i)) numel1_S1) = (i 0).val := by
  show BitVec.toNat (tbl m 1 _) = _
  rw [tbl_blk]
  refine (congrArg (fun x => BitVec.toNat ((iotaInDim S288 32 0 : IVec S288 32) x)) (first_at i _ numel1_S1)).trans ?_
  exact iota_word (i 0)

/-- Every expert is one of the 32. -/
def InRange : Prop := ∀ i : Fin 288, (experts m 0 (ix1 i)).toNat < 32

theorem word_exact {s : Shape} (r : Rect s) (h : r.WholeWords 2) : EltTy.bits .bf16 = 32 ∨ r.WholeWords (EltTy.packing .bf16) := .inr h

/-- Every block that the tables name lies inside its array. -/
theorem ok (h : InRange m) : Ok m := by
  have he : ∀ i : grid0.Coords, BitVec.toNat ((tbl m).at 0 (Rect.unit (s := S288) (k0_off1 i) S1.size (k0_off1_inb i)) numel1_S1) < 32 := fun i => by
    rw [exp_at]; exact h (i 0)
  have hb : ∀ i : grid0.Coords, BitVec.toNat ((tbl m).at 1 (Rect.unit (s := S288) (k0_off1 i) S1.size (k0_off1_inb i)) numel1_S1) < 288 := fun i => by
    rw [blk_at]; exact (i 0).isLt
  refine ⟨fun i => ?_, fun i => ?_, fun i => ?_, fun i => ?_, fun i => ?_, fun i => ?_⟩
  · have hi : ∀ a, (cc0_transform_0 k0_off1_inb numel1_S1 (tbl m) i a + 1) * S512x1024.size a ≤ S147456x1024.size a := by
      intro a
      match a with
      | ⟨0, _⟩ => have := hb i; show (BitVec.toNat ((tbl m).at 1 (Rect.unit (s := S288) (k0_off1 i) S1.size (k0_off1_inb i)) numel1_S1) + 1) * 512 ≤ 147456; omega
      | ⟨1, _⟩ => show (0 + 1) * 1024 ≤ 1024; omega
    exact ⟨hi, .inr (Affine.block_words_dvd (of_decide_eq_true rfl) (by decide))⟩
  · have hi : ∀ a, (cc0_transform_1 k0_off1_inb numel1_S1 (tbl m) i a + 1) * S1x1024x2048.size a ≤ S32x1024x2048.size a := by
      intro a
      match a with
      | ⟨0, _⟩ => have := he i; show (BitVec.toNat ((tbl m).at 0 (Rect.unit (s := S288) (k0_off1 i) S1.size (k0_off1_inb i)) numel1_S1) + 1) * 1 ≤ 32; omega
      | ⟨1, _⟩ => show (0 + 1) * 1024 ≤ 1024; omega
      | ⟨2, _⟩ => show (0 + 1) * 2048 ≤ 2048; omega
    exact ⟨hi, .inl rfl⟩
  · have hi : ∀ a, (cc0_transform_2 k0_off1_inb numel1_S1 (tbl m) i a + 1) * S1x1x2048.size a ≤ S32x1x2048.size a := by
      intro a
      match a with
      | ⟨0, _⟩ => have := he i; show (BitVec.toNat ((tbl m).at 0 (Rect.unit (s := S288) (k0_off1 i) S1.size (k0_off1_inb i)) numel1_S1) + 1) * 1 ≤ 32; omega
      | ⟨1, _⟩ => show (0 + 1) * 1 ≤ 1; omega
      | ⟨2, _⟩ => show (0 + 1) * 2048 ≤ 2048; omega
    exact ⟨hi, .inl rfl⟩
  · have hi : ∀ a, (cc0_transform_3 k0_off1_inb numel1_S1 (tbl m) i a + 1) * S1x1024x1024.size a ≤ S32x1024x1024.size a := by
      intro a
      match a with
      | ⟨0, _⟩ => have := he i; show (BitVec.toNat ((tbl m).at 0 (Rect.unit (s := S288) (k0_off1 i) S1.size (k0_off1_inb i)) numel1_S1) + 1) * 1 ≤ 32; omega
      | ⟨1, _⟩ => show (0 + 1) * 1024 ≤ 1024; omega
      | ⟨2, _⟩ => show (0 + 1) * 1024 ≤ 1024; omega
    exact ⟨hi, .inl rfl⟩
  · have hi : ∀ a, (cc0_transform_4 k0_off1_inb numel1_S1 (tbl m) i a + 1) * S1x1x1024.size a ≤ S32x1x1024.size a := by
      intro a
      match a with
      | ⟨0, _⟩ => have := he i; show (BitVec.toNat ((tbl m).at 0 (Rect.unit (s := S288) (k0_off1 i) S1.size (k0_off1_inb i)) numel1_S1) + 1) * 1 ≤ 32; omega
      | ⟨1, _⟩ => show (0 + 1) * 1 ≤ 1; omega
      | ⟨2, _⟩ => show (0 + 1) * 1024 ≤ 1024; omega
    exact ⟨hi, .inl rfl⟩
  · have hi : ∀ a, (cc0_transform_5 k0_off1_inb numel1_S1 (tbl m) i a + 1) * S512x1024.size a ≤ S147456x1024.size a := by
      intro a
      match a with
      | ⟨0, _⟩ => have := hb i; show (BitVec.toNat ((tbl m).at 1 (Rect.unit (s := S288) (k0_off1 i) S1.size (k0_off1_inb i)) numel1_S1) + 1) * 512 ≤ 147456; omega
      | ⟨1, _⟩ => show (0 + 1) * 1024 ≤ 1024; omega
    exact ⟨hi, .inr (Affine.block_words_dvd (of_decide_eq_true rfl) (by decide))⟩

theorem changes_first (e : IVec S288 32) : changes e (ix1 0) = 1#32 := by
  unfold changes
  pointwise []

theorem changes_succ (e : IVec S288 32) (i : Fin 287) : changes e (ix1 ⟨i.val + 1, by omega⟩) = Scalar.extui (Scalar.cmpi .ne (e (ix1 ⟨i.val + 1, by omega⟩)) (e (ix1 ⟨i.val, by omega⟩))) := by
  unfold changes
  pointwise []
  rw [dif_neg (by omega)]
  have e1 : (⟨1 + (i.val + 1 - 1), by omega⟩ : Fin 288) = ⟨i.val + 1, by omega⟩ := Fin.ext (by show 1 + (i.val + 1 - 1) = i.val + 1; omega)
  have e2 : (⟨i.val + 1 - 1, by omega⟩ : Fin 288) = ⟨i.val, by omega⟩ := Fin.ext (by show i.val + 1 - 1 = i.val; omega)
  rw [e1, e2]
  rfl

/-- The word the kernel reads at a point is the third table's. -/
theorem new_iff (c : Dev nD) (t : Fin grid0.N) : New m c t ↔ (Scalar.cmpi .ne (Scalar.extui (Scalar.cmpi .eq (changes (experts m 0) (ix1 (grid0.coords t 0))) 1#32) : BitVec 32) 0#32) = 1#1 := by
  have e : (tbM0_2.view.readAt (Elt F) (Rect.unit (s := S288) (k0_off1 (grid0.coords t)) S1.size (k0_off1_inb (grid0.coords t))).toLoadRect (tbl m 2) (Shape.Idx.first (numel1_S1.symm ▸ Nat.one_pos)) : BitVec 32)
      = changes (experts m 0) (ix1 (grid0.coords t 0)) := by
    rw [tbl_new]
    exact congrArg (changes (experts m 0)) (first_at (grid0.coords t) _ numel1_S1)
  show (Scalar.cmpi .ne (Scalar.extui (Scalar.cmpi .eq (tbM0_2.view.readAt (Elt F) (Rect.unit (s := S288) (k0_off1 (grid0.coords t)) S1.size (k0_off1_inb (grid0.coords t))).toLoadRect (tbl m 2) (Shape.Idx.first (numel1_S1.symm ▸ Nat.one_pos)) : BitVec 32) 1#32) : BitVec 32) 0#32) = 1#1 ↔ _
  rw [e]

theorem coord_at : ∀ t : Fin grid0.N, (grid0.coords t 0).val = t.val := by decide +kernel

/-- A new expert begins at the first point. -/
theorem first : First m := by
  intro c h
  rw [new_iff]
  have e0 : grid0.coords (⟨0, h⟩ : Fin grid0.N) 0 = (0 : Fin 288) := Fin.ext (coord_at ⟨0, h⟩)
  rw [e0, changes_first]
  decide

/-- Where no new expert begins, the block's expert is that of the block before it. -/
theorem same (c : Dev nD) (t : Fin grid0.N) (h : ¬ New m c t) : ∃ (hz : t.val ≠ 0), ∀ (h1 : t.val < 288), experts m 0 (ix1 ⟨t.val, h1⟩) = experts m 0 (ix1 ⟨t.val - 1, by omega⟩) := by
  have hz : t.val ≠ 0 := by
    intro hz
    have e : t = ⟨0, Nat.lt_of_le_of_lt (Nat.zero_le _) t.isLt⟩ := Fin.ext hz
    exact h (e ▸ first m c (Nat.lt_of_le_of_lt (Nat.zero_le _) t.isLt))
  refine ⟨hz, fun h1 => ?_⟩
  rw [new_iff] at h
  have e0 : grid0.coords t 0 = (⟨(t.val - 1) + 1, by omega⟩ : Fin 288) := Fin.ext ((coord_at t).trans (by show t.val = t.val - 1 + 1; omega))
  have e1 : (⟨t.val, h1⟩ : Fin 288) = ⟨(t.val - 1) + 1, by omega⟩ := Fin.ext (by show t.val = t.val - 1 + 1; omega)
  rw [e0, changes_succ _ ⟨t.val - 1, by omega⟩] at h
  rw [e1]
  generalize experts m 0 (ix1 ⟨t.val - 1 + 1, by omega⟩) = a at h ⊢
  generalize experts m 0 (ix1 ⟨t.val - 1, by omega⟩) = b at h ⊢
  by_contra hab
  apply h
  have : Scalar.cmpi .ne a b = 1#1 := by
    have hb : (a != b) = true := bne_iff_ne.mpr hab
    show BitVec.ofBool (a != b) = 1#1
    rw [hb]
    rfl
  rw [this]
  decide

end Cert.Kernel3Ideal.Frm

end
-- ==== Proof.XSpec.lean ====
module

public import Idealize.ShloMosaic.Lib.Pipeline.ValueKit
public import Idealize.ShloMosaic.Lib.Pointwise

@[expose] public section

noncomputable section

open Idealize.ShloMosaic
/-! # The experts' multilayer perceptron, one row at a time

`x` is a row of the tokens, `U` and `bu` the first layer's weights and bias, `D` and `bd` the second layer's. The first
1024 columns of the first layer are the gate, the other 1024 the linear part. -/

namespace Cert.Exp

/-- The bound on both halves, and its negative. -/
def hi : EReal := Scalar.ofBits (F := Ideal) .f32 0x40E00000#32
def lo : EReal := Scalar.ofBits (F := Ideal) .f32 0xC0E00000#32
/-- The sigmoid's factor. -/
def alpha : EReal := Scalar.ofBits (F := Ideal) .f32 0x3FD9DB23#32

/-- The activation, of the gate `a` and the linear part `b`. -/
def act (a b : EReal) : EReal :=
  min a hi * Ideal.div 1 (1 + Ideal.exp (0 - alpha * min a hi)) * (min hi (max lo b) + 1)

variable (x : Fin 1024 → EReal) (U : Fin 1024 → Fin 2048 → EReal) (bu : Fin 2048 → EReal)
  (D : Fin 1024 → Fin 1024 → EReal) (bd : Fin 1024 → EReal)

/-- The first layer. -/
def up (j : Fin 2048) : EReal := ∑ k : Fin 1024, x k * U k j + bu j

/-- The activations. -/
def mid (i : Fin 1024) : EReal := act (up x U bu ⟨i.val, by omega⟩) (up x U bu ⟨1024 + i.val, by omega⟩)

/-- The second layer: the row's result. -/
def row (j : Fin 1024) : EReal := ∑ i : Fin 1024, mid x U bu i * D i j + bd j

/-- Equal arguments, equal results. -/
theorem row_congr {x x' : Fin 1024 → EReal} {U U' : Fin 1024 → Fin 2048 → EReal} {bu bu' : Fin 2048 → EReal}
    {D D' : Fin 1024 → Fin 1024 → EReal} {bd bd' : Fin 1024 → EReal} (hx : ∀ k, x k = x' k) (hU : ∀ k j, U k j = U' k j)
    (hbu : ∀ j, bu j = bu' j) (hD : ∀ k j, D k j = D' k j) (hbd : ∀ j, bd j = bd' j) (j : Fin 1024) :
    row x U bu D bd j = row x' U' bu' D' bd' j := by
  obtain rfl : x = x' := funext hx
  obtain rfl : U = U' := funext fun k => funext (hU k)
  obtain rfl : bu = bu' := funext hbu
  obtain rfl : D = D' := funext fun k => funext (hD k)
  obtain rfl : bd = bd' := funext hbd
  rfl

end Cert.Exp

end
-- ==== Proof.XPay.lean ====
module

public import proofs.«01_k».proof.Proof.XSpec
public import proofs.«01_k».proof.Proof.Gen.Kernel3Ideal.Skeleton

@[expose] public section

set_option maxRecDepth 16384

noncomputable section

open Idealize.ShloMosaic Idealize.ShloMosaic.TcCoe Idealize.SL.Sem
/-! # What the experts' kernel computes of its blocks -/

namespace Cert.Kernel3Ideal.Pay
open Cert.Kernel3Ideal Cert.Kernel3Ideal.Gen

variable (x : Vec Ideal S256x1024 .bf16) (U : Vec Ideal S1024x2048 .bf16) (bu : Vec Ideal S1x1x2048 .f32) (D : Vec Ideal S1024x1024 .bf16) (bd : Vec Ideal S1x1x1024 .f32)

theorem pay2_at (w : Vec Ideal S1x1024x2048 .f32) (k : Fin 1024) (j : Fin 2048) : k0_pay2 w (ix2 k j) = w (ix3 0 k j) := by
  pointwise [k0_pay2]

theorem pay3_at (w : Vec Ideal S1x1024x1024 .f32) (k : Fin 1024) (j : Fin 1024) : k0_pay3 w (ix2 k j) = w (ix3 0 k j) := by
  pointwise [k0_pay3]

/-- The activations of a row. -/
theorem pay6_at (r : Fin 256) (i : Fin 1024) :
    k0_pay6 x U bu (ix2 r i) = Exp.mid (fun k => x (ix2 r k)) (fun k j => U (ix2 k j)) (fun j => bu (ix3 0 0 j)) i := by
  pointwise [k0_pay6]
  rfl

/-- The second layer's products, the activations inside. -/
theorem pay4_at (r : Fin 256) (j : Fin 1024) :
    k0_pay4 x U bu D (ix2 r j) = ∑ i : Fin 1024, Exp.mid (fun k => x (ix2 r k)) (fun k j => U (ix2 k j)) (fun j => bu (ix3 0 0 j)) i * D (ix2 i j) := by
  pointwise [k0_pay4]
  rfl

/-- The first half's results. -/
theorem fst_at (r : Fin 256) (j : Fin 1024) :
    k0_pay5 (k0_pay4 x U bu D) bd (ix2 r j) = Exp.row (fun k => x (ix2 r k)) (fun k j => U (ix2 k j)) (fun j => bu (ix3 0 0 j)) (fun i j => D (ix2 i j)) (fun j => bd (ix3 0 0 j)) j := by
  have h := pay4_at x U bu D r j
  generalize k0_pay4 x U bu D = P at h ⊢
  pointwise [k0_pay5]
  rw [h]
  rfl

/-- The second half's results. -/
theorem snd_at (r : Fin 256) (j : Fin 1024) :
    k0_pay1 (k0_pay6 x U bu) D (constant S256x1024 .f32 0x00000000#32) bd (ix2 r j) = Exp.row (fun k => x (ix2 r k)) (fun k j => U (ix2 k j)) (fun j => bu (ix3 0 0 j)) (fun i j => D (ix2 i j)) (fun j => bd (ix3 0 0 j)) j := by
  have h := pay6_at x U bu r
  generalize k0_pay6 x U bu = P at h ⊢
  pointwise [k0_pay1]
  simp only [h]
  rfl

end Cert.Kernel3Ideal.Pay

end
-- ==== Proof.XPt.lean ====
module

public import proofs.«01_k».proof.Proof.XTabI
public import proofs.«01_k».proof.Proof.XPay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
/-! # What a point of the experts' call leaves -/

namespace Cert.Kernel3Ideal.Pt
open Cert.Kernel3Ideal Cert.Kernel3Ideal.Gen Cert.Kernel3Ideal.Frm Cert.Kernel3Ideal.Pay

variable (m : (ℓ : Loc nD τ sig) → Buf (Elt Ideal) ℓ)

/-- The results of a block of rows, of the weights and biases in use. -/
def outBlk (x : Vec Ideal S512x1024 .bf16) (U : Vec Ideal S1024x2048 .bf16) (bu : Vec Ideal S1x1x2048 .f32) (D : Vec Ideal S1024x1024 .bf16) (bd : Vec Ideal S1x1x1024 .f32) : Vec Ideal S512x1024 .bf16 := fun y =>
  Exp.row (fun k => x (ix2 (y 0) k)) (fun k j => U (ix2 k j)) (fun j => bu (ix3 0 0 j)) (fun i j => D (ix2 i j)) (fun j => bd (ix3 0 0 j)) (y 1)

section
variable (X X' : Vec Ideal S512x1024 .bf16) (U U' : Vec Ideal S1024x2048 .bf16) (B B' : Vec Ideal S1x1x2048 .f32) (D D' : Vec Ideal S1024x1024 .bf16) (E E' : Vec Ideal S1x1x1024 .f32)
  (hX : X' = X) (hU : U' = U) (hB : B' = B) (hD : D' = D) (hE : E' = E) (y : S512x1024.Idx) (x : S256x1024.Idx)

include hX hU hB hD hE in
/-- The store of the first half. -/
theorem fst_blk (h0 : (y 0).val = (x 0).val) (h1 : (y 1).val = (x 1).val) :
    k0_pay5 (k0_pay4 (View.ld X' (Rect.unit ![0, 0] ![256, 1024] inb_S512x1024_S256x1024_0_0)) U' B' D') E' x = outBlk X U B D E y := by
  subst hX hU hB hD hE
  obtain ⟨r, j, rfl⟩ : ∃ (r : Fin 256) (j : Fin 1024), x = ix2 r j := ⟨x 0, x 1, by funext a; match a with | ⟨0, _⟩ => rfl | ⟨1, _⟩ => rfl⟩
  refine (fst_at (View.ld X' (Rect.unit ![0, 0] ![256, 1024] inb_S512x1024_S256x1024_0_0)) U' B' D' E' r j).trans ?_
  unfold outBlk
  have e1 : y 1 = j := Fin.ext h1
  rw [e1]
  refine Exp.row_congr (fun k => congrArg X' ?_) (fun _ _ => rfl) (fun _ => rfl) (fun _ _ => rfl) (fun _ => rfl) j
  funext a
  apply Fin.ext
  match a with
  | ⟨0, _⟩ => show 0 + 1 * r.val = (y 0).val; rw [h0]; show 0 + 1 * r.val = r.val; omega
  | ⟨1, _⟩ => show 0 + 1 * k.val = k.val; omega

include hX hU hB hD hE in
/-- The store of the second half. -/
theorem snd_blk (h0 : (y 0).val = 256 + (x 0).val) (h1 : (y 1).val = (x 1).val) :
    k0_pay1 (k0_pay6 (View.ld X' (Rect.unit ![256, 0] ![256, 1024] inb_S512x1024_S256x1024_256_0)) U' B') D' (constant S256x1024 .f32 0#32) E' x = outBlk X U B D E y := by
  subst hX hU hB hD hE
  obtain ⟨r, j, rfl⟩ : ∃ (r : Fin 256) (j : Fin 1024), x = ix2 r j := ⟨x 0, x 1, by funext a; match a with | ⟨0, _⟩ => rfl | ⟨1, _⟩ => rfl⟩
  refine (snd_at (View.ld X' (Rect.unit ![256, 0] ![256, 1024] inb_S512x1024_S256x1024_256_0)) U' B' D' E' r j).trans ?_
  unfold outBlk
  have e1 : y 1 = j := Fin.ext h1
  rw [e1]
  refine Exp.row_congr (fun k => congrArg X' ?_) (fun _ _ => rfl) (fun _ => rfl) (fun _ _ => rfl) (fun _ => rfl) j
  funext a
  apply Fin.ext
  match a with
  | ⟨0, _⟩ => show 256 + 1 * r.val = (y 0).val; rw [h0]; show 256 + 1 * r.val = 256 + r.val; omega
  | ⟨1, _⟩ => show 0 + 1 * k.val = k.val; omega
end

set_option maxHeartbeats 2000000 in
/-- The results of a block that begins no expert. -/
theorem kept_at (hO : Ok m) (c : Dev nD) (t : Fin (cfgM m hO).N) (h : ¬ New m c t) (U : Vec Ideal S1024x2048 .bf16) (D : Vec Ideal S1024x1024 .bf16) (y : S512x1024.Idx) :
    kept m hO c t h U D y = outBlk (iblk m hO c 0 t) U (iblk m hO c 2 t) D (iblk m hO c 4 t) y := by
  unfold kept keepOut runKeep
  frame_out
  simp only [read_unread_whole]
  generalize iblk m hO c 0 t = X
  generalize iblk m hO c 2 t = B
  generalize iblk m hO c 4 t = E
  clear h
  canon_tiles x h
  case piece0 => exact snd_blk X _ U U B _ D D E _ ((hs0_0 m hO t).read_unread X) rfl ((hs0_2 m hO t).read_unread B) rfl ((hs0_4 m hO t).read_unread E) y x h0 h1
  case piece1 => exact fst_blk X _ U U B _ D D E _ ((hs0_0 m hO t).read_unread X) rfl ((hs0_2 m hO t).read_unread B) rfl ((hs0_4 m hO t).read_unread E) y x h0 h1

set_option maxHeartbeats 2000000 in
/-- The first scratch buffer at a block that begins an expert: the expert's first weights. -/
theorem up_at (hO : Ok m) (c : Dev nD) (t : Fin (cfgM m hO).N) (h : New m c t) (y : S1024x2048.Idx) :
    (filled m hO c t h).2.1 y = k0_pay2 (F := Ideal) (iblk m hO c 1 t) y := by
  unfold filled fillUp runFill
  dsimp only
  frame_out
  generalize iblk m hO c 1 t = W
  exact congrArg (fun Z => k0_pay2 (F := Ideal) Z y) ((hs0_1 m hO t).read_unread W)

set_option maxHeartbeats 2000000 in
/-- The second scratch buffer at such a block: the expert's second weights. -/
theorem down_at (hO : Ok m) (c : Dev nD) (t : Fin (cfgM m hO).N) (h : New m c t) (y : S1024x1024.Idx) :
    (filled m hO c t h).2.2 y = k0_pay3 (F := Ideal) (iblk m hO c 3 t) y := by
  unfold filled fillDown runFill
  dsimp only
  frame_out
  generalize iblk m hO c 3 t = W
  exact congrArg (fun Z => k0_pay3 (F := Ideal) Z y) ((hs0_3 m hO t).read_unread W)

set_option maxHeartbeats 2000000 in
/-- The results of a block that begins an expert. -/
theorem filled_at (hO : Ok m) (c : Dev nD) (t : Fin (cfgM m hO).N) (h : New m c t) (y : S512x1024.Idx) :
    (filled m hO c t h).1 y = outBlk (iblk m hO c 0 t) (k0_pay2 (F := Ideal) (iblk m hO c 1 t)) (iblk m hO c 2 t) (k0_pay3 (F := Ideal) (iblk m hO c 3 t)) (iblk m hO c 4 t) y := by
  unfold filled fillOut runFill
  dsimp only
  frame_open
  simp (disch := decide) only [↓ View.readCov_skip, ↓ View.readCov_cons_toLoadRect, ↓ View.readCov_fill]
  frame_out
  generalize iblk m hO c 0 t = X
  generalize iblk m hO c 1 t = W
  generalize iblk m hO c 2 t = B
  generalize iblk m hO c 3 t = Q
  generalize iblk m hO c 4 t = E
  clear h
  canon_tiles x h
  case piece0 => exact snd_blk X _ _ _ B _ _ _ E _ ((hs0_0 m hO t).read_unread X) (congrArg (k0_pay2 (F := Ideal)) ((hs0_1 m hO t).read_unread W)) ((hs0_2 m hO t).read_unread B) (congrArg (k0_pay3 (F := Ideal)) ((hs0_3 m hO t).read_unread Q)) ((hs0_4 m hO t).read_unread E) y x h0 h1
  case piece1 => exact fst_blk X _ _ _ B _ _ _ E _ ((hs0_0 m hO t).read_unread X) (congrArg (k0_pay2 (F := Ideal)) ((hs0_1 m hO t).read_unread W)) ((hs0_2 m hO t).read_unread B) (congrArg (k0_pay3 (F := Ideal)) ((hs0_3 m hO t).read_unread Q)) ((hs0_4 m hO t).read_unread E) y x h0 h1

end Cert.Kernel3Ideal.Pt

end
-- ==== Proof.XBlk.lean ====
module

public import proofs.«01_k».proof.Proof.XTabI
public import proofs.«01_k».proof.Proof.XSpec

@[expose] public section

set_option maxRecDepth 16384

noncomputable section

open Idealize.ShloMosaic Idealize.ShloMosaic.TcCoe Idealize.SL.Sem
open Idealize.ShloMosaic.Pipeline (Dat)
/-! # The blocks that the experts' call is handed -/

namespace Cert.Kernel3Ideal.Pt
open Cert.Kernel3Ideal Cert.Kernel3Ideal.Gen Cert.Kernel3Ideal.Frm

variable (m : (ℓ : Loc nD τ sig) → Buf (Elt Ideal) ℓ)

/-! ## The host's reshapes -/

theorem V_v7 (c : Dev nD) : V m c main_v7 = (shapeCast S32x1024x2048 (m ((c.tc : Thread nD τ).loc main_arg2) : FVec Ideal S1x32x1024x2048 .f32) shapeCasts_S1x32x1024x2048_S32x1024x2048 : FVec Ideal S32x1024x2048 .f32) := by
  show StableHlo.after hostOps0 (fun b => m (c, b)) (Proc.devRef .tc main_v7) = _
  unfold hostOps0
  after_results
  rfl
theorem V_v9 (c : Dev nD) : V m c main_v9 = (shapeCast S32x1x2048 (shapeCast S32x2048 (m ((c.tc : Thread nD τ).loc main_arg3) : FVec Ideal S1x32x2048 .f32) shapeCasts_S1x32x2048_S32x2048) shapeCasts_S32x2048_S32x1x2048 : FVec Ideal S32x1x2048 .f32) := by
  show StableHlo.after hostOps0 (fun b => m (c, b)) (Proc.devRef .tc main_v9) = _
  unfold hostOps0
  after_results
  rfl
theorem V_v10 (c : Dev nD) : V m c main_v10 = (shapeCast S32x1024x1024 (m ((c.tc : Thread nD τ).loc main_arg4) : FVec Ideal S1x32x1024x1024 .f32) shapeCasts_S1x32x1024x1024_S32x1024x1024 : FVec Ideal S32x1024x1024 .f32) := by
  show StableHlo.after hostOps0 (fun b => m (c, b)) (Proc.devRef .tc main_v10) = _
  unfold hostOps0
  after_results
  rfl
theorem V_v12 (c : Dev nD) : V m c main_v12 = (shapeCast S32x1x1024 (shapeCast S32x1024 (m ((c.tc : Thread nD τ).loc main_arg5) : FVec Ideal S1x32x1024 .f32) shapeCasts_S1x32x1024_S32x1024) shapeCasts_S32x1024_S32x1x1024 : FVec Ideal S32x1x1024 .f32) := by
  show StableHlo.after hostOps0 (fun b => m (c, b)) (Proc.devRef .tc main_v12) = _
  unfold hostOps0
  after_results
  rfl

theorem w_up_at (x : FVec Ideal S1x32x1024x2048 .f32) (e : Fin 32) (k : Fin 1024) (j : Fin 2048) :
    (shapeCast S32x1024x2048 x shapeCasts_S1x32x1024x2048_S32x1024x2048 : FVec Ideal S32x1024x2048 .f32) (ix3 e k j) = x (ix4 0 e k j) := by
  pointwise []
theorem b_up_at (x : FVec Ideal S1x32x2048 .f32) (e : Fin 32) (j : Fin 2048) :
    (shapeCast S32x1x2048 (shapeCast S32x2048 x shapeCasts_S1x32x2048_S32x2048) shapeCasts_S32x2048_S32x1x2048 : FVec Ideal S32x1x2048 .f32) (ix3 e 0 j) = x (ix3 0 e j) := by
  pointwise []
theorem w_dn_at (x : FVec Ideal S1x32x1024x1024 .f32) (e : Fin 32) (k : Fin 1024) (j : Fin 1024) :
    (shapeCast S32x1024x1024 x shapeCasts_S1x32x1024x1024_S32x1024x1024 : FVec Ideal S32x1024x1024 .f32) (ix3 e k j) = x (ix4 0 e k j) := by
  pointwise []
theorem b_dn_at (x : FVec Ideal S1x32x1024 .f32) (e : Fin 32) (j : Fin 1024) :
    (shapeCast S32x1x1024 (shapeCast S32x1024 x shapeCasts_S1x32x1024_S32x1024) shapeCasts_S32x1024_S32x1x1024 : FVec Ideal S32x1x1024 .f32) (ix3 e 0 j) = x (ix3 0 e j) := by
  pointwise []

/-! ## The blocks -/

theorem N_at : grid0.N = 288 := by decide +kernel

section
variable (hO : Ok m) (t : Fin (cfgM m hO).N)

/-- The point's number. -/
abbrev num : Fin 288 := ⟨t.val, lt_of_lt_of_eq t.isLt N_at⟩

theorem coords_num : grid0.coords t 0 = num m hO t := Fin.ext (coord_at t)

theorem idx_blk : BitVec.toNat ((tbl m).at 1 (Rect.unit (s := S288) (k0_off1 (grid0.coords t)) S1.size (k0_off1_inb (grid0.coords t))) numel1_S1) = t.val :=
  (blk_at m (grid0.coords t)).trans (coord_at t)

variable (e : Fin 288 → Fin 32) (he : ∀ k, experts m 0 (ix1 k) = BitVec.ofNat 32 (e k).val)

theorem small : ∀ e : Fin 32, (BitVec.ofNat 32 e.val).toNat = e.val := by decide +kernel

include he in
theorem idx_exp : BitVec.toNat ((tbl m).at 0 (Rect.unit (s := S288) (k0_off1 (grid0.coords t)) S1.size (k0_off1_inb (grid0.coords t))) numel1_S1) = (e (num m hO t)).val := by
  rw [exp_at, coords_num m hO t, he]
  exact small _

/-- The block's rows. -/
theorem a0 (c : Dev nD) (r : Fin 512) (k : Fin 1024) : (iblk m hO c 0 t : Vec Ideal S512x1024 .bf16) (ix2 r k) =
    (m ((c.tc : Thread nD τ).loc main_arg1) : FVec Ideal S147456x1024 .bf16) (ix2 ⟨512 * t.val + r.val, by have := (num m hO t).isLt; change t.val < 288 at this; omega⟩ k) := by
  show V m c main_arg1 ((((cfgM m hO).win 0).blk t).view.emb (ix2 r k : S512x1024.Idx)) = _
  rw [V_main_arg1]
  refine congrArg (m ((c.tc : Thread nD τ).loc main_arg1)) ?_
  funext a
  apply Fin.ext
  match a with
  | ⟨0, _⟩ =>
    show BitVec.toNat ((tbl m).at 1 (Rect.unit (s := S288) (k0_off1 (grid0.coords t)) S1.size (k0_off1_inb (grid0.coords t))) numel1_S1) * 512 + 1 * r.val = 512 * t.val + r.val
    rw [idx_blk m hO t]; omega
  | ⟨1, _⟩ => show 0 * 1024 + 1 * k.val = k.val; omega

include he in
/-- The expert's weights and biases. -/
theorem a1 (c : Dev nD) (k : Fin 1024) (j : Fin 2048) : (iblk m hO c 1 t : Vec Ideal S1x1024x2048 .f32) (ix3 0 k j) =
    (m ((c.tc : Thread nD τ).loc main_arg2) : FVec Ideal S1x32x1024x2048 .f32) (ix4 0 (e (num m hO t)) k j) := by
  show V m c main_v7 ((((cfgM m hO).win 1).blk t).view.emb (ix3 0 k j : S1x1024x2048.Idx)) = _
  rw [V_v7]
  refine (congrArg _ ?_).trans (w_up_at (m ((c.tc : Thread nD τ).loc main_arg2)) (e (num m hO t)) k j)
  funext a
  apply Fin.ext
  match a with
  | ⟨0, _⟩ =>
    show BitVec.toNat ((tbl m).at 0 (Rect.unit (s := S288) (k0_off1 (grid0.coords t)) S1.size (k0_off1_inb (grid0.coords t))) numel1_S1) * 1 + 1 * 0 = (e (num m hO t)).val
    rw [idx_exp m hO t e he]; omega
  | ⟨1, _⟩ => show 0 * 1024 + 1 * k.val = k.val; omega
  | ⟨2, _⟩ => show 0 * 2048 + 1 * j.val = j.val; omega

include he in
theorem a2 (c : Dev nD) (j : Fin 2048) : (iblk m hO c 2 t : Vec Ideal S1x1x2048 .f32) (ix3 0 0 j) =
    (m ((c.tc : Thread nD τ).loc main_arg3) : FVec Ideal S1x32x2048 .f32) (ix3 0 (e (num m hO t)) j) := by
  show V m c main_v9 ((((cfgM m hO).win 2).blk t).view.emb (ix3 0 0 j : S1x1x2048.Idx)) = _
  rw [V_v9]
  refine (congrArg _ ?_).trans (b_up_at (m ((c.tc : Thread nD τ).loc main_arg3)) (e (num m hO t)) j)
  funext a
  apply Fin.ext
  match a with
  | ⟨0, _⟩ =>
    show BitVec.toNat ((tbl m).at 0 (Rect.unit (s := S288) (k0_off1 (grid0.coords t)) S1.size (k0_off1_inb (grid0.coords t))) numel1_S1) * 1 + 1 * 0 = (e (num m hO t)).val
    rw [idx_exp m hO t e he]; omega
  | ⟨1, _⟩ => rfl
  | ⟨2, _⟩ => show 0 * 2048 + 1 * j.val = j.val; omega

include he in
theorem a3 (c : Dev nD) (k : Fin 1024) (j : Fin 1024) : (iblk m hO c 3 t : Vec Ideal S1x1024x1024 .f32) (ix3 0 k j) =
    (m ((c.tc : Thread nD τ).loc main_arg4) : FVec Ideal S1x32x1024x1024 .f32) (ix4 0 (e (num m hO t)) k j) := by
  show V m c main_v10 ((((cfgM m hO).win 3).blk t).view.emb (ix3 0 k j : S1x1024x1024.Idx)) = _
  rw [V_v10]
  refine (congrArg _ ?_).trans (w_dn_at (m ((c.tc : Thread nD τ).loc main_arg4)) (e (num m hO t)) k j)
  funext a
  apply Fin.ext
  match a with
  | ⟨0, _⟩ =>
    show BitVec.toNat ((tbl m).at 0 (Rect.unit (s := S288) (k0_off1 (grid0.coords t)) S1.size (k0_off1_inb (grid0.coords t))) numel1_S1) * 1 + 1 * 0 = (e (num m hO t)).val
    rw [idx_exp m hO t e he]; omega
  | ⟨1, _⟩ => show 0 * 1024 + 1 * k.val = k.val; omega
  | ⟨2, _⟩ => show 0 * 1024 + 1 * j.val = j.val; omega

include he in
theorem a4 (c : Dev nD) (j : Fin 1024) : (iblk m hO c 4 t : Vec Ideal S1x1x1024 .f32) (ix3 0 0 j) =
    (m ((c.tc : Thread nD τ).loc main_arg5) : FVec Ideal S1x32x1024 .f32) (ix3 0 (e (num m hO t)) j) := by
  show V m c main_v12 ((((cfgM m hO).win 4).blk t).view.emb (ix3 0 0 j : S1x1x1024.Idx)) = _
  rw [V_v12]
  refine (congrArg _ ?_).trans (b_dn_at (m ((c.tc : Thread nD τ).loc main_arg5)) (e (num m hO t)) j)
  funext a
  apply Fin.ext
  match a with
  | ⟨0, _⟩ =>
    show BitVec.toNat ((tbl m).at 0 (Rect.unit (s := S288) (k0_off1 (grid0.coords t)) S1.size (k0_off1_inb (grid0.coords t))) numel1_S1) * 1 + 1 * 0 = (e (num m hO t)).val
    rw [idx_exp m hO t e he]; omega
  | ⟨1, _⟩ => rfl
  | ⟨2, _⟩ => show 0 * 1024 + 1 * j.val = j.val; omega

end

end Cert.Kernel3Ideal.Pt

end
-- ==== Proof.XVal.lean ====
module

public import proofs.«01_k».proof.Proof.XPt
public import proofs.«01_k».proof.Proof.XBlk

@[expose] public section

set_option maxRecDepth 16384

noncomputable section

open Idealize.ShloMosaic Idealize.ShloMosaic.TcCoe Idealize.SL.Sem
open Idealize.ShloMosaic.Pipeline (Dat)
/-! # What the experts' array holds at the end of the run -/

namespace Cert.Kernel3Ideal.Pt
open Cert.Kernel3Ideal Cert.Kernel3Ideal.Gen Cert.Kernel3Ideal.Frm

variable (m : (ℓ : Loc nD τ sig) → Buf (Elt Ideal) ℓ)

/-! ## The arguments, at plain indices -/

/-- Row `R` of the call's rows. -/
def argX (c : Dev nD) (R : Fin 147456) : Fin 1024 → EReal := fun k => (m ((c.tc : Thread nD τ).loc main_arg1) : FVec Ideal S147456x1024 .bf16) (ix2 R k)
/-- Expert `e`'s first weights. -/
def argU (c : Dev nD) (e : Fin 32) : Fin 1024 → Fin 2048 → EReal := fun k j => (m ((c.tc : Thread nD τ).loc main_arg2) : FVec Ideal S1x32x1024x2048 .f32) (ix4 0 e k j)
/-- Expert `e`'s first biases. -/
def argBU (c : Dev nD) (e : Fin 32) : Fin 2048 → EReal := fun j => (m ((c.tc : Thread nD τ).loc main_arg3) : FVec Ideal S1x32x2048 .f32) (ix3 0 e j)
/-- Expert `e`'s second weights. -/
def argD (c : Dev nD) (e : Fin 32) : Fin 1024 → Fin 1024 → EReal := fun k j => (m ((c.tc : Thread nD τ).loc main_arg4) : FVec Ideal S1x32x1024x1024 .f32) (ix4 0 e k j)
/-- Expert `e`'s second biases. -/
def argBD (c : Dev nD) (e : Fin 32) : Fin 1024 → EReal := fun j => (m ((c.tc : Thread nD τ).loc main_arg5) : FVec Ideal S1x32x1024 .f32) (ix3 0 e j)

section
variable (hO : Ok m) (e : Fin 288 → Fin 32) (he : ∀ k, experts m 0 (ix1 k) = BitVec.ofNat 32 (e k).val)

/-- The blocks that the host handed to point `t` are those of its own expert, whatever the scratch held. -/
theorem block_row (c : Dev nD) (t : Fin (cfgM m hO).N) (U : Vec Ideal S1024x2048 .bf16) (D : Vec Ideal S1024x1024 .bf16)
    (hU : ∀ k j, U (ix2 k j) = argU m c (e (num m hO t)) k j) (hD : ∀ k j, D (ix2 k j) = argD m c (e (num m hO t)) k j)
    (he : ∀ k, experts m 0 (ix1 k) = BitVec.ofNat 32 (e k).val) (r : Fin 512) (j : Fin 1024) (R : Fin 147456) (hR : R.val = 512 * t.val + r.val) :
    outBlk (iblk m hO c 0 t) U (iblk m hO c 2 t) D (iblk m hO c 4 t) (ix2 r j)
      = Exp.row (argX m c R) (argU m c (e (num m hO t))) (argBU m c (e (num m hO t))) (argD m c (e (num m hO t))) (argBD m c (e (num m hO t))) j := by
  refine Exp.row_congr (fun k => ?_) (fun k j => hU k j) (fun j => a2 m hO t e he c j) (fun k j => hD k j) (fun j => a4 m hO t e he c j) j
  refine (a0 m hO t c r k).trans (congrArg (fun R => (m ((c.tc : Thread nD τ).loc main_arg1) : FVec Ideal S147456x1024 .bf16) (ix2 R k)) (Fin.ext hR.symm))

/-- What the scratch buffers hold after point `t`. -/
abbrev Holds (c : Dev nD) (t : Fin (cfgM m hO).N) (q : Fin 32) : Prop :=
  (∀ k j, (outsAt0 m hO c t.val t.isLt).2.1 (ix2 k j) = argU m c q k j) ∧ (∀ k j, (outsAt0 m hO c t.val t.isLt).2.2 (ix2 k j) = argD m c q k j)

/-- The point before `t`. -/
abbrev prev (t : Fin (cfgM m hO).N) : Fin (cfgM m hO).N := ⟨t.val - 1, lt_of_le_of_lt (Nat.sub_le _ _) t.isLt⟩

include he in
/-- At a block that begins an expert the scratch buffers are filled with its weights. -/
theorem holds_fill (c : Dev nD) (t : Fin (cfgM m hO).N) (hN : New m c t) : Holds m hO c t (e (num m hO t)) := by
  have h0 := outsAt0_fill m hO c t hN
  unfold Holds
  generalize outsAt0 m hO c t.val t.isLt = o at h0 ⊢
  refine ⟨fun k j => ?_, fun k j => ?_⟩
  · exact (congrFun (congrArg (fun p : Vec Ideal S512x1024 .bf16 × Vec Ideal S1024x2048 .bf16 × Vec Ideal S1024x1024 .bf16 => p.2.1) h0) (ix2 k j)).trans
      (((up_at m hO c t hN _).trans (Pay.pay2_at _ k j)).trans (a1 m hO t e he c k j))
  · exact (congrFun (congrArg (fun p : Vec Ideal S512x1024 .bf16 × Vec Ideal S1024x2048 .bf16 × Vec Ideal S1024x1024 .bf16 => p.2.2) h0) (ix2 k j)).trans
      (((down_at m hO c t hN _).trans (Pay.pay3_at _ k j)).trans (a3 m hO t e he c k j))

/-- At a block of the expert before, they stay. -/
theorem holds_keep (c : Dev nD) (t : Fin (cfgM m hO).N) (hz : t.val ≠ 0) (hN : ¬ New m c t) (q : Fin 32) (h : Holds m hO c (prev m hO t) q) : Holds m hO c t q := by
  have h0 := outsAt0_keep m hO c t hz hN
  unfold Holds at h ⊢
  generalize outsAt0 m hO c t.val t.isLt = o at h0 ⊢
  refine ⟨fun k j => ?_, fun k j => ?_⟩
  · exact (congrFun (congrArg (fun p : Vec Ideal S512x1024 .bf16 × Vec Ideal S1024x2048 .bf16 × Vec Ideal S1024x1024 .bf16 => p.2.1) h0) (ix2 k j)).trans (h.1 k j)
  · exact (congrFun (congrArg (fun p : Vec Ideal S512x1024 .bf16 × Vec Ideal S1024x2048 .bf16 × Vec Ideal S1024x1024 .bf16 => p.2.2) h0) (ix2 k j)).trans (h.2 k j)

include he in
/-- A block that begins no expert has its predecessor's. -/
theorem same_expert (c : Dev nD) (t : Fin (cfgM m hO).N) (hN : ¬ New m c t) : t.val ≠ 0 ∧ e (num m hO t) = e (num m hO (prev m hO t)) := by
  obtain ⟨hz, hs⟩ := same m c t hN
  refine ⟨hz, Fin.ext ?_⟩
  have h := congrArg BitVec.toNat (((he (num m hO t)).symm.trans (hs (num m hO t).isLt)).trans (he (num m hO (prev m hO t))))
  exact ((small _).symm.trans h).trans (small _)

include he in
/-- THE SCRATCH BUFFERS after point `n` hold the weights of that point's expert. -/
theorem scratch (c : Dev nD) : ∀ (n : ℕ) (hn : n < (cfgM m hO).N), Holds m hO c ⟨n, hn⟩ (e (num m hO ⟨n, hn⟩)) := by
  intro n
  induction n with
  | zero => exact fun hn => holds_fill m hO e he c ⟨0, hn⟩ (first m c hn)
  | succ n ih =>
    intro hn
    by_cases hN : New m c ⟨n + 1, hn⟩
    · exact holds_fill m hO e he c ⟨n + 1, hn⟩ hN
    · obtain ⟨hz, hs⟩ := same_expert m hO e he c ⟨n + 1, hn⟩ hN
      rw [hs]
      exact holds_keep m hO c ⟨n + 1, hn⟩ hz hN _ (ih (Nat.lt_of_succ_lt hn))

include he in
/-- WHAT POINT `t` WRITES BACK: its rows through its expert. -/
theorem block (c : Dev nD) (t : Fin (cfgM m hO).N) (r : Fin 512) (j : Fin 1024) (R : Fin 147456) (hR : R.val = 512 * t.val + r.val) :
    (outsAt0 m hO c t.val t.isLt).1 (ix2 r j)
      = Exp.row (argX m c R) (argU m c (e (num m hO t))) (argBU m c (e (num m hO t))) (argD m c (e (num m hO t))) (argBD m c (e (num m hO t))) j := by
  by_cases hN : New m c t
  · have h0 := outsAt0_fill m hO c t hN
    generalize outsAt0 m hO c t.val t.isLt = o at h0 ⊢
    have hU : ∀ k j, k0_pay2 (F := Ideal) (iblk m hO c 1 t) (ix2 k j) = argU m c (e (num m hO t)) k j := fun k j => (Pay.pay2_at _ k j).trans (a1 m hO t e he c k j)
    have hD : ∀ k j, k0_pay3 (F := Ideal) (iblk m hO c 3 t) (ix2 k j) = argD m c (e (num m hO t)) k j := fun k j => (Pay.pay3_at _ k j).trans (a3 m hO t e he c k j)
    have h1 := filled_at m hO c t hN (ix2 r j)
    have h2 := block_row m hO e c t (k0_pay2 (F := Ideal) (iblk m hO c 1 t)) (k0_pay3 (F := Ideal) (iblk m hO c 3 t)) hU hD he r j R hR
    have h3 := congrFun (congrArg (fun p : Vec Ideal S512x1024 .bf16 × Vec Ideal S1024x2048 .bf16 × Vec Ideal S1024x1024 .bf16 => p.1) h0) (ix2 r j)
    exact h3.trans (h1.trans h2)
  · obtain ⟨hz, hs⟩ := same_expert m hO e he c t hN
    have ih := scratch m hO e he c (t.val - 1) (prev m hO t).isLt
    unfold Holds at ih
    have h0 := outsAt0_keep m hO c t hz hN
    generalize outsAt0 m hO c (t.val - 1) (Nat.lt_of_le_of_lt (Nat.sub_le _ _) t.isLt) = b at h0 ih
    obtain ⟨b0, U, D⟩ := b
    have hU : ∀ k j, U (ix2 k j) = argU m c (e (num m hO t)) k j := fun k j => (ih.1 k j).trans (congrArg (fun q => argU m c q k j) hs.symm)
    have hD : ∀ k j, D (ix2 k j) = argD m c (e (num m hO t)) k j := fun k j => (ih.2 k j).trans (congrArg (fun q => argD m c q k j) hs.symm)
    dsimp only at h0
    have h2 := block_row m hO e c t U D hU hD he r j R hR
    rw [← kept_at m hO c t hN U D (ix2 r j)] at h2
    rw [← h2, h0]

/-- The call's results: row `R` is that of block `R / 512`, whose expert is `e (R / 512)`. -/
def G (c : Dev nD) : FVec Ideal S147456x1024 .bf16 := fun i =>
  Exp.row (argX m c (i 0)) (argU m c (e ⟨(i 0).val / 512, by have h : (i 0).val < 147456 := (i 0).isLt; omega⟩))
    (argBU m c (e ⟨(i 0).val / 512, by have h : (i 0).val < 147456 := (i 0).isLt; omega⟩))
    (argD m c (e ⟨(i 0).val / 512, by have h : (i 0).val < 147456 := (i 0).isLt; omega⟩))
    (argBD m c (e ⟨(i 0).val / 512, by have h : (i 0).val < 147456 := (i 0).isLt; omega⟩)) (i 1)

/-- The output's block at point `t` is block `t` of the rows. -/
theorem out_index (t : Fin (cfgM m hO).N) : ((cfgM m hO).win 5).index t = ![t.val, 0] := by
  show ![BitVec.toNat ((tbl m).at 1 (Rect.unit (s := S288) (k0_off1 (grid0.coords t)) S1.size (k0_off1_inb (grid0.coords t))) numel1_S1), 0] = ![t.val, 0]
  rw [idx_blk m hO t]

theorem flush_all (t : Fin (cfgM m hO).N) : ((cfgM m hO).win 5).flush t = true := by
  unfold Pipeline.Window.flush
  by_cases h : t.val + 1 = (cfgM m hO).N
  · exact Bool.and_eq_true_iff.2 ⟨rfl, Bool.or_eq_true_iff.2 (Or.inl (decide_eq_true h))⟩
  · refine Bool.and_eq_true_iff.2 ⟨rfl, Bool.or_eq_true_iff.2 (Or.inr (decide_eq_true ⟨lt_of_le_of_ne (Nat.succ_le_of_lt t.isLt) h, fun hc => ?_⟩))⟩
    rw [out_index m hO, out_index m hO] at hc
    have := congrFun hc 0
    change t.val + 1 = t.val at this
    omega

include he in
theorem flushed_eq (c : Dev nD) (t : Fin (cfgM m hO).N) : (dats m hO 0 c).flushed 5 t = (((cfgM m hO).win 5).blk t).view.read (Elt Ideal) (G m e c) := by
  show ((cfgM m hO).win 5).cut (grid0.coords t) ((dats m hO 0 c).after 5 t) = _
  rw [after0_5]
  refine funext fun (y : S512x1024.Idx) => ?_
  have hy0 : (y 0).val < 512 := (y 0).isLt
  have hy1 : (y 1).val < 1024 := (y 1).isLt
  have ht : t.val < 288 := lt_of_lt_of_eq t.isLt N_at
  have hi := out_index m hO t
  let z : S147456x1024.Idx := (((cfgM m hO).win 5).blk t).view.emb y
  have hb0 : (z 0).val = 512 * t.val + (y 0).val := by
    show ((cfgM m hO).win 5).index t (0 : Fin 2) * 512 + 1 * (y 0).val = _
    rw [hi]; show t.val * 512 + 1 * (y 0).val = _; omega
  have hb1 : (z 1).val = (y 1).val := by
    show ((cfgM m hO).win 5).index t (1 : Fin 2) * 1024 + 1 * (y 1).val = _
    rw [hi]; show 0 * 1024 + 1 * (y 1).val = _; omega
  have ey : ((cfgM m hO).win 5).xinj (grid0.coords t) y = (ix2 (y 0) (y 1) : S512x1024.Idx) := by
    refine funext fun (a : Fin 2) => Fin.ext ?_
    match a with
    | ⟨0, _⟩ => rfl
    | ⟨1, _⟩ => rfl
  show (outsAt0 m hO c t.val t.isLt).1 (((cfgM m hO).win 5).xinj (grid0.coords t) y) = G m e c z
  rw [ey]
  refine (block m hO e he c t (y 0) (y 1) (z 0) hb0).trans ?_
  have hq : (⟨(z 0).val / 512, by rw [hb0]; omega⟩ : Fin 288) = num m hO t := Fin.ext (by show (z 0).val / 512 = t.val; rw [hb0]; omega)
  have hj : (y 1 : Fin 1024) = z 1 := Fin.ext hb1.symm
  rw [hj]
  exact congrArg (fun q => Exp.row (argX m c (z 0)) (argU m c (e q)) (argBU m c (e q)) (argD m c (e q)) (argBD m c (e q)) (z 1)) hq.symm

theorem covered (i : S147456x1024.Idx) : ∃ t : Fin (cfgM m hO).N, ((cfgM m hO).win 5).flush t = true ∧ i ∈ (((cfgM m hO).win 5).blk t).view.set := by
  have h0 : (i 0).val < 147456 := (i 0).isLt
  have h1 : (i 1).val < 1024 := (i 1).isLt
  refine ⟨⟨(i 0).val / 512, lt_of_lt_of_eq (by omega) N_at.symm⟩, flush_all m hO _, ?_⟩
  have hi := out_index m hO ⟨(i 0).val / 512, lt_of_lt_of_eq (by omega) N_at.symm⟩
  refine (Finset.ext_iff.1 (View.set_slice_whole main_v13 (((cfgM m hO).win 5).rect _)) i).2 (Rect.mem_set_unit.2 ?_)
  refine fun (a : Fin 2) => ?_
  match a with
  | ⟨0, _⟩ =>
    show ((cfgM m hO).win 5).index _ (0 : Fin 2) * 512 ≤ (i 0).val ∧ (i 0).val < ((cfgM m hO).win 5).index _ (0 : Fin 2) * 512 + 512
    rw [hi]; show (i 0).val / 512 * 512 ≤ (i 0).val ∧ (i 0).val < (i 0).val / 512 * 512 + 512; omega
  | ⟨1, _⟩ =>
    show ((cfgM m hO).win 5).index _ (1 : Fin 2) * 1024 ≤ (i 1).val ∧ (i 1).val < ((cfgM m hO).win 5).index _ (1 : Fin 2) * 1024 + 1024
    rw [hi]; show 0 * 1024 ≤ (i 1).val ∧ (i 1).val < 0 * 1024 + 1024; omega

include he in
/-- THE ARRAY after the run: every row through its block's expert. -/
theorem final (c : Dev nD) : (dats m hO 0 c).arrAt 5 (cfgM m hO).N = G m e c :=
  (dats m hO 0 c).arrAt_eq_of_cover 5 (G m e c) (fun t _ => flushed_eq m hO e he c t) (covered m hO)

include he in
/-- THE RUN: every execution ends with the results in the array and the arguments unchanged. -/
theorem run (hO : Ok m) (ρ : Dev nD → PrngReg) : θ_run defs (onTc (τ := τ) (main (F := Ideal))) ⟨m, fun _ => 0, ρ⟩ (fun r => ∀ c : Dev nD,
      r.2.mem ((c.tc : Thread nD τ).loc main_v13) = G m e c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final m hO e he c), h.2 c⟩)
    (θ_run_and (run_main m ρ hO (first m)) (unchanged m ρ hO (first m)))

end

end Cert.Kernel3Ideal.Pt

end
-- ==== Proof.XRef.lean ====
module

public import proofs.«01_k».proof.Proof.XSpec
public import proofs.«01_k».proof.Proof.Gen.Reference3Ideal.Run
public import Idealize.ShloMosaic.Lib.WordCmp

@[expose] public section

set_option maxRecDepth 16384

noncomputable section

open Idealize.ShloMosaic Idealize.ShloMosaic.TcCoe Idealize.SL.Sem
/-! # The experts' reference: its loop over the blocks -/

namespace Cert.Reference3Ideal.Ref
open Cert.Reference3Ideal Cert.Reference3Ideal.Gen Cert.Reference3Ideal.Value Idealize.ShloMosaic.StableHlo

theorem iv_int : ∀ k : Fin 288, (Scf.iv 0#32 1#32 k.val : BitVec 32).toInt = (k.val : ℤ) := by decide +kernel

/-- What the loop carries. -/
abbrev xsOf (V : Valuation τ sig (Elt Ideal)) : FVec Ideal S288x512x1024 .bf16 := V (Proc.devRef .tc main_v6_0)
abbrev expOf (V : Valuation τ sig (Elt Ideal)) : IVec S288 32 := V (Proc.devRef .tc main_v6_1)
abbrev upOf (V : Valuation τ sig (Elt Ideal)) : FVec Ideal S32x1024x2048 .f32 := V (Proc.devRef .tc main_v6_2)
abbrev bupOf (V : Valuation τ sig (Elt Ideal)) : FVec Ideal S32x2048 .f32 := V (Proc.devRef .tc main_v6_3)
abbrev dnOf (V : Valuation τ sig (Elt Ideal)) : FVec Ideal S32x1024x1024 .f32 := V (Proc.devRef .tc main_v6_4)
abbrev bdnOf (V : Valuation τ sig (Elt Ideal)) : FVec Ideal S32x1024 .f32 := V (Proc.devRef .tc main_v6_5)
abbrev outOf (V : Valuation τ sig (Elt Ideal)) : FVec Ideal S288x512x1024 .f32 := V (Proc.devRef .tc main_v6_7)

theorem fit1 (k : Fin 288) : S288.Slices ![k.val] S1 := by revert k; decide +kernel
theorem fit3 (k : Fin 288) : S288x512x1024.Slices ![k.val, 0, 0] S1x512x1024 := by revert k; decide +kernel
theorem fitU (e : Fin 32) : S32x1024x2048.Slices ![e.val, 0, 0] S1x1024x2048 := by revert e; decide +kernel
theorem fitBU (e : Fin 32) : S32x2048.Slices ![e.val, 0] S1x2048 := by revert e; decide +kernel
theorem fitD (e : Fin 32) : S32x1024x1024.Slices ![e.val, 0, 0] S1x1024x1024 := by revert e; decide +kernel
theorem fitBD (e : Fin 32) : S32x1024.Slices ![e.val, 0] S1x1024 := by revert e; decide +kernel

/-- An expert's number is not negative, so the wrap leaves it. -/
theorem wrap_int : ∀ e : Fin 32, (Scalar.select (Scalar.cmpi .slt (BitVec.ofNat 32 e.val) 0#32) (Scalar.addi (BitVec.ofNat 32 e.val) 32#32) (BitVec.ofNat 32 e.val) : BitVec 32).toInt = (e.val : ℤ) := by decide +kernel

section
variable (V : Valuation τ sig (Elt Ideal)) (k : Fin 288) (e : Fin 32) (hc : V (Proc.devRef .tc main_v6_6) = fun _ => Scf.iv 0#32 1#32 k.val)
  (he : expOf V (ix1 k) = BitVec.ofNat 32 e.val)

include hc he in
/-- The block's expert. -/
theorem word : res_main_while0b_v10 V = fun _ => BitVec.ofNat 32 e.val := by
  unfold res_main_while0b_v10
  rw [hc, WordCmp.dynamicSlice_eq_extract S1 _ _ _ ![k.val] (fit1 k)]
  · rw [← he]
    show (shapeCast S_ (extractStridedSlice S1 ![k.val] (expOf V) (fit1 k)) shapeCasts_S1_S_ : IVec S_ 32) = _
    generalize expOf V = E
    funext i
    obtain rfl : i = ix0 := Subsingleton.elim _ _
    pointwise []
  · intro a
    match a with
    | ⟨0, _⟩ => exact iv_int k

/-- The first layer, of a row of the block and the block's expert. -/
abbrev upRow (r : Fin 512) (j : Fin 2048) : EReal :=
  Exp.up (fun i => xsOf V (ix3 k r i)) (fun i j => upOf V (ix3 e i j)) (fun j => bupOf V (ix2 e j)) j

include hc he in
theorem v33_at (r : Fin 512) (j : Fin 2048) : (res_main_while0b_v33 V : FVec Ideal S512x2048 .f32) (ix2 r j) = upRow V k e r j := by
  unfold res_main_while0b_v33
  rw [word V k e hc he, hc]
  rw [WordCmp.dynamicSlice_eq_extract S1x512x1024 _ _ _ ![k.val, 0, 0] (fit3 k), WordCmp.dynamicSlice_eq_extract S1x1024x2048 _ _ _ ![e.val, 0, 0] (fitU e), WordCmp.dynamicSlice_eq_extract S1x2048 _ _ _ ![e.val, 0] (fitBU e)]
  · unfold upRow Exp.up
    show (addf (Host.dotGeneral (φ₁ := .bf16) (φ₂ := .f32) dot_S512x1024_S1024x2048_S512x2048_1_0_0_1_n_n none (shapeCast S512x1024 (extractStridedSlice S1x512x1024 ![k.val, 0, 0] (xsOf V) (fit3 k)) shapeCasts_S1x512x1024_S512x1024)
      (shapeCast S1024x2048 (extractStridedSlice S1x1024x2048 ![e.val, 0, 0] (upOf V) (fitU e)) shapeCasts_S1x1024x2048_S1024x2048))
      (broadcastInDim S512x2048 ![0, 1] bcast_S1x2048_S512x2048_0_1 (broadcastInDim S1x2048 ![1] bcast_S2048_S1x2048_1 (shapeCast S2048 (extractStridedSlice S1x2048 ![e.val, 0] (bupOf V) (fitBU e)) shapeCasts_S1x2048_S2048))) : FVec Ideal S512x2048 .f32) (ix2 r j) = _
    generalize xsOf V = X
    generalize upOf V = U
    generalize bupOf V = B
    pointwise []
  all_goals
    intro a
    first
    | (match a with
       | ⟨0, _⟩ => first | exact iv_int k | exact wrap_int e
       | ⟨1, _⟩ => rfl
       | ⟨2, _⟩ => rfl)
    | (match a with
       | ⟨0, _⟩ => exact wrap_int e
       | ⟨1, _⟩ => rfl)

include hc he in
theorem v36_at (r : Fin 512) (j : Fin 1024) : (res_main_while0b_v36 V : FVec Ideal S512x1024 .f32) (ix2 r j) = min (upRow V k e r ⟨j.val, by omega⟩) Exp.hi := by
  have h := v33_at V k e hc he r
  unfold res_main_while0b_v36
  change ∀ j, (res_main_while0b_v33 V : FVec Ideal S512x2048 .f32) (ix2 r j) = _ at h
  generalize (res_main_while0b_v33 V : FVec Ideal S512x2048 .f32) = P at h ⊢
  pointwise []
  rw [h]
  rfl

/-- The result of a row of the block. -/
abbrev resRow (r : Fin 512) (j : Fin 1024) : EReal :=
  Exp.row (fun i => xsOf V (ix3 k r i)) (fun i j => upOf V (ix3 e i j)) (fun j => bupOf V (ix2 e j)) (fun i j => dnOf V (ix3 e i j)) (fun j => bdnOf V (ix2 e j)) j

include hc he in
/-- One trip puts its block's results at its own number and leaves the rest. -/
theorem step7 (n : Fin 288) (r : Fin 512) (j : Fin 1024) :
    (step_main_v6_7 V : FVec Ideal S288x512x1024 .f32) (ix3 n r j) = if n = k then resRow V k e r j else outOf V (ix3 n r j) := by
  have h33 := v33_at V k e hc he r
  have h36 := v36_at V k e hc he r
  unfold step_main_v6_7
  rw [word V k e hc he, hc]
  rw [WordCmp.dynamicUpdateSlice_eq_update _ _ _ _ ![k.val, 0, 0] (fit3 k), WordCmp.dynamicSlice_eq_extract S1x1024x1024 _ _ _ ![e.val, 0, 0] (fitD e), WordCmp.dynamicSlice_eq_extract S1x1024 _ _ _ ![e.val, 0] (fitBD e)]
  · unfold resRow Exp.row Exp.mid Exp.act
    generalize (res_main_while0b_v33 V : FVec Ideal S512x2048 .f32) = P at h33 ⊢
    generalize (res_main_while0b_v36 V : FVec Ideal S512x1024 .f32) = Q at h36 ⊢
    change (id (updateSlice (outOf V) (broadcastInDim S1x512x1024 ![1, 2] bcast_S512x1024_S1x512x1024_1_2 (addf (Host.dotGeneral (φ₁ := .f32) (φ₂ := .f32) dot_S512x1024_S1024x1024_S512x1024_1_0_0_1_n_n none _ (shapeCast S1024x1024 (extractStridedSlice S1x1024x1024 ![e.val, 0, 0] (dnOf V) (fitD e)) shapeCasts_S1x1024x1024_S1024x1024))
      (broadcastInDim S512x1024 ![0, 1] bcast_S1x1024_S512x1024_0_1 (broadcastInDim S1x1024 ![1] bcast_S1024_S1x1024_1 (shapeCast S1024 (extractStridedSlice S1x1024 ![e.val, 0] (bdnOf V) (fitBD e)) shapeCasts_S1x1024_S1024))))) ![k.val, 0, 0] (fit3 k)) : FVec Ideal S288x512x1024 .f32) (ix3 n r j) = _
    generalize outOf V = O
    generalize dnOf V = D
    generalize bdnOf V = B
    simp only [id_eq]
    pointwise []
    by_cases hn : n = k
    · subst hn
      rw [if_pos rfl, dif_pos ⟨le_refl _, Nat.lt_succ_self _⟩]
      simp only [h33, h36, zero_sub]
      rfl
    · rw [if_neg hn, dif_neg fun h => hn (Fin.ext (by omega))]
  all_goals
    intro a
    first
    | (match a with
       | ⟨0, _⟩ => first | exact iv_int k | exact wrap_int e
       | ⟨1, _⟩ => rfl
       | ⟨2, _⟩ => rfl)
    | (match a with
       | ⟨0, _⟩ => exact wrap_int e
       | ⟨1, _⟩ => rfl)
end

end Cert.Reference3Ideal.Ref

end
-- ==== Proof.XRefVal.lean ====
module

public import proofs.«01_k».proof.Proof.XRef

@[expose] public section

set_option maxRecDepth 16384

noncomputable section

open Idealize.ShloMosaic Idealize.ShloMosaic.TcCoe Idealize.SL.Sem
/-! # The experts' reference: its result -/

namespace Cert.Reference3Ideal.Ref
open Cert.Reference3Ideal Cert.Reference3Ideal.Gen Cert.Reference3Ideal.Value Idealize.ShloMosaic.StableHlo

/-! ## All the trips -/

section
variable (V : Valuation τ sig (Elt Ideal)) (hc : V (Proc.devRef .tc main_v6_6) = fun _ => Scf.iv 0#32 1#32 0)

include hc in
theorem iter_ctr : ∀ k, STEP^[k] V (Proc.devRef .tc main_v6_6) = fun _ => Scf.iv 0#32 1#32 k
  | 0 => hc
  | k + 1 => by
    rw [Function.iterate_succ_apply', STEP_main_v6_6, Scf.iv_succ]
    unfold step_main_v6_6
    rw [iter_ctr k]
    rfl
theorem iter_xs : ∀ k, xsOf (STEP^[k] V) = xsOf V
  | 0 => rfl
  | k + 1 => by
    rw [Function.iterate_succ_apply']
    exact (STEP_main_v6_0 _).trans (iter_xs k)
theorem iter_exp : ∀ k, expOf (STEP^[k] V) = expOf V
  | 0 => rfl
  | k + 1 => by
    rw [Function.iterate_succ_apply']
    exact (STEP_main_v6_1 _).trans (iter_exp k)
theorem iter_up : ∀ k, upOf (STEP^[k] V) = upOf V
  | 0 => rfl
  | k + 1 => by
    rw [Function.iterate_succ_apply']
    exact (STEP_main_v6_2 _).trans (iter_up k)
theorem iter_bup : ∀ k, bupOf (STEP^[k] V) = bupOf V
  | 0 => rfl
  | k + 1 => by
    rw [Function.iterate_succ_apply']
    exact (STEP_main_v6_3 _).trans (iter_bup k)
theorem iter_dn : ∀ k, dnOf (STEP^[k] V) = dnOf V
  | 0 => rfl
  | k + 1 => by
    rw [Function.iterate_succ_apply']
    exact (STEP_main_v6_4 _).trans (iter_dn k)
theorem iter_bdn : ∀ k, bdnOf (STEP^[k] V) = bdnOf V
  | 0 => rfl
  | k + 1 => by
    rw [Function.iterate_succ_apply']
    exact (STEP_main_v6_5 _).trans (iter_bdn k)

variable (e : Fin 288 → Fin 32) (he : ∀ k, expOf V (ix1 k) = BitVec.ofNat 32 (e k).val)

include hc he in
/-- Before trip `k` the blocks up to `k` hold their results. -/
theorem iter_out (n : Fin 288) (r : Fin 512) (j : Fin 1024) : ∀ k, k ≤ 288 → n.val < k → outOf (STEP^[k] V) (ix3 n r j) = resRow V n (e n) r j
  | 0, _, hn => absurd hn (by omega)
  | k + 1, hk, hn => by
    rw [Function.iterate_succ_apply']
    show (STEP (STEP^[k] V) (Proc.devRef .tc main_v6_7) : FVec Ideal S288x512x1024 .f32) (ix3 n r j) = _
    rw [STEP_main_v6_7, step7 (STEP^[k] V) ⟨k, by omega⟩ (e ⟨k, by omega⟩) (iter_ctr V hc k) (by rw [iter_exp]; exact he _)]
    by_cases hq : n = ⟨k, by omega⟩
    · rw [if_pos hq]
      unfold resRow
      rw [iter_xs, iter_up, iter_bup, iter_dn, iter_bdn, hq]
    · rw [if_neg hq, iter_out n r j k (by omega) (by have : n.val ≠ k := fun h => hq (Fin.ext h); omega)]
end

/-! ## What the loop begins with -/

section
variable (m : (ℓ : Loc nD τ sig) → Buf (Elt Ideal) ℓ) (c : Dev nD)

theorem e_xs : xsOf (entryContents preI m c) = shapeCast S288x512x1024 (m ((c.tc : Thread nD τ).loc main_arg1) : FVec Ideal S147456x1024 .bf16) shapeCasts_S147456x1024_S288x512x1024 := by
  show after hostOps0 (fun b => m (c, b)) (Proc.devRef .tc main_v6_0) = _
  unfold hostOps0
  after_results
  rfl
theorem e_exp : expOf (entryContents preI m c) = (m ((c.tc : Thread nD τ).loc main_arg0) : IVec S288 32) := by
  show after hostOps0 (fun b => m (c, b)) (Proc.devRef .tc main_v6_1) = _
  unfold hostOps0
  after_results
  rfl
theorem e_up : upOf (entryContents preI m c) = shapeCast S32x1024x2048 (m ((c.tc : Thread nD τ).loc main_arg2) : FVec Ideal S1x32x1024x2048 .f32) shapeCasts_S1x32x1024x2048_S32x1024x2048 := by
  show after hostOps0 (fun b => m (c, b)) (Proc.devRef .tc main_v6_2) = _
  unfold hostOps0
  after_results
  rfl
theorem e_bup : bupOf (entryContents preI m c) = shapeCast S32x2048 (m ((c.tc : Thread nD τ).loc main_arg3) : FVec Ideal S1x32x2048 .f32) shapeCasts_S1x32x2048_S32x2048 := by
  show after hostOps0 (fun b => m (c, b)) (Proc.devRef .tc main_v6_3) = _
  unfold hostOps0
  after_results
  rfl
theorem e_dn : dnOf (entryContents preI m c) = shapeCast S32x1024x1024 (m ((c.tc : Thread nD τ).loc main_arg4) : FVec Ideal S1x32x1024x1024 .f32) shapeCasts_S1x32x1024x1024_S32x1024x1024 := by
  show after hostOps0 (fun b => m (c, b)) (Proc.devRef .tc main_v6_4) = _
  unfold hostOps0
  after_results
  rfl
theorem e_bdn : bdnOf (entryContents preI m c) = shapeCast S32x1024 (m ((c.tc : Thread nD τ).loc main_arg5) : FVec Ideal S1x32x1024 .f32) shapeCasts_S1x32x1024_S32x1024 := by
  show after hostOps0 (fun b => m (c, b)) (Proc.devRef .tc main_v6_5) = _
  unfold hostOps0
  after_results
  rfl
end

theorem rows_at (x : FVec Ideal S147456x1024 .bf16) (n : Fin 288) (r : Fin 512) (k : Fin 1024) :
    shapeCast S288x512x1024 x shapeCasts_S147456x1024_S288x512x1024 (ix3 n r k) = x (ix2 ⟨n.val * 512 + r.val, by omega⟩ k) := by
  pointwise []
theorem up_at (x : FVec Ideal S1x32x1024x2048 .f32) (e : Fin 32) (k : Fin 1024) (j : Fin 2048) :
    shapeCast S32x1024x2048 x shapeCasts_S1x32x1024x2048_S32x1024x2048 (ix3 e k j) = x (ix4 0 e k j) := by
  pointwise []
theorem bup_at (x : FVec Ideal S1x32x2048 .f32) (e : Fin 32) (j : Fin 2048) :
    shapeCast S32x2048 x shapeCasts_S1x32x2048_S32x2048 (ix2 e j) = x (ix3 0 e j) := by
  pointwise []
theorem dn_at (x : FVec Ideal S1x32x1024x1024 .f32) (e : Fin 32) (k : Fin 1024) (j : Fin 1024) :
    shapeCast S32x1024x1024 x shapeCasts_S1x32x1024x1024_S32x1024x1024 (ix3 e k j) = x (ix4 0 e k j) := by
  pointwise []
theorem bdn_at (x : FVec Ideal S1x32x1024 .f32) (e : Fin 32) (j : Fin 1024) :
    shapeCast S32x1024 x shapeCasts_S1x32x1024_S32x1024 (ix2 e j) = x (ix3 0 e j) := by
  pointwise []
theorem back_at (x : FVec Ideal S288x512x1024 .f32) (R : Fin 147456) (j : Fin 1024) :
    (truncf .bf16 (shapeCast S147456x1024 x shapeCasts_S288x512x1024_S147456x1024) bitsLt_bf16_f32 : FVec Ideal S147456x1024 .bf16) (ix2 R j) = x (ix3 ⟨R.val / 512, by omega⟩ ⟨R.val % 512, by omega⟩ j) := by
  pointwise []

/-- The reference's result: each row's multilayer perceptron at its block's expert. -/
theorem result (m : (ℓ : Loc nD τ sig) → Buf (Elt Ideal) ℓ) (c : Dev nD) (e : Fin 288 → Fin 32)
    (he : ∀ k, (m ((c.tc : Thread nD τ).loc main_arg0) : IVec S288 32) (ix1 k) = BitVec.ofNat 32 (e k).val) (R : Fin 147456) (j : Fin 1024) :
    (out_main_v8 (STEP^[288] (entryContents preI m c)) : FVec Ideal S147456x1024 .bf16) (ix2 R j)
      = Exp.row (fun k => (m ((c.tc : Thread nD τ).loc main_arg1) : FVec Ideal S147456x1024 .bf16) (ix2 R k))
          (fun k j => (m ((c.tc : Thread nD τ).loc main_arg2) : FVec Ideal S1x32x1024x2048 .f32) (ix4 0 (e ⟨R.val / 512, by omega⟩) k j))
          (fun j => (m ((c.tc : Thread nD τ).loc main_arg3) : FVec Ideal S1x32x2048 .f32) (ix3 0 (e ⟨R.val / 512, by omega⟩) j))
          (fun k j => (m ((c.tc : Thread nD τ).loc main_arg4) : FVec Ideal S1x32x1024x1024 .f32) (ix4 0 (e ⟨R.val / 512, by omega⟩) k j))
          (fun j => (m ((c.tc : Thread nD τ).loc main_arg5) : FVec Ideal S1x32x1024 .f32) (ix3 0 (e ⟨R.val / 512, by omega⟩) j)) j := by
  unfold out_main_v8
  refine (back_at (outOf (STEP^[288] (entryContents preI m c))) R j).trans ?_
  rw [iter_out (entryContents preI m c) (by rw [ctr_entry]; rfl) e (fun k => by rw [e_exp]; exact he k) ⟨R.val / 512, by omega⟩ ⟨R.val % 512, by omega⟩ j 288 (le_refl _) (by show R.val / 512 < 288; omega)]
  have hR : (⟨R.val / 512 * 512 + R.val % 512, by omega⟩ : Fin 147456) = R := Fin.ext (by show R.val / 512 * 512 + R.val % 512 = R.val; omega)
  exact Exp.row_congr (fun k => (congrFun (e_xs m c) _).trans ((rows_at _ ⟨R.val / 512, by omega⟩ ⟨R.val % 512, by omega⟩ k).trans (by rw [hR])))
    (fun k j => (congrFun (e_up m c) _).trans (up_at _ _ k j)) (fun j => (congrFun (e_bup m c) _).trans (bup_at _ _ j))
    (fun k j => (congrFun (e_dn m c) _).trans (dn_at _ _ k j)) (fun j => (congrFun (e_bdn m c) _).trans (bdn_at _ _ j)) j

end Cert.Reference3Ideal.Ref

end
-- ==== Proof.XPre.lean ====
module

public import proofs.«01_k».proof.Pre_names_experts
public import Idealize.ShloMosaic.Lib.Pointwise

@[expose] public section

noncomputable section

open Idealize.ShloMosaic
/-! # What the precondition on the experts' numbers says -/

namespace Cert.Pre_names_experts

/-- A word that is signed at least 0 and signed below 32 is below 32. -/
theorem below (x : BitVec 32) (h : BitVec.ofBool ((0#32).sle x) &&& BitVec.ofBool (x.slt 32#32) = 1#1) : x.toNat < 32 := by
  have hb : (0#32).sle x = true ∧ x.slt 32#32 = true := by
    revert h
    cases (0#32).sle x <;> cases x.slt 32#32 <;> decide
  obtain ⟨h0, h1⟩ := hb
  rw [BitVec.sle, decide_eq_true_eq] at h0
  rw [BitVec.slt, decide_eq_true_eq] at h1
  have e0 : (0#32).toInt = 0 := by decide
  have e1 : (32#32).toInt = 32 := by decide
  rw [e0] at h0
  rw [e1] at h1
  rw [BitVec.toInt_eq_toNat_cond] at h0 h1
  have := x.isLt
  split at h0 <;> omega

/-- Under the precondition every block names one of the 32 experts. -/
theorem named [Facts] {F : FTy → Type} [FloatOps F] (a0 : IVec S288 32) (a1 : FVec F S147456x1024 .bf16) (a2 : FVec F S1x32x1024x2048 .f32) (a3 : FVec F S1x32x2048 .f32) (a4 : FVec F S1x32x1024x1024 .f32) (a5 : FVec F S1x32x1024 .f32)
    (h : fn (F := F) a0 a1 a2 a3 a4 a5 = fun _ => 1#1) (i : S288.Idx) : (a0 i).toNat < 32 := by
  apply below
  exact congrFun h i

end Cert.Pre_names_experts

end
-- ==== Proof.XEnd.lean ====
module

public import proofs.«01_k».proof.Defs
public import proofs.«01_k».proof.Proof.XVal
public import proofs.«01_k».proof.Proof.XTab
public import proofs.«01_k».proof.Proof.XRefVal
public import proofs.«01_k».proof.Proof.XPre

@[expose] public section

noncomputable section

open Idealize.ShloMosaic Idealize.ShloMosaic.TcCoe Idealize.SL.Sem
/-! # The experts' call and its reference: the frames and the equality of the results -/

namespace Cert.ExpEnd

instance facts : Cert.Pre_names_experts.Facts := ⟨by decide⟩

/-- Under the precondition the words that the compiled call is handed name experts. -/
theorem inRange {m : (ℓ : Loc Kernel3.nD Kernel3.τ Kernel3.sig) → Buf (Elt Bits) ℓ} (h : Cert.Pre_Kernel3 m) : Kernel3.Frm.InRange m :=
  fun i => Pre_names_experts.named _ _ _ _ _ _ (h 0) (ix1 i)

/-- The same of its idealization. -/
theorem inRangeI {m : (ℓ : Loc Kernel3Ideal.nD Kernel3Ideal.τ Kernel3Ideal.sig) → Buf (Elt Ideal) ℓ} (h : Cert.Pre_Kernel3Ideal m) : Kernel3Ideal.Frm.InRange m :=
  fun i => Pre_names_experts.named _ _ _ _ _ _ (h 0) (ix1 i)

/-- Every execution of the compiled call ends, faultless, its arguments unchanged. -/
theorem frame3 : Cert.quiescent_Kernel3 (hKernel3 := Cert.Kernel3.Gen.facts) (hPre_names_experts := facts) :=
  fun m g h => Kernel3.Frm.frame m g (Kernel3.Frm.ok m (inRange h)) (Kernel3.Frm.first m)

/-- The same of its idealization. -/
theorem frame3I : Cert.quiescent_Kernel3Ideal (hKernel3Ideal := Cert.Kernel3Ideal.Gen.facts) (hPre_names_experts := facts) :=
  fun m g h => Kernel3Ideal.Frm.frame m g (Kernel3Ideal.Frm.ok m (inRangeI h)) (Kernel3Ideal.Frm.first m)

/-- The same of the reference. -/
theorem frameR : Cert.quiescent_Reference3Ideal (hReference3Ideal := Cert.Reference3Ideal.Gen.facts) :=
  fun m g _ => (θ_run _ _ _).mono (fun r h => ⟨fun c => (h c).2, sem_eq_zero_of_no_sems rfl _⟩) (Cert.Reference3Ideal.Value.run m g)

/-- The number of block `k`'s expert. -/
def expert (m : (ℓ : Loc Kernel3Ideal.nD Kernel3Ideal.τ Kernel3Ideal.sig) → Buf (Elt Ideal) ℓ) (h : Kernel3Ideal.Frm.InRange m) : Fin 288 → Fin 32 :=
  fun k => ⟨(Kernel3Ideal.Frm.experts m 0 (ix1 k)).toNat, h k⟩

theorem expert_at (m : (ℓ : Loc Kernel3Ideal.nD Kernel3Ideal.τ Kernel3Ideal.sig) → Buf (Elt Ideal) ℓ) (h : Kernel3Ideal.Frm.InRange m) (k : Fin 288) :
    Kernel3Ideal.Frm.experts m 0 (ix1 k) = BitVec.ofNat 32 (expert m h k).val :=
  ((BitVec.ofNat_toNat 32 _).trans (BitVec.setWidth_eq _)).symm

/-- From equal arguments the reference's result is the function that the call's array holds. -/
theorem value_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD) (e : Fin 288 → Fin 32)
    (he : ∀ k, Kernel3Ideal.Frm.experts m c (ix1 k) = BitVec.ofNat 32 (e k).val)
    (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (h3 : m' ((c.tc : Thread Reference3Ideal.nD Reference3Ideal.τ).loc Reference3Ideal.main_arg3) = m ((c.tc : Thread Kernel3Ideal.nD Kernel3Ideal.τ).loc Kernel3Ideal.main_arg3))
    (h4 : m' ((c.tc : Thread Reference3Ideal.nD Reference3Ideal.τ).loc Reference3Ideal.main_arg4) = m ((c.tc : Thread Kernel3Ideal.nD Kernel3Ideal.τ).loc Kernel3Ideal.main_arg4))
    (h5 : m' ((c.tc : Thread Reference3Ideal.nD Reference3Ideal.τ).loc Reference3Ideal.main_arg5) = m ((c.tc : Thread Kernel3Ideal.nD Kernel3Ideal.τ).loc Kernel3Ideal.main_arg5)) :
    (Reference3Ideal.Value.out_main_v8 (Reference3Ideal.Value.STEP^[288] (StableHlo.entryContents Reference3Ideal.Value.preI m' c)) : FVec Ideal Reference3Ideal.S147456x1024 .bf16)
      = Kernel3Ideal.Pt.G m e c := by
  funext i
  have ei : i = ix2 (i 0) (i 1) := by
    funext a
    match a with
    | ⟨0, _⟩ => rfl
    | ⟨1, _⟩ => rfl
  rw [ei]
  refine (Reference3Ideal.Ref.result m' c e (fun k => (congrFun h0 (ix1 k)).trans (he k)) (i 0) (i 1)).trans ?_
  exact Exp.row_congr (fun k => congrFun h1 _) (fun k j => congrFun h2 _) (fun j => congrFun h3 _) (fun k j => congrFun h4 _) (fun j => congrFun h5 _) (i 1)

/-- The experts' program and its reference, from equal arguments that name experts, end with equal results. -/
theorem experts : Cert.algebraic_Kernel3Ideal_Reference3Ideal (hKernel3Ideal := Cert.Kernel3Ideal.Gen.facts) (hReference3Ideal := Cert.Reference3Ideal.Gen.facts) (hPre_names_experts := facts) :=
  fun m g m' g' hp hagree => by
    have hR := inRangeI hp
    refine ⟨fun c => Kernel3Ideal.Pt.G m (expert m hR) c, Kernel3Ideal.Pt.run m (expert m hR) (expert_at m hR) (Kernel3Ideal.Frm.ok m hR) g, ?_⟩
    refine (θ_run _ _ _).mono (fun r h c => ⟨(h c).1.trans ?_, (h c).2⟩) (Cert.Reference3Ideal.Value.run m' g')
    have hc : c = 0 := Subsingleton.elim _ _
    subst hc
    obtain ⟨h0, h1, h2, h3, h4, h5⟩ := hagree 0
    exact value_eq m m' 0 (expert m hR) (expert_at m hR) h0 h1 h2 h3 h4 h5

end Cert.ExpEnd

end
-- ==== Proof.Head.lean ====
/- What one head of the kernel computes on one block of 512 rows, as whole vectors: the forget gate, the scan of its
   logarithm, the decayed queries and keys, and the state and output that they give. The four heads of the kernel
   are written out one after the other with the same operations, so each of them is an instance of these. -/
module

public import proofs.«01_k».proof.Defs
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Head
open Cert.KernelIdeal Cert.KernelIdeal.Gen

variable {F : FTy → Type} [FloatOps F]

/-- The forget gate of the block's rows, from the forget columns and the lower bound. -/
def fgt (f : Vec F S1x512x128 .f32) (lb : Vec F S1x128 .f32) : FVec F S512x128 .f32 := k0_pay11 f lb

/-- The scan of the gate's logarithm within each chunk of 32 rows. -/
def csum (f : Vec F S1x512x128 .f32) (lb : Vec F S1x128 .f32) : FVec F S512x128 .f32 := k0_pay13 k0_pay3 (fgt f lb)

/-- The queries, gated and decayed from their chunk's start. -/
def qd (q f : Vec F S1x512x128 .f32) (lb : Vec F S1x128 .f32) : FVec F S512x128 .bf16 :=
  k0_pay18 (k0_pay8 q) (csum f lb) (k0_pay17 (k0_pay8 q))

/-- The keys, decayed to their chunk's end. -/
def ke (f : Vec F S1x512x128 .f32) (lb : Vec F S1x128 .f32) : FVec F S512x128 .bf16 :=
  k0_pay19 (csum f lb) (k0_pay15 (fgt f lb)) (k0_pay16 (fgt f lb))

/-- The values. -/
def vb (v : Vec F S1x512x128 .f32) : FVec F S512x128 .bf16 := k0_pay20 (k0_pay9 v)

/-- Each chunk's whole decay. -/
def dec (f : Vec F S1x512x128 .f32) (lb : Vec F S1x128 .f32) : FVec F S16x1x128 .f32 := k0_pay22 (k0_pay14 (fgt f lb))

/-- The mask of the pairs of rows of one chunk, the second not after the first. -/
def mask : IVec S512x512 1 :=
  k0_pay7 (iota .tc S512x512 32 [0] iota_S512x512_d0_w32) (iota .tc S512x512 32 [1] iota_S512x512_d1_w32) k0_pay4 32#32 k0_pay5 k0_pay6
    (Scalar.extui (Scalar.cmpi .sgt 32#32 0#32))

/-- The masked scores times the values. -/
def intra (q f v : Vec F S1x512x128 .f32) (lb : Vec F S1x128 .f32) : FVec F S512x128 .f32 :=
  k0_pay21 mask (k0_pay8 q) (k0_pay9 v) (csum f lb) (k0_pay16 (fgt f lb)) (k0_pay17 (k0_pay8 q))

theorem sl_rows (n : ℕ) (h : n < 16) : S512x128.Slices ![32 * n, 0] S32x128 :=
  ⟨rfl, fun a => by
    match a with
    | ⟨0, _⟩ => show 32 * n + 32 ≤ 512; omega
    | ⟨1, _⟩ => show 0 + 128 ≤ 128; omega⟩

theorem sl_dec (n : ℕ) (h : n < 16) : S16x1x128.Slices ![n, 0, 0] S1x1x128 :=
  ⟨rfl, fun a => by
    match a with
    | ⟨0, _⟩ => show n + 1 ≤ 16; omega
    | ⟨1, _⟩ => show 0 + 1 ≤ 1; omega
    | ⟨2, _⟩ => show 0 + 128 ≤ 128; omega⟩

/-- Chunk `n`'s addition to the state. -/
def inc (f v : Vec F S1x512x128 .f32) (lb : Vec F S1x128 .f32) (n : ℕ) (h : n < 16) : FVec F S128x128 .f32 :=
  matmul dot_S32x128_S32x128_S128x128_0_0_1_1_n_n none (extractStridedSlice S32x128 ![32 * n, 0] (vb v) (sl_rows n h))
    (extractStridedSlice S32x128 ![32 * n, 0] (ke f lb) (sl_rows n h)) (constant S128x128 .f32 0x00000000#32)

/-- One chunk's step of the state. -/
def step (f v : Vec F S1x512x128 .f32) (lb : Vec F S1x128 .f32) (n : ℕ) (h : n < 16) (s : FVec F S128x128 .f32) : FVec F S128x128 .f32 :=
  addf (mulf s (broadcastTo S128x128 (shapeCast S1x128 (extractStridedSlice S1x1x128 ![n, 0, 0] (dec f lb) (sl_dec n h)) shapeCasts_S1x1x128_S1x128)
    broadcasts_S1x128_S128x128)) (inc f v lb n h)

/-- The state before chunk `n` of the block, from the state `s0` before the block. -/
def chain (f v : Vec F S1x512x128 .f32) (lb : Vec F S1x128 .f32) (s0 : Vec F S1x128x128 .f32) : (n : ℕ) → n ≤ 16 → FVec F S128x128 .f32
  | 0, _ => k0_pay41 s0
  | n + 1, h => step f v lb n h (chain f v lb s0 n (Nat.le_of_lt h))

/-- Chunk `n`'s queries times the state before it. -/
def inter (q f v : Vec F S1x512x128 .f32) (lb : Vec F S1x128 .f32) (s0 : Vec F S1x128x128 .f32) (n : ℕ) (h : n < 16) : FVec F S32x128 .f32 :=
  matmul dot_S32x128_S128x128_S32x128_1_1_0_0_n_n none (extractStridedSlice S32x128 ![32 * n, 0] (qd q f lb) (sl_rows n h))
    (truncf .bf16 (chain f v lb s0 n (Nat.le_of_lt h)) bitsLt_bf16_f32) (constant S32x128 .f32 0x00000000#32)

/-- The state after the block. -/
def stOut (f v : Vec F S1x512x128 .f32) (lb : Vec F S1x128 .f32) (s0 : Vec F S1x128x128 .f32) : FVec F S1x128x128 .f32 :=
  shapeCast S1x128x128 (chain f v lb s0 16 (le_refl _)) shapeCasts_S128x128_S1x128x128

/-- The block's output rows. -/
def out (q f v g : Vec F S1x512x128 .f32) (lb ng : Vec F S1x128 .f32) (s0 : Vec F S1x128x128 .f32) : FVec F S1x512x128 .bf16 :=
  k0_pay89 (k0_pay10 g) (qd q f lb) (intra q f v lb)
    (truncf .bf16 (chain f v lb s0 12 (by decide)) bitsLt_bf16_f32) (truncf .bf16 (chain f v lb s0 13 (by decide)) bitsLt_bf16_f32)
    (truncf .bf16 (chain f v lb s0 14 (by decide)) bitsLt_bf16_f32) (truncf .bf16 (chain f v lb s0 15 (by decide)) bitsLt_bf16_f32)
    (inter q f v lb s0 0 (by decide)) (inter q f v lb s0 1 (by decide)) (inter q f v lb s0 2 (by decide)) (inter q f v lb s0 3 (by decide))
    (inter q f v lb s0 4 (by decide)) (inter q f v lb s0 5 (by decide)) (inter q f v lb s0 6 (by decide)) (inter q f v lb s0 7 (by decide))
    (inter q f v lb s0 8 (by decide)) (inter q f v lb s0 9 (by decide)) (inter q f v lb s0 10 (by decide)) (inter q f v lb s0 11 (by decide))
    (k0_pay88 (qd q f lb)) (constant S32x128 .f32 0x00000000#32) ng

/-! ## A block's columns by head -/

theorem inb_lane (k : ℕ) (h : k < 16) : ∀ a : Fin S1x512x2048.rank, (![0, 0, 128 * k] : Fin 3 → ℕ) a + (![1, 512, 128] : Fin 3 → ℕ) a ≤ S1x512x2048.size a := fun a => by
  match a with
  | ⟨0, _⟩ => show 0 + 1 ≤ 1; omega
  | ⟨1, _⟩ => show 0 + 512 ≤ 512; omega
  | ⟨2, _⟩ => show 128 * k + 128 ≤ 2048; omega

theorem inb_lrow (k : ℕ) (h : k < 4) : ∀ a : Fin S1x512.rank, (![0, 128 * k] : Fin 2 → ℕ) a + (![1, 128] : Fin 2 → ℕ) a ≤ S1x512.size a := fun a => by
  match a with
  | ⟨0, _⟩ => show 0 + 1 ≤ 1; omega
  | ⟨1, _⟩ => show 128 * k + 128 ≤ 512; omega

theorem inb_slab (k : ℕ) (h : k < 4) : ∀ a : Fin S4x128x128.rank, (![k, 0, 0] : Fin 3 → ℕ) a + (![1, 128, 128] : Fin 3 → ℕ) a ≤ S4x128x128.size a := fun a => by
  match a with
  | ⟨0, _⟩ => show k + 1 ≤ 4; omega
  | ⟨1, _⟩ => show 0 + 128 ≤ 128; omega
  | ⟨2, _⟩ => show 0 + 128 ≤ 128; omega

/-- The `k`-th 128 columns of the block. -/
def lane (X : Vec F S1x512x2048 .f32) (k : ℕ) (h : k < 16) : Vec F S1x512x128 .f32 :=
  View.ld (S := S1x512x2048) (Val := Elt F) (e' := .f32) X (Rect.unit ![0, 0, 128 * k] ![1, 512, 128] (inb_lane k h))

/-- The `k`-th 128 columns of a row of 512. -/
def lrow (X : Vec F S1x512 .f32) (k : ℕ) (h : k < 4) : Vec F S1x128 .f32 :=
  View.ld (S := S1x512) (Val := Elt F) (e' := .f32) X (Rect.unit ![0, 128 * k] ![1, 128] (inb_lrow k h))

/-- The `k`-th head's state. -/
def slab (X : Vec F S4x128x128 .f32) (k : ℕ) (h : k < 4) : Vec F S1x128x128 .f32 :=
  View.ld (S := S4x128x128) (Val := Elt F) (e' := .f32) X (Rect.unit ![k, 0, 0] ![1, 128, 128] (inb_slab k h))

theorem lane_apply (X : Vec F S1x512x2048 .f32) (k : ℕ) (h : k < 16) (r : Fin 512) (d : Fin 128) :
    lane X k h (ix3 0 r d) = X (ix3 0 r ⟨128 * k + d, by omega⟩) :=
  View.ld_unit_apply_of _ _ _ _ _ _ fun a => by
    match a with
    | ⟨0, _⟩ => rfl
    | ⟨1, _⟩ => exact (Nat.zero_add _).symm
    | ⟨2, _⟩ => rfl

theorem lrow_apply (X : Vec F S1x512 .f32) (k : ℕ) (h : k < 4) (d : Fin 128) :
    lrow X k h (ix2 0 d) = X (ix2 0 ⟨128 * k + d, by omega⟩) :=
  View.ld_unit_apply_of _ _ _ _ _ _ fun a => by
    match a with
    | ⟨0, _⟩ => rfl
    | ⟨1, _⟩ => rfl

theorem slab_apply (X : Vec F S4x128x128 .f32) (k : ℕ) (h : k < 4) (e d : Fin 128) :
    slab X k h (ix3 0 e d) = X (ix3 ⟨k, h⟩ e d) :=
  View.ld_unit_apply_of _ _ _ _ _ _ fun a => by
    match a with
    | ⟨0, _⟩ => rfl
    | ⟨1, _⟩ => exact (Nat.zero_add _).symm
    | ⟨2, _⟩ => exact (Nat.zero_add _).symm

end Cert.KernelIdeal.Head
-- ==== Proof.Point.lean ====
module

public import proofs.«01_k».proof.Proof.Head
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Pt
open Cert.KernelIdeal Cert.KernelIdeal.Gen Cert.KernelIdeal.Head

variable (m : (ℓ : Loc nD τ sig) → Buf (Elt Ideal) ℓ)

/-- The states of the four heads after a block `X`, from the states `P` before it. -/
def stAll (X : Vec Ideal S1x512x2048 .f32) (L : Vec Ideal S1x512 .f32) (P : Vec Ideal S4x128x128 .f32) : Vec Ideal S4x128x128 .f32 := fun y =>
  stOut (lane X (4 + (y 0).val) (Nat.lt_of_lt_of_le (Nat.add_lt_add_left (y 0).isLt 4) (by decide)))
    (lane X (8 + (y 0).val) (Nat.lt_of_lt_of_le (Nat.add_lt_add_left (y 0).isLt 8) (by decide)))
    (lrow L (y 0).val (y 0).isLt) (slab P (y 0).val (y 0).isLt) (ix3 0 (y 1) (y 2))

/-- The results of head `k` on a block `X`, from the states `P` before it. -/
def outHead (X : Vec Ideal S1x512x2048 .f32) (L G : Vec Ideal S1x512 .f32) (P : Vec Ideal S4x128x128 .f32) (k : ℕ) (h : k < 4) : FVec Ideal S1x512x128 .bf16 :=
  out (lane X k (by omega)) (lane X (4 + k) (by omega)) (lane X (8 + k) (by omega)) (lane X (12 + k) (by omega))
    (lrow L k h) (lrow G k h) (slab P k h)

theorem outHead_col (y : S1x512x512.Idx) : (y 2).val / 128 < 4 := by
  have := (y 2).isLt; change _ < 512 at this; omega

/-- The results of the four heads, side by side. -/
def outAll (X : Vec Ideal S1x512x2048 .f32) (L G : Vec Ideal S1x512 .f32) (P : Vec Ideal S4x128x128 .f32) : FVec Ideal S1x512x512 .bf16 := fun y =>
  outHead X L G P ((y 2).val / 128) (outHead_col y) (ix3 0 (y 1) ⟨(y 2).val % 128, Nat.mod_lt _ (by decide)⟩)

theorem stAll_at (X : Vec Ideal S1x512x2048 .f32) (L : Vec Ideal S1x512 .f32) (P : Vec Ideal S4x128x128 .f32) (y : S4x128x128.Idx) (x : S1x128x128.Idx)
    (k : ℕ) (h : k < 4) (h0 : (y 0).val = k) (h1 : (y 1).val = (x 1).val) (h2 : (y 2).val = (x 2).val) :
    stOut (lane X (4 + k) (by omega)) (lane X (8 + k) (by omega)) (lrow L k h) (slab P k h) x = stAll X L P y := by
  subst h0
  have e : x = ix3 0 (y 1) (y 2) := by
    funext a
    match a with
    | ⟨0, _⟩ => exact Subsingleton.elim (α := Fin 1) _ _
    | ⟨1, _⟩ => exact Fin.ext h1.symm
    | ⟨2, _⟩ => exact Fin.ext h2.symm
  rw [e]
  rfl

theorem outAll_at (X : Vec Ideal S1x512x2048 .f32) (L G : Vec Ideal S1x512 .f32) (P : Vec Ideal S4x128x128 .f32) (y : S1x512x512.Idx) (x : S1x512x128.Idx)
    (k : ℕ) (h : k < 4) (h1 : (y 1).val = (x 1).val) (h2 : (y 2).val = 128 * k + (x 2).val) :
    outHead X L G P k h x = outAll X L G P y := by
  have hx : (x 2).val < 128 := (x 2).isLt
  have hk : k = (y 2).val / 128 := by omega
  subst hk
  have e : x = ix3 0 (y 1) ⟨(y 2).val % 128, Nat.mod_lt _ (by decide)⟩ := by
    funext a
    match a with
    | ⟨0, _⟩ => exact Subsingleton.elim (α := Fin 1) _ _
    | ⟨1, _⟩ => exact Fin.ext h1.symm
    | ⟨2, _⟩ => exact Fin.ext (show (x 2).val = (y 2).val % 128 by omega)
  rw [e]
  rfl

set_option maxHeartbeats 2000000 in
/-- The states after a block that isn't a batch's first. -/
theorem state_B (c : Dev nD) (t : Fin cfg0.N) (h0 : ¬ t.val % 8 = 0) (y : S4x128x128.Idx) : (outsAt0 m c t.val t.isLt).2 y =
   stAll (iblk m c 0 t) (iblk m c 1 t) (outsAt0 m c (t.val - 1) (Nat.lt_of_le_of_lt (Nat.sub_le _ _) t.isLt)).2 y := by
  rw [outsAt0_B m c t h0]
  dsimp only
  frame_out
  simp only [read_unread_whole]
  generalize iblk m c 0 t = X
  generalize iblk m c 1 t = L
  generalize (outsAt0 m c (t.val - 1) (Nat.lt_of_le_of_lt (Nat.sub_le _ _) t.isLt)).2 = P
  clear h0
  canon_tiles x h
  case piece0 => exact (stAll_at X L P y x 3 (by decide) (by omega) h1 h2 ▸ rfl)
  case piece1 => exact (stAll_at X L P y x 2 (by decide) (by omega) h1 h2 ▸ rfl)
  case piece2 => exact (stAll_at X L P y x 1 (by decide) (by omega) h1 h2 ▸ rfl)
  case piece3 => exact (stAll_at X L P y x 0 (by decide) (by omega) h1 h2 ▸ rfl)

set_option maxHeartbeats 2000000 in
/-- The results of a block that isn't a batch's first. -/
theorem out_B (c : Dev nD) (t : Fin cfg0.N) (h0 : ¬ t.val % 8 = 0) (y : S1x512x512.Idx) : (outsAt0 m c t.val t.isLt).1 y =
   outAll (iblk m c 0 t) (iblk m c 1 t) (iblk m c 2 t) (outsAt0 m c (t.val - 1) (Nat.lt_of_le_of_lt (Nat.sub_le _ _) t.isLt)).2 y := by
  rw [outsAt0_B m c t h0]
  dsimp only
  frame_out
  simp only [read_unread_whole]
  generalize iblk m c 0 t = X
  generalize iblk m c 1 t = L
  generalize iblk m c 2 t = G
  generalize (outsAt0 m c (t.val - 1) (Nat.lt_of_le_of_lt (Nat.sub_le _ _) t.isLt)).2 = P
  clear h0
  canon_tiles x h
  case piece0 => exact (outAll_at X L G P y x 3 (by decide) h1 (by omega) ▸ rfl)
  case piece1 => exact (outAll_at X L G P y x 2 (by decide) h1 (by omega) ▸ rfl)
  case piece2 => exact (outAll_at X L G P y x 1 (by decide) h1 (by omega) ▸ rfl)
  case piece3 => exact (outAll_at X L G P y x 0 (by decide) h1 (by omega) ▸ rfl)

/-- The zero states a batch begins with. -/
def zst : Vec Ideal S4x128x128 .f32 := fun _ => (0 : EReal)

theorem pay2_eq : (k0_pay2 (F := Ideal)) = zst := by
  funext y
  pointwise [k0_pay2, zst]

theorem hz3 : ∀ a : Fin S4x128x128.rank, (![0, 0, 0] : Fin 3 → ℕ) a = 0 := fun a => by
  match a with | ⟨0, _⟩ => rfl | ⟨1, _⟩ => rfl | ⟨2, _⟩ => rfl

set_option maxHeartbeats 1000000 in
/-- The states after a batch's first block. -/
theorem state_A (c : Dev nD) (t : Fin cfg0.N) (h0 : t.val % 8 = 0) (y : S4x128x128.Idx) : (outsAt0 m c t.val t.isLt).2 y =
   stAll (iblk m c 0 t) (iblk m c 1 t) zst y := by
  rw [outsAt0_A m c t h0]
  dsimp only
  frame_open
  simp (disch := decide) only [↓ View.readCov_skip, ↓ View.readCov_cons_toLoadRect, ↓ View.readCov_fill]
  frame_out
  simp only [View.readCov_fill (s := S4x128x128) (off := ![0, 0, 0]) _ _ _ _ _ hz3, pay2_eq]
  generalize iblk m c 0 t = X
  generalize iblk m c 1 t = L
  clear h0
  refine View.canon_append_of_piecesOf (stAll X L zst) [_] [_, _, _, _] ⟨fun x => ?_, fun x => ?_, fun x => ?_, fun x => ?_, trivial⟩ y ?_
  · have hx := (x 0).isLt
    change _ < 1 at hx
    refine Eq.trans (b := stOut (F := Ideal) (lane X 7 (by decide)) (lane X 11 (by decide)) (lrow L 3 (by decide)) (slab zst 3 (by decide)) x) rfl
      (stAll_at X L zst _ x 3 (by decide) (show 3 + 1 * (x 0).val = 3 by omega) (show 0 + 1 * (x 1).val = (x 1).val by omega) (show 0 + 1 * (x 2).val = (x 2).val by omega))
  · have hx := (x 0).isLt
    change _ < 1 at hx
    refine Eq.trans (b := stOut (F := Ideal) (lane X 6 (by decide)) (lane X 10 (by decide)) (lrow L 2 (by decide)) (slab zst 2 (by decide)) x) rfl
      (stAll_at X L zst _ x 2 (by decide) (show 2 + 1 * (x 0).val = 2 by omega) (show 0 + 1 * (x 1).val = (x 1).val by omega) (show 0 + 1 * (x 2).val = (x 2).val by omega))
  · have hx := (x 0).isLt
    change _ < 1 at hx
    refine Eq.trans (b := stOut (F := Ideal) (lane X 5 (by decide)) (lane X 9 (by decide)) (lrow L 1 (by decide)) (slab zst 1 (by decide)) x) rfl
      (stAll_at X L zst _ x 1 (by decide) (show 1 + 1 * (x 0).val = 1 by omega) (show 0 + 1 * (x 1).val = (x 1).val by omega) (show 0 + 1 * (x 2).val = (x 2).val by omega))
  · have hx := (x 0).isLt
    change _ < 1 at hx
    refine Eq.trans (b := stOut (F := Ideal) (lane X 4 (by decide)) (lane X 8 (by decide)) (lrow L 0 (by decide)) (slab zst 0 (by decide)) x) rfl
      (stAll_at X L zst _ x 0 (by decide) (show 0 + 1 * (x 0).val = 0 by omega) (show 0 + 1 * (x 1).val = (x 1).val by omega) (show 0 + 1 * (x 2).val = (x 2).val by omega))
  · exact View.cover_of_tiledL (s := S4x128x128) _ S1x128x128.size (by rfl) y

set_option maxHeartbeats 1000000 in
/-- The results of a batch's first block. -/
theorem out_A (c : Dev nD) (t : Fin cfg0.N) (h0 : t.val % 8 = 0) (y : S1x512x512.Idx) : (outsAt0 m c t.val t.isLt).1 y =
   outAll (iblk m c 0 t) (iblk m c 1 t) (iblk m c 2 t) zst y := by
  rw [outsAt0_A m c t h0]
  dsimp only
  frame_open
  simp (disch := decide) only [↓ View.readCov_skip, ↓ View.readCov_cons_toLoadRect, ↓ View.readCov_fill]
  frame_out
  simp only [View.readCov_fill (s := S4x128x128) (off := ![0, 0, 0]) _ _ _ _ _ hz3, pay2_eq]
  generalize iblk m c 0 t = X
  generalize iblk m c 1 t = L
  generalize iblk m c 2 t = G
  clear h0
  canon_tiles x h
  case piece0 => exact (outAll_at X L G zst y x 3 (by decide) h1 (by omega) ▸ rfl)
  case piece1 => exact (outAll_at X L G zst y x 2 (by decide) h1 (by omega) ▸ rfl)
  case piece2 => exact (outAll_at X L G zst y x 1 (by decide) h1 (by omega) ▸ rfl)
  case piece3 => exact (outAll_at X L G zst y x 0 (by decide) h1 (by omega) ▸ rfl)

end Cert.KernelIdeal.Pt
-- ==== Proof.Spec.lean ====
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
/-! # The recurrence of one head, in plain terms

The rows of one batch and head are counted by chunk `n` and row `i` of the chunk (32 rows a chunk).  `Q F V G n i d` are the
projected inputs' columns, `B` is the gate's lower bound, `W` the norm's weights. -/

namespace Cert.Rec

/-- One chunk's rows, by chunk and row. -/
abbrev Rows := ℕ → ℕ → Fin 128 → EReal

/-- `x · σ(x)`. -/
def silu (x : EReal) : EReal := x * Ideal.div 1 (1 + Ideal.exp (0 - x))

/-- The forget gate. -/
def gate (b f : EReal) : EReal := b + (1 - b) * Ideal.div 1 (1 + Ideal.exp (0 - f))

variable (Q F V G : Rows) (B W : Fin 128 → EReal)

/-- The gate's logarithm. -/
def lf : Rows := fun n i d => Ideal.log (gate (B d) (F n i d))

/-- Its sum over the chunk's rows up to `i`. -/
def cs : Rows := fun n i d => ∑ k ∈ Finset.range (i + 1), lf F B n k d

/-- Its sum over the chunk. -/
def tot (n : ℕ) (d : Fin 128) : EReal := ∑ k ∈ Finset.range 32, lf F B n k d

/-- The query, gated and decayed from the chunk's start. -/
def qd : Rows := fun n i d => silu (Q n i d) * Ideal.exp (cs F B n i d)

/-- The key, with the decay from the chunk's start undone. -/
def ki : Rows := fun n i d => (1 - gate (B d) (F n i d)) * Ideal.exp (0 - cs F B n i d)

/-- The key, decayed to the chunk's end. -/
def ke : Rows := fun n i d => (1 - gate (B d) (F n i d)) * Ideal.exp (tot F B n d - cs F B n i d)

/-- The state before chunk `n`, from the state `S0` before chunk 0. -/
def st (S0 : Fin 128 → Fin 128 → EReal) : ℕ → Fin 128 → Fin 128 → EReal
  | 0 => S0
  | n + 1 => fun d e => st S0 n d e * Ideal.exp (tot F B n d) + ∑ r : Fin 32, ke F B n r d * V n r e

/-- The causal attention within the chunk. -/
def intra : Rows := fun n i e => ∑ s : Fin 32, (if s.val ≤ i then ∑ d, qd Q F B n i d * ki F B n s d else 0) * V n s e

/-- What the rows of a chunk read: the chunk's own rows and the state before it. -/
def mix (S0 : Fin 128 → Fin 128 → EReal) : Rows := fun n i e => intra Q F V B n i e + ∑ d, qd Q F B n i d * st F V B S0 n d e

/-- The root-mean-square norm over the head's 128 columns, times its weights, times the gated `g`. -/
def out (S0 : Fin 128 → Fin 128 → EReal) : Rows := fun n i e =>
  mix Q F V B S0 n i e * Ideal.rsqrt (Ideal.div (∑ e', mix Q F V B S0 n i e' * mix Q F V B S0 n i e') (Scalar.ofBits (F := Ideal) .f32 0x43000000#32) + Scalar.ofBits (F := Ideal) .f32 0x358637BD#32) * W e * silu (G n i e)

/-- The state before chunk `a + n` is the state `n` chunks after the state before chunk `a`. -/
theorem st_shift (S0 : Fin 128 → Fin 128 → EReal) (a n : ℕ) :
    st F V B S0 (a + n) = st (fun n => F (a + n)) (fun n => V (a + n)) B (st F V B S0 a) n := by
  induction n with
  | zero => rfl
  | succ n ih =>
    funext d e
    show st F V B S0 (a + n) d e * _ + _ = _
    rw [ih]
    rfl

/-- The results of chunk `a + n`, from the state before chunk `a`. -/
theorem out_shift (S0 : Fin 128 → Fin 128 → EReal) (a n i : ℕ) (e : Fin 128) :
    out Q F V G B W S0 (a + n) i e =
      out (fun n => Q (a + n)) (fun n => F (a + n)) (fun n => V (a + n)) (fun n => G (a + n)) B W (st F V B S0 a) n i e := by
  simp only [out, mix, st_shift F V B S0 a n]
  rfl

/-! ## The scan by doubling -/

/-- The last `w` of the terms up to `i`. -/
def win (g : ℕ → EReal) (w i : ℕ) : EReal := ∑ k ∈ Finset.range (min w (i + 1)), g (i - k)

theorem win_one (g : ℕ → EReal) (i : ℕ) : win g 1 i = g i := by
  rw [win, Nat.min_eq_left (by omega), Finset.sum_range_one, Nat.sub_zero]

/-- One doubling. -/
theorem win_double (g : ℕ → EReal) (w i : ℕ) : win g w i + (if w ≤ i then win g w (i - w) else 0) = win g (2 * w) i := by
  split
  · next h =>
    unfold win
    rw [Nat.min_eq_left (by omega), show min (2 * w) (i + 1) = w + min w (i - w + 1) by omega, Finset.sum_range_add]
    congr 1
    refine Finset.sum_congr rfl fun k _ => ?_
    rw [Nat.sub_sub]
  · next h =>
    rw [add_zero]
    unfold win
    rw [Nat.min_eq_right (by omega), Nat.min_eq_right (by omega)]

/-- A window longer than the prefix holds all of it. -/
theorem win_all (g : ℕ → EReal) (w i : ℕ) (h : i < w) : win g w i = ∑ k ∈ Finset.range (i + 1), g k := by
  unfold win
  rw [Nat.min_eq_right (by omega), ← Finset.sum_range_reflect]
  refine Finset.sum_congr rfl fun k hk => ?_
  rw [Finset.mem_range] at hk
  congr 1
  omega

/-! ## The layer's result -/

/-- Batch `b`'s rows of the `k`-th 128 columns. -/
def col (x : Fin 32768 → Fin 2048 → EReal) (b k : ℕ) : Rows := fun n i d =>
  x ⟨(4096 * b + 32 * n + i) % 32768, Nat.mod_lt _ (by decide)⟩ ⟨(128 * k + d.val) % 2048, Nat.mod_lt _ (by decide)⟩

/-- The `k`-th 128 of 512. -/
def part (y : Fin 512 → EReal) (k : ℕ) : Fin 128 → EReal := fun d => y ⟨(128 * k + d.val) % 512, Nat.mod_lt _ (by decide)⟩

/-- Batch `b`'s result at token `t`, column `e` of head `h`, from the projected inputs `x`, the lower bounds `y` and the norm's weights `w`. -/
def hgrn (x : Fin 32768 → Fin 2048 → EReal) (y w : Fin 512 → EReal) (b h t : ℕ) (e : Fin 128) : EReal :=
  out (col x b h) (col x b (4 + h)) (col x b (8 + h)) (col x b (12 + h)) (part y h) (part w h) (fun _ _ => 0) (t / 32) (t % 32) e

end Cert.Rec
-- ==== Proof.Block.lean ====
module

public import proofs.«01_k».proof.Proof.Head
public import proofs.«01_k».proof.Proof.Spec
public import Idealize.ShloMosaic.Lib.Pipeline.Value
public import Idealize.ShloMosaic.Lib.WordCmp

@[expose] public section

set_option maxRecDepth 16384

noncomputable section

open Idealize.ShloMosaic Idealize.ShloMosaic.TcCoe Idealize.SL.Sem
/-! # What one block of one head computes -/

namespace Cert.KernelIdeal.Head
open Cert.KernelIdeal Cert.KernelIdeal.Gen

/-! ## The scan -/

/-- One doubling of the scan, on arrays. -/
def dbl (w : BitVec 32) (x : FVec Ideal S512x128 .f32) : FVec Ideal S512x128 .f32 :=
  addf x (select (cmpi .sge k0_pay3 (broadcast S512x128 w)) (dynamicRotate 0 w none x rotates_S512x128_d0) (broadcast S512x128 (Scalar.ofBits .f32 0x00000000#32)))

theorem csum_eq (f : Vec Ideal S1x512x128 .f32) (lb : Vec Ideal S1x128 .f32) :
    csum f lb = dbl 16#32 (dbl 8#32 (dbl 4#32 (dbl 2#32 (dbl 1#32 (log (fgt f lb)))))) := rfl

theorem rin_cmp (w : Fin 32) : ∀ r : Fin 512, IntOp.cmpi CmpIPredicate.sge (IntOp.andi (BitVec.ofNat 32 ↑r) 31#32) (BitVec.ofNat 32 w) =
    if w.val ≤ r.val % 32 then 1#1 else 0#1 := by
  revert w
  decide +kernel

theorem dbl_apply (w : Fin 32) (x : FVec Ideal S512x128 .f32) (r : Fin 512) (d : Fin 128) :
    dbl (BitVec.ofNat 32 w) x (ix2 r d) = x (ix2 r d) + if w.val ≤ r.val % 32 then x (ix2 ⟨r.val - w, by omega⟩ d) else 0 := by
  pointwise [dbl, k0_pay3]
  rw [rin_cmp]
  congr 1
  have hw : (BitVec.ofNat 32 w.val).toNat % 512 = w.val := by
    rw [BitVec.toNat_ofNat]; omega
  by_cases h : w.val ≤ r.val % 32
  · rw [if_pos h, if_pos h]
    show x _ = x _
    congr 2
    apply Fin.ext
    show (r.val + 512 - _) % 512 = r.val - w.val
    rw [hw]
    have := r.isLt
    omega
  · rw [if_neg h, if_neg h]
    rfl

/-- If an array holds the last `w` terms' sums, one doubling holds the last `2 w`. -/
theorem dbl_win (g : ℕ → ℕ → Fin 128 → EReal) (w : Fin 32) (x : FVec Ideal S512x128 .f32)
    (hx : ∀ (r : Fin 512) (d : Fin 128), x (ix2 r d) = Rec.win (fun k => g (r.val / 32) k d) w (r.val % 32)) (r : Fin 512) (d : Fin 128) :
    dbl (BitVec.ofNat 32 w) x (ix2 r d) = Rec.win (fun k => g (r.val / 32) k d) (2 * w) (r.val % 32) := by
  rw [dbl_apply, ← Rec.win_double, hx]
  congr 1
  by_cases h : w.val ≤ r.val % 32
  · rw [if_pos h, if_pos h, hx]
    have h1 : (r.val - w.val) / 32 = r.val / 32 := by omega
    have h2 : (r.val - w.val) % 32 = r.val % 32 - w.val := by omega
    show Rec.win (fun k => g ((r.val - w.val) / 32) k d) w ((r.val - w.val) % 32) = _
    rw [h1, h2]
  · rw [if_neg h, if_neg h]

section
variable {q f v g : Vec Ideal S1x512x128 .f32} {lb ng : Vec Ideal S1x128 .f32} {s0 : Vec Ideal S1x128x128 .f32}
variable {Q F V G : Rec.Rows} {B W : Fin 128 → EReal} {S0 : Fin 128 → Fin 128 → EReal}

theorem fgt_val (hf : ∀ (r : Fin 512) (d : Fin 128), f (ix3 0 r d) = F (r.val / 32) (r.val % 32) d) (hb : ∀ d : Fin 128, lb (ix2 0 d) = B d)
    (r : Fin 512) (d : Fin 128) : fgt f lb (ix2 r d) = Rec.gate (B d) (F (r.val / 32) (r.val % 32) d) := by
  rw [← hf, ← hb]
  pointwise [fgt, k0_pay11]
  rfl

theorem csum_val (hf : ∀ (r : Fin 512) (d : Fin 128), f (ix3 0 r d) = F (r.val / 32) (r.val % 32) d) (hb : ∀ d : Fin 128, lb (ix2 0 d) = B d)
    (r : Fin 512) (d : Fin 128) : csum f lb (ix2 r d) = Rec.cs F B (r.val / 32) (r.val % 32) d := by
  have h0 : ∀ (r : Fin 512) (d : Fin 128), (log (fgt f lb) : FVec Ideal S512x128 .f32) (ix2 r d) = Rec.win (fun k => Rec.lf F B (r.val / 32) k d) 1 (r.val % 32) := fun r d => by
    rw [Rec.win_one, Rec.lf, ← fgt_val hf hb]
    pointwise []
  rw [csum_eq]
  refine (dbl_win (Rec.lf F B) 16 _ (dbl_win (Rec.lf F B) 8 _ (dbl_win (Rec.lf F B) 4 _ (dbl_win (Rec.lf F B) 2 _ (dbl_win (Rec.lf F B) 1 _ h0)))) r d).trans ?_
  exact Rec.win_all _ _ _ (Nat.mod_lt _ (by decide))

theorem tot_val (hf : ∀ (r : Fin 512) (d : Fin 128), f (ix3 0 r d) = F (r.val / 32) (r.val % 32) d) (hb : ∀ d : Fin 128, lb (ix2 0 d) = B d)
    (n : Fin 16) (d : Fin 128) : k0_pay14 (fgt f lb) (ix3 n 0 d) = Rec.tot F B n d := by
  pointwise [k0_pay14, k0_pay12]
  rw [Rec.tot, Finset.sum_range]
  refine Finset.sum_congr rfl fun i _ => ?_
  rw [fgt_val hf hb]
  have h1 : (n.val * 32 + i.val) / 32 = n.val := by omega
  have h2 : (n.val * 32 + i.val) % 32 = i.val := by omega
  show Ideal.log (Rec.gate (B d) (F ((n.val * 32 + i.val) / 32) ((n.val * 32 + i.val) % 32) d)) = _
  rw [h1, h2]
  rfl

theorem qd_val (hq : ∀ (r : Fin 512) (d : Fin 128), q (ix3 0 r d) = Q (r.val / 32) (r.val % 32) d) (hf : ∀ (r : Fin 512) (d : Fin 128), f (ix3 0 r d) = F (r.val / 32) (r.val % 32) d) (hb : ∀ d : Fin 128, lb (ix2 0 d) = B d)
    (r : Fin 512) (d : Fin 128) : qd q f lb (ix2 r d) = Rec.qd Q F B (r.val / 32) (r.val % 32) d := by
  pointwise [qd, k0_pay18, k0_pay8, k0_pay17]
  rw [csum_val hf hb, hq]
  rfl

theorem ke_val (hf : ∀ (r : Fin 512) (d : Fin 128), f (ix3 0 r d) = F (r.val / 32) (r.val % 32) d) (hb : ∀ d : Fin 128, lb (ix2 0 d) = B d)
    (r : Fin 512) (d : Fin 128) : ke f lb (ix2 r d) = Rec.ke F B (r.val / 32) (r.val % 32) d := by
  pointwise [ke, k0_pay19, k0_pay15, k0_pay16]
  rw [csum_val hf hb, fgt_val hf hb, tot_val hf hb]
  rfl

theorem inc_val (hf : ∀ (r : Fin 512) (d : Fin 128), f (ix3 0 r d) = F (r.val / 32) (r.val % 32) d) (hv : ∀ (r : Fin 512) (d : Fin 128), v (ix3 0 r d) = V (r.val / 32) (r.val % 32) d)
    (hb : ∀ d : Fin 128, lb (ix2 0 d) = B d) (n : ℕ) (h : n < 16) (e d : Fin 128) :
    inc f v lb n h (ix2 e d) = ∑ r : Fin 32, Rec.ke F B n r d * V n r e := by
  pointwise [inc, vb, k0_pay20, k0_pay9]
  refine Finset.sum_congr rfl fun i _ => ?_
  rw [ke_val hf hb, hv, mul_comm]
  have h1 : (32 * n + i.val) / 32 = n := by omega
  have h2 : (32 * n + i.val) % 32 = i.val := by omega
  show Rec.ke F B ((32 * n + i.val) / 32) ((32 * n + i.val) % 32) d * V ((32 * n + i.val) / 32) ((32 * n + i.val) % 32) e = _
  rw [h1, h2]

/-- The state before the block's chunk `n`, held transposed. -/
theorem chain_val (hf : ∀ (r : Fin 512) (d : Fin 128), f (ix3 0 r d) = F (r.val / 32) (r.val % 32) d) (hv : ∀ (r : Fin 512) (d : Fin 128), v (ix3 0 r d) = V (r.val / 32) (r.val % 32) d)
    (hb : ∀ d : Fin 128, lb (ix2 0 d) = B d) (hs : ∀ e d : Fin 128, s0 (ix3 0 e d) = S0 d e) (e d : Fin 128) :
    (n : ℕ) → (h : n ≤ 16) → chain f v lb s0 n h (ix2 e d) = Rec.st F V B S0 n d e
  | 0, h => by
    rw [chain]
    pointwise [k0_pay41]
    exact hs e d
  | n + 1, h => by
    rw [chain]
    pointwise [step, dec, k0_pay22]
    rw [chain_val hf hv hb hs e d n (Nat.le_of_lt h), inc_val hf hv hb, tot_val hf hb]
    rfl

theorem stOut_val (hf : ∀ (r : Fin 512) (d : Fin 128), f (ix3 0 r d) = F (r.val / 32) (r.val % 32) d) (hv : ∀ (r : Fin 512) (d : Fin 128), v (ix3 0 r d) = V (r.val / 32) (r.val % 32) d)
    (hb : ∀ d : Fin 128, lb (ix2 0 d) = B d) (hs : ∀ e d : Fin 128, s0 (ix3 0 e d) = S0 d e) (e d : Fin 128) :
    stOut f v lb s0 (ix3 0 e d) = Rec.st F V B S0 16 d e := by
  pointwise [stOut]
  exact chain_val hf hv hb hs e d 16 (le_refl _)

theorem inter_val (hq : ∀ (r : Fin 512) (d : Fin 128), q (ix3 0 r d) = Q (r.val / 32) (r.val % 32) d) (hf : ∀ (r : Fin 512) (d : Fin 128), f (ix3 0 r d) = F (r.val / 32) (r.val % 32) d) (hv : ∀ (r : Fin 512) (d : Fin 128), v (ix3 0 r d) = V (r.val / 32) (r.val % 32) d)
    (hb : ∀ d : Fin 128, lb (ix2 0 d) = B d) (hs : ∀ e d : Fin 128, s0 (ix3 0 e d) = S0 d e) (n : ℕ) (h : n < 16) (i : Fin 32) (e : Fin 128) :
    inter q f v lb s0 n h (ix2 i e) = ∑ d, Rec.qd Q F B n i d * Rec.st F V B S0 n d e := by
  pointwise [inter]
  refine Finset.sum_congr rfl fun d _ => ?_
  rw [chain_val hf hv hb hs, qd_val hq hf hb]
  have h1 : (32 * n + i.val) / 32 = n := by omega
  have h2 : (32 * n + i.val) % 32 = i.val := by omega
  show Rec.qd Q F B ((32 * n + i.val) / 32) ((32 * n + i.val) % 32) d * _ = _
  rw [h1, h2]

/-! ## The mask -/

theorem rowpart : ∀ r : Fin 512, (Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 ↑r) 32#32) 0#32))
          (IntOp.subi (IntOp.divsi ArithUnit.vector (BitVec.ofNat 32 ↑r) 32#32) 1#32)
          (IntOp.divsi ArithUnit.vector (BitVec.ofNat 32 ↑r) 32#32)) = BitVec.ofNat 32 (r.val / 32) := by
  decide +kernel

theorem mask_val (r s : Fin 512) : mask (ix2 r s) = if s.val / 32 = r.val / 32 ∧ s.val ≤ r.val then 1#1 else 0#1 := by
  pointwise [mask, k0_pay7, k0_pay6, k0_pay5, k0_pay4]
  rw [rowpart, rowpart]
  have hr := r.isLt
  have hs := s.isLt
  rw [WordCmp.cmpi_eq_ofNat (by omega) (by omega), WordCmp.cmpi_sle_ofNat (by omega) (by omega)]
  by_cases a : s.val / 32 = r.val / 32 <;> by_cases b : s.val ≤ r.val
  · rw [if_pos ⟨a, b⟩, decide_eq_true a.symm, decide_eq_true b]; rfl
  · rw [if_neg (fun h => b h.2), decide_eq_true a.symm, decide_eq_false b]; rfl
  · rw [if_neg (fun h => a h.1), decide_eq_false (fun h => a h.symm), decide_eq_true b]; rfl
  · rw [if_neg (fun h => a h.1), decide_eq_false (fun h => a h.symm), decide_eq_false b]; rfl

/-- A sum over the block's rows of terms that vanish outside chunk `n` is the sum over the chunk's rows. -/
theorem sum_chunk (n : ℕ) (h : n < 16) (t : Fin 512 → EReal) (u : Fin 32 → EReal) (h0 : ∀ s : Fin 512, s.val / 32 ≠ n → t s = 0)
    (h1 : ∀ (i : Fin 32), t ⟨32 * n + i, by omega⟩ = u i) : ∑ s, t s = ∑ i, u i := by
  symm
  refine Finset.sum_of_injOn (fun i : Fin 32 => (⟨32 * n + i, by omega⟩ : Fin 512)) ?_ ?_ ?_ ?_
  · intro a _ b _ hab
    exact Fin.ext (by have := congrArg Fin.val hab; simp only at this; omega)
  · intro a _
    exact Finset.mem_coe.mpr (Finset.mem_univ _)
  · intro s _ hs
    refine h0 s fun e => hs ⟨⟨s.val % 32, Nat.mod_lt _ (by decide)⟩, Finset.mem_coe.mpr (Finset.mem_univ _), Fin.ext ?_⟩
    show 32 * n + s.val % 32 = s.val
    omega
  · intro i _
    exact (h1 i).symm

theorem intra_val (hq : ∀ (r : Fin 512) (d : Fin 128), q (ix3 0 r d) = Q (r.val / 32) (r.val % 32) d) (hf : ∀ (r : Fin 512) (d : Fin 128), f (ix3 0 r d) = F (r.val / 32) (r.val % 32) d) (hv : ∀ (r : Fin 512) (d : Fin 128), v (ix3 0 r d) = V (r.val / 32) (r.val % 32) d)
    (hb : ∀ d : Fin 128, lb (ix2 0 d) = B d) (r : Fin 512) (e : Fin 128) :
    intra q f v lb (ix2 r e) = Rec.intra Q F V B (r.val / 32) (r.val % 32) e := by
  pointwise [intra, k0_pay21, k0_pay18, k0_pay8, k0_pay9, k0_pay16, k0_pay17, k0_pay20]
  simp only [mask_val, csum_val hf hb, fgt_val hf hb, hq, hv]
  refine sum_chunk (r.val / 32) (by omega) _ _ (fun s hs => ?_) (fun i => ?_)
  · rw [if_neg (fun h => hs h.1)]
    rfl
  · have h1 : (32 * (r.val / 32) + i.val) / 32 = r.val / 32 := by omega
    have h2 : (32 * (r.val / 32) + i.val) % 32 = i.val := by omega
    have h3 : (i.val ≤ r.val % 32) ↔ 32 * (r.val / 32) + i.val ≤ r.val := by omega
    simp only [h1, h2, h3, true_and]
    by_cases h : 32 * (r.val / 32) + i.val ≤ r.val
    · rw [if_pos h, if_pos h]; rfl
    · rw [if_neg h, if_neg h, zero_mul]; rfl

/-! ## The results -/

theorem cat_ok : Shape.Concatenates ((List.ofFn fun n : Fin 16 => (⟨S32x128, inter q f v lb s0 n n.isLt⟩ : (s : Shape) × (s.Idx → Ideal .f32))).map (·.1)) S512x128 0 :=
  concatenates_S32x128_S32x128_S32x128_S32x128_S32x128_S32x128_S32x128_S32x128_S32x128_S32x128_S32x128_S32x128_S32x128_S32x128_S32x128_S32x128_S512x128_d0

variable (q f v lb s0) in
/-- The queries times the states, chunk under chunk. -/
def cat : FVec Ideal S512x128 .f32 :=
  concatenate S512x128 0 (List.ofFn fun n : Fin 16 => (⟨S32x128, inter q f v lb s0 n n.isLt⟩ : (s : Shape) × (s.Idx → Ideal .f32))) cat_ok

/-- The norm and the output gate, on arrays. -/
def fin (v66 v330 : FVec Ideal S512x128 .f32) (v341 : Vec Ideal S1x128 .f32) : FVec Ideal S1x512x128 .bf16 :=
  have v331 : FVec Ideal S512x128 .f32 := mulf v330 v330
  have v332 : FVec Ideal S512 .f32 := multiReduction .add [1] S512 v331 0x00000000#32 reduces_S512x128_S512 (.inl rfl) rfl
  have v335 : FVec Ideal S512x1 .f32 := divf (shapeCast S512x1 v332 shapeCasts_S512_S512x1) (broadcast S512x1 (Scalar.ofBits .f32 0x43000000#32))
  have v338 : FVec Ideal S512x1 .f32 := rsqrt (addf v335 (broadcast S512x1 (Scalar.ofBits .f32 0x358637BD#32)))
  have v340 : FVec Ideal S512x128 .f32 := mulf v330 (broadcastTo S512x128 v338 broadcasts_S512x1_S512x128)
  have v344 : FVec Ideal S512x128 .f32 := mulf v340 (broadcastTo S512x128 (shapeCast S1x128 v341 shapeCasts_S1x128_S1x128) broadcasts_S1x128_S512x128)
  have v347 : FVec Ideal S512x128 .f32 := exp (subf (broadcast S512x128 (Scalar.ofBits .f32 0x00000000#32)) v66)
  have v349 : FVec Ideal S512x128 .f32 := addf (broadcast S512x128 (Scalar.ofBits .f32 0x3F800000#32)) v347
  have v352 : FVec Ideal S512x128 .f32 := mulf v66 (divf (broadcast S512x128 (Scalar.ofBits .f32 0x3F800000#32)) v349)
  shapeCast S1x512x128 (truncf .bf16 (mulf v344 v352) bitsLt_bf16_f32) shapeCasts_S512x128_S1x512x128

theorem out_eq : out q f v g lb ng s0 = fin (k0_pay10 g) (addf (intra q f v lb) (cat q f v lb s0)) ng := rfl

theorem cat_val (hq : ∀ (r : Fin 512) (d : Fin 128), q (ix3 0 r d) = Q (r.val / 32) (r.val % 32) d) (hf : ∀ (r : Fin 512) (d : Fin 128), f (ix3 0 r d) = F (r.val / 32) (r.val % 32) d) (hv : ∀ (r : Fin 512) (d : Fin 128), v (ix3 0 r d) = V (r.val / 32) (r.val % 32) d)
    (hb : ∀ d : Fin 128, lb (ix2 0 d) = B d) (hs : ∀ e d : Fin 128, s0 (ix3 0 e d) = S0 d e) (r : Fin 512) (e : Fin 128) :
    cat q f v lb s0 (ix2 r e) = ∑ d, Rec.qd Q F B (r.val / 32) (r.val % 32) d * Rec.st F V B S0 (r.val / 32) d e := by
  refine (concatenate_ofFn_apply (t := S512x128) 0 _ cat_ok rfl 32 rfl (ix2 r e) ⟨r.val / 32, by omega⟩ rfl (ix2 ⟨r.val % 32, Nat.mod_lt _ (by decide)⟩ e) rfl fun b hb => ?_).trans
    (inter_val hq hf hv hb hs _ _ _ _)
  match b, hb with
  | ⟨0, _⟩, hb => exact absurd rfl hb
  | ⟨1, _⟩, _ => rfl

theorem fin_val (x y : FVec Ideal S512x128 .f32) (w : Vec Ideal S1x128 .f32) (r : Fin 512) (e : Fin 128) :
    fin x y w (ix3 0 r e) = y (ix2 r e) * Ideal.rsqrt (Ideal.div (∑ e', y (ix2 r e') * y (ix2 r e')) (Scalar.ofBits (F := Ideal) .f32 0x43000000#32) + Scalar.ofBits (F := Ideal) .f32 0x358637BD#32) * w (ix2 0 e) * Rec.silu (x (ix2 r e)) := by
  pointwise [fin]
  rfl

theorem out_val (hq : ∀ (r : Fin 512) (d : Fin 128), q (ix3 0 r d) = Q (r.val / 32) (r.val % 32) d) (hf : ∀ (r : Fin 512) (d : Fin 128), f (ix3 0 r d) = F (r.val / 32) (r.val % 32) d) (hv : ∀ (r : Fin 512) (d : Fin 128), v (ix3 0 r d) = V (r.val / 32) (r.val % 32) d)
    (hg : ∀ (r : Fin 512) (d : Fin 128), g (ix3 0 r d) = G (r.val / 32) (r.val % 32) d)
    (hb : ∀ d : Fin 128, lb (ix2 0 d) = B d) (hw : ∀ d : Fin 128, ng (ix2 0 d) = W d) (hs : ∀ e d : Fin 128, s0 (ix3 0 e d) = S0 d e) (r : Fin 512) (e : Fin 128) :
    out q f v g lb ng s0 (ix3 0 r e) = Rec.out Q F V G B W S0 (r.val / 32) (r.val % 32) e := by
  have hm : ∀ e, (addf (intra q f v lb) (cat q f v lb s0) : FVec Ideal S512x128 .f32) (ix2 r e) = Rec.mix Q F V B S0 (r.val / 32) (r.val % 32) e := fun e => by
    pointwise []
    rw [intra_val hq hf hv hb, cat_val hq hf hv hb hs]
    rfl
  have hG : k0_pay10 g (ix2 r e) = G (r.val / 32) (r.val % 32) e := by
    pointwise [k0_pay10]
    exact hg r e
  rw [out_eq, fin_val, hG, hw]
  simp only [hm]
  rfl

end

end Cert.KernelIdeal.Head
-- ==== Proof.KVal.lean ====
module

public import proofs.«01_k».proof.Proof.Point
public import proofs.«01_k».proof.Proof.Block

@[expose] public section

set_option maxRecDepth 16384

noncomputable section

open Idealize.ShloMosaic Idealize.ShloMosaic.TcCoe Idealize.SL.Sem
/-! # What the kernel's array holds -/

namespace Cert.KernelIdeal.Pt
open Cert.KernelIdeal Cert.KernelIdeal.Gen Cert.KernelIdeal.Head

variable (m : (ℓ : Loc nD τ sig) → Buf (Elt Ideal) ℓ)

/-! ## The arrays the launch reads -/

/-- The lower bounds, from their logits: the first of the two partial sums of the softmax, as the host computes it. -/
def bounds (x : FVec Ideal S2x512 .f32) : FVec Ideal S1x512 .f32 :=
  have mx : FVec Ideal S512 .f32 := maximumf (broadcastInDim S512 ![] bcast_S_S512 (constant S_ .f32 0xFF800000#32)) (Host.reduce FloatOps.maximumf x (constant S_ .f32 0xFF800000#32) reducesTo_S2x512_S512_d0 h_S_)
  have ex : FVec Ideal S2x512 .f32 := Host.exp (subf x (broadcastInDim S2x512 ![0, 1] bcast_S1x512_S2x512_0_1 (broadcastInDim S1x512 ![1] bcast_S512_S1x512_1 mx)))
  have sm : FVec Ideal S512 .f32 := Host.reduceAdd ex (constant S_ .f32 0x00000000#32) reducesTo_S2x512_S512_d0 h_S_
  have sf : FVec Ideal S2x512 .f32 := Host.divf ex (broadcastInDim S2x512 ![0, 1] bcast_S1x512_S2x512_0_1 (broadcastInDim S1x512 ![1] bcast_S512_S1x512_1 sm))
  have cu : FVec Ideal S2x512 .f32 := Host.reduceWindowAdd ![2, 1] ![1, 1] ![1, 0] ![0, 0] sf (broadcastInDim S_ ![] bcast_S_S_ (constant S_ .f32 0x00000000#32)) reduceWindows_S2x512_S2x512_w2s1p1_0_w1s1p0_0 h_S_
  extractStridedSlice S1x512 ![0, 0] cu slices_S2x512_S1x512_0_0

theorem V_v12 (c : Dev nD) : (V m c main_v12 : Vec Ideal S8x4096x2048 .f32) = shapeCast S8x4096x2048 (m ((c.tc : Thread nD τ).loc main_arg0)) shapeCasts_S32768x2048_S8x4096x2048 := by
  show StableHlo.after (List.flatten [hostOps0, hostOps0_1, hostOps0_2]) (fun b => m (c, b)) (Proc.devRef .tc main_v12) = _
  simp only [hostOps0, hostOps0_1, hostOps0_2, List.flatten_cons, List.flatten_nil, List.append_nil, List.cons_append, List.nil_append]
  after_results
  rfl

theorem V_v15 (c : Dev nD) : (V m c main_v15 : Vec Ideal S1x512 .f32) = shapeCast S1x512 (shapeCast S512 (bounds (m ((c.tc : Thread nD τ).loc main_arg1))) shapeCasts_S1x512_S512) shapeCasts_S512_S1x512 := by
  show StableHlo.after (List.flatten [hostOps0, hostOps0_1, hostOps0_2]) (fun b => m (c, b)) (Proc.devRef .tc main_v15) = _
  simp only [hostOps0, hostOps0_1, hostOps0_2, List.flatten_cons, List.flatten_nil, List.append_nil, List.cons_append, List.nil_append]
  after_results
  rfl

theorem V_v17 (c : Dev nD) : (V m c main_v17 : Vec Ideal S1x512 .f32) = shapeCast S1x512 (shapeCast S512 (m ((c.tc : Thread nD τ).loc main_arg2)) shapeCasts_S1x512_S512) shapeCasts_S512_S1x512 := by
  show StableHlo.after (List.flatten [hostOps0, hostOps0_1, hostOps0_2]) (fun b => m (c, b)) (Proc.devRef .tc main_v17) = _
  simp only [hostOps0, hostOps0_1, hostOps0_2, List.flatten_cons, List.flatten_nil, List.append_nil, List.cons_append, List.nil_append]
  after_results
  rfl

theorem split_rows (X : Vec Ideal S32768x2048 .f32) (b : Fin 8) (t : Fin 4096) (k : Fin 2048) :
    shapeCast S8x4096x2048 X shapeCasts_S32768x2048_S8x4096x2048 (ix3 b t k) = X (ix2 ⟨4096 * b.val + t.val, by omega⟩ k) := by
  have e : (⟨4096 * b.val + t.val, by omega⟩ : Fin 32768) = ⟨b.val * 4096 + t.val, by omega⟩ := Fin.ext (by show 4096 * b.val + t.val = b.val * 4096 + t.val; omega)
  rw [e]
  pointwise []

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem a0 (c : Dev nD) (t : Fin cfg0.N) (r : Fin 512) (k : Fin 2048) : iblk m c 0 t (ix3 0 r k) =
    (m ((c.tc : Thread nD τ).loc main_arg0)) (ix2 ⟨4096 * (t.val / 8) + 512 * (t.val % 8) + r.val, by have := lt_of_lt_of_eq t.isLt N_0; omega⟩ k) := by
  obtain ⟨e0, e1, e2⟩ := idx0 t
  have hN := lt_of_lt_of_eq t.isLt N_0
  blk_simp [iblk]
  rw [V_v12]
  have e : (win0_0.blk t).view.emb (ix3 0 r k) = (ix3 ⟨t.val / 8, by omega⟩ ⟨512 * (t.val % 8) + r.val, by omega⟩ k : S8x4096x2048.Idx) := by
    funext a
    apply Fin.ext
    match a with
    | ⟨0, _⟩ => show win0_0.index t (0 : Fin 3) * 1 + 1 * 0 = _; rw [e0]; show t.val / 8 * 1 + 1 * 0 = t.val / 8; omega
    | ⟨1, _⟩ => show win0_0.index t (1 : Fin 3) * 512 + 1 * r.val = _; rw [e1]; show t.val % 8 * 512 + 1 * r.val = 512 * (t.val % 8) + r.val; omega
    | ⟨2, _⟩ => show win0_0.index t (2 : Fin 3) * 2048 + 1 * k.val = _; rw [e2]; show 0 * 2048 + 1 * k.val = k.val; omega
  rw [e]
  rw [split_rows]
  congr 2
  apply Fin.ext
  show 4096 * (t.val / 8) + (512 * (t.val % 8) + r.val) = 4096 * (t.val / 8) + 512 * (t.val % 8) + r.val
  omega

theorem a1 (c : Dev nD) (t : Fin cfg0.N) (k : Fin 512) : iblk m c 1 t (ix2 0 k) = bounds (m ((c.tc : Thread nD τ).loc main_arg1)) (ix2 0 k) := by
  obtain ⟨e0, e1⟩ := idx1 t
  blk_simp [iblk]
  rw [V_v15]
  have e : (win0_1.blk t).view.emb (ix2 0 k) = (ix2 0 k : S1x512.Idx) := by
    funext a
    apply Fin.ext
    match a with
    | ⟨0, _⟩ => show win0_1.index t (0 : Fin 2) * 1 + 1 * 0 = 0; rw [e0]
    | ⟨1, _⟩ => show win0_1.index t (1 : Fin 2) * 512 + 1 * k.val = k.val; rw [e1]; omega
  rw [e]
  generalize bounds (m ((c.tc : Thread nD τ).loc main_arg1)) = X
  pointwise []
theorem a2 (c : Dev nD) (t : Fin cfg0.N) (k : Fin 512) : iblk m c 2 t (ix2 0 k) = (m ((c.tc : Thread nD τ).loc main_arg2)) (ix2 0 k) := by
  obtain ⟨e0, e1⟩ := idx2 t
  blk_simp [iblk]
  rw [V_v17]
  have e : (win0_2.blk t).view.emb (ix2 0 k) = (ix2 0 k : S1x512.Idx) := by
    funext a
    apply Fin.ext
    match a with
    | ⟨0, _⟩ => show win0_2.index t (0 : Fin 2) * 1 + 1 * 0 = 0; rw [e0]
    | ⟨1, _⟩ => show win0_2.index t (1 : Fin 2) * 512 + 1 * k.val = k.val; rw [e1]; omega
  rw [e]
  generalize m ((c.tc : Thread nD τ).loc main_arg2) = X
  pointwise []
end Cert.KernelIdeal.Pt
-- ==== Proof.KArr.lean ====
module

public import proofs.«01_k».proof.Proof.KVal

@[expose] public section

set_option maxRecDepth 16384

noncomputable section

open Idealize.ShloMosaic Idealize.ShloMosaic.TcCoe Idealize.SL.Sem
/-! # The kernel's array, point by point -/

namespace Cert.KernelIdeal.Pt
open Cert.KernelIdeal Cert.KernelIdeal.Gen Cert.KernelIdeal.Head

variable (m : (ℓ : Loc nD τ sig) → Buf (Elt Ideal) ℓ)

/-- The projected inputs. -/
def argX (c : Dev nD) : Fin 32768 → Fin 2048 → EReal := fun r k => (m ((c.tc : Thread nD τ).loc main_arg0)) (ix2 r k)
/-- The lower bounds. -/
def argB (c : Dev nD) : Fin 512 → EReal := fun k => bounds (m ((c.tc : Thread nD τ).loc main_arg1)) (ix2 0 k)
/-- The norm's weights. -/
def argW (c : Dev nD) : Fin 512 → EReal := fun k => (m ((c.tc : Thread nD τ).loc main_arg2)) (ix2 0 k)

/-- A block's columns are the batch's, 16 chunks for each block before it. -/
theorem lane_val (c : Dev nD) (t : Fin cfg0.N) (k : ℕ) (h : k < 16) (r : Fin 512) (d : Fin 128) :
    lane (iblk m c 0 t) k h (ix3 0 r d) = Rec.col (argX m c) (t.val / 8) k (16 * (t.val % 8) + r.val / 32) (r.val % 32) d := by
  have hN := lt_of_lt_of_eq t.isLt N_0
  refine (lane_apply (iblk m c 0 t) k h r d).trans ((a0 m c t r _).trans ?_)
  show _ = (m ((c.tc : Thread nD τ).loc main_arg0)) (ix2 _ _)
  congr 2
  · apply Fin.ext
    show 4096 * (t.val / 8) + 512 * (t.val % 8) + r.val = (4096 * (t.val / 8) + 32 * (16 * (t.val % 8) + r.val / 32) + r.val % 32) % 32768
    omega
  · apply Fin.ext
    show 128 * k + d.val = (128 * k + d.val) % 2048
    omega

theorem lrow1_val (c : Dev nD) (t : Fin cfg0.N) (k : ℕ) (h : k < 4) (d : Fin 128) :
    lrow (iblk m c 1 t) k h (ix2 0 d) = Rec.part (argB m c) k d := by
  refine (lrow_apply (iblk m c 1 t) k h d).trans ((a1 m c t _).trans ?_)
  show _ = bounds (m ((c.tc : Thread nD τ).loc main_arg1)) (ix2 0 _)
  congr 2
  apply Fin.ext
  show 128 * k + d.val = (128 * k + d.val) % 512
  omega

theorem lrow2_val (c : Dev nD) (t : Fin cfg0.N) (k : ℕ) (h : k < 4) (d : Fin 128) :
    lrow (iblk m c 2 t) k h (ix2 0 d) = Rec.part (argW m c) k d := by
  refine (lrow_apply (iblk m c 2 t) k h d).trans ((a2 m c t _).trans ?_)
  show _ = (m ((c.tc : Thread nD τ).loc main_arg2)) (ix2 0 _)
  congr 2
  apply Fin.ext
  show 128 * k + d.val = (128 * k + d.val) % 512
  omega

/-- Head `h`'s state before chunk `n` of batch `b`. -/
def stOf (c : Dev nD) (b h n : ℕ) : Fin 128 → Fin 128 → EReal :=
  Rec.st (Rec.col (argX m c) b (4 + h)) (Rec.col (argX m c) b (8 + h)) (Rec.part (argB m c) h) (fun _ _ => 0) n

/-- A block's states, from the states before it. -/
theorem stAll_val (c : Dev nD) (t : Fin cfg0.N) (P : Vec Ideal S4x128x128 .f32)
    (hP : ∀ (h : Fin 4) (e d : Fin 128), P (ix3 h e d) = stOf m c (t.val / 8) h (16 * (t.val % 8)) d e) (h : Fin 4) (e d : Fin 128) :
    stAll (iblk m c 0 t) (iblk m c 1 t) P (ix3 h e d) = stOf m c (t.val / 8) h (16 * (t.val % 8) + 16) d e := by
  refine (stOut_val (F := fun n => Rec.col (argX m c) (t.val / 8) (4 + h.val) (16 * (t.val % 8) + n)) (V := fun n => Rec.col (argX m c) (t.val / 8) (8 + h.val) (16 * (t.val % 8) + n))
    (B := Rec.part (argB m c) h.val) (S0 := stOf m c (t.val / 8) h (16 * (t.val % 8))) (lane_val m c t _ _) (lane_val m c t _ _) (lrow1_val m c t _ _)
    (fun e d => (slab_apply P _ _ e d).trans (hP h e d)) e d).trans ?_
  exact (congrFun (congrFun (Rec.st_shift _ _ _ _ (16 * (t.val % 8)) 16) d) e).symm

/-- A block's results, from the states before it. -/
theorem outAll_val (c : Dev nD) (t : Fin cfg0.N) (P : Vec Ideal S4x128x128 .f32)
    (hP : ∀ (h : Fin 4) (e d : Fin 128), P (ix3 h e d) = stOf m c (t.val / 8) h (16 * (t.val % 8)) d e) (r : Fin 512) (j : Fin 512) :
    outAll (iblk m c 0 t) (iblk m c 1 t) (iblk m c 2 t) P (ix3 0 r j) =
      Rec.hgrn (argX m c) (argB m c) (argW m c) (t.val / 8) (j.val / 128) (512 * (t.val % 8) + r.val) ⟨j.val % 128, Nat.mod_lt _ (by decide)⟩ := by
  have hj : j.val / 128 < 4 := by omega
  refine (out_val (Q := fun n => Rec.col (argX m c) (t.val / 8) (j.val / 128) (16 * (t.val % 8) + n)) (F := fun n => Rec.col (argX m c) (t.val / 8) (4 + j.val / 128) (16 * (t.val % 8) + n))
    (V := fun n => Rec.col (argX m c) (t.val / 8) (8 + j.val / 128) (16 * (t.val % 8) + n)) (G := fun n => Rec.col (argX m c) (t.val / 8) (12 + j.val / 128) (16 * (t.val % 8) + n))
    (B := Rec.part (argB m c) (j.val / 128)) (W := Rec.part (argW m c) (j.val / 128)) (S0 := stOf m c (t.val / 8) (j.val / 128) (16 * (t.val % 8)))
    (lane_val m c t _ _) (lane_val m c t _ _) (lane_val m c t _ _) (lane_val m c t _ _) (lrow1_val m c t _ _) (lrow2_val m c t _ _)
    (fun e d => (slab_apply P _ _ e d).trans (hP ⟨j.val / 128, hj⟩ e d)) r ⟨j.val % 128, Nat.mod_lt _ (by decide)⟩).trans ?_
  have h1 : (512 * (t.val % 8) + r.val) / 32 = 16 * (t.val % 8) + r.val / 32 := by omega
  have h2 : (512 * (t.val % 8) + r.val) % 32 = r.val % 32 := by omega
  unfold Rec.hgrn
  rw [h1, h2, Rec.out_shift _ _ _ _ _ _ _ (16 * (t.val % 8)) (r.val / 32)]
  rfl

/-- The states after point `n`. -/
theorem states (c : Dev nD) : (n : ℕ) → (hn : n < cfg0.N) → ∀ (h : Fin 4) (e d : Fin 128),
    (outsAt0 m c n hn).2 (ix3 h e d) = stOf m c (n / 8) h (16 * (n % 8) + 16) d e := by
  intro n
  induction n with
  | zero =>
    intro hn h e d
    refine (state_A m c ⟨0, hn⟩ rfl (ix3 h e d)).trans ?_
    exact stAll_val m c ⟨0, hn⟩ zst (fun _ _ _ => rfl) h e d
  | succ n ih =>
    intro hn h e d
    by_cases h0 : (n + 1) % 8 = 0
    · refine (state_A m c ⟨n + 1, hn⟩ h0 (ix3 h e d)).trans ?_
      refine stAll_val m c ⟨n + 1, hn⟩ zst (fun h e d => ?_) h e d
      show (0 : EReal) = stOf m c ((n + 1) / 8) h (16 * ((n + 1) % 8)) d e
      rw [h0]
      rfl
    · refine (state_B m c ⟨n + 1, hn⟩ h0 (ix3 h e d)).trans ?_
      refine stAll_val m c ⟨n + 1, hn⟩ _ (fun h e d => ?_) h e d
      refine (ih _ h e d).trans ?_
      have h1 : n / 8 = (n + 1) / 8 := by omega
      have h2 : 16 * (n % 8) + 16 = 16 * ((n + 1) % 8) := by omega
      rw [h1, h2]

/-- The results of point `t`'s block. -/
theorem results (c : Dev nD) (t : Fin cfg0.N) (r : Fin 512) (j : Fin 512) :
    (outsAt0 m c t.val t.isLt).1 (ix3 0 r j) =
      Rec.hgrn (argX m c) (argB m c) (argW m c) (t.val / 8) (j.val / 128) (512 * (t.val % 8) + r.val) ⟨j.val % 128, Nat.mod_lt _ (by decide)⟩ := by
  by_cases h0 : t.val % 8 = 0
  · refine (out_A m c t h0 (ix3 0 r j)).trans (outAll_val m c t zst (fun h e d => ?_) r j)
    show (0 : EReal) = stOf m c (t.val / 8) h (16 * (t.val % 8)) d e
    rw [h0]
    rfl
  · refine (out_B m c t h0 (ix3 0 r j)).trans (outAll_val m c t _ (fun h e d => ?_) r j)
    refine (states m c (t.val - 1) _ h e d).trans ?_
    have h1 : (t.val - 1) / 8 = t.val / 8 := by omega
    have h2 : 16 * ((t.val - 1) % 8) + 16 = 16 * (t.val % 8) := by omega
    rw [h1, h2]

/-- The array the kernel leaves. -/
theorem array (c : Dev nD) (b : Fin 8) (t : Fin 4096) (j : Fin 512) :
    Value.G3 m c (ix3 b t j) = Rec.hgrn (argX m c) (argB m c) (argW m c) b (j.val / 128) t ⟨j.val % 128, Nat.mod_lt _ (by decide)⟩ := by
  have hp : Value.pt3Of (ix3 b t j) = 8 * b.val + t.val / 512 := by
    show 8 * (b.val / 1 - 0) + 1 * (t.val / 512 - 0) + 1 * (j.val / 512 - 0) = _
    omega
  have hN : 8 * b.val + t.val / 512 < cfg0.N := lt_of_lt_of_eq (by omega) N_0.symm
  have hl : Value.loc3Of (ix3 b t j) = ix3 0 ⟨t.val % 512, Nat.mod_lt _ (by decide)⟩ j := by
    funext a
    apply Fin.ext
    match a with
    | ⟨0, _⟩ => show b.val % 1 = 0; omega
    | ⟨1, _⟩ => rfl
    | ⟨2, _⟩ => show j.val % 512 = j.val; omega
  unfold Value.G3
  rw [dif_pos (hp ▸ hN)]
  have hs := Value.outsAt0_sweep m c (8 * b.val + t.val / 512) hN
  have hr := results m c ⟨8 * b.val + t.val / 512, hN⟩ ⟨t.val % 512, Nat.mod_lt _ (by decide)⟩ j
  rw [show (outsAt0 m c (⟨8 * b.val + t.val / 512, hN⟩ : Fin cfg0.N).val (⟨8 * b.val + t.val / 512, hN⟩ : Fin cfg0.N).isLt) = _ from hs] at hr
  rw [hl, Value.fold0_congr m c (Value.pt3Of (ix3 b t j)) (by rw [hp]; omega) (8 * b.val + t.val / 512) (by omega) hp]
  refine hr.trans ?_
  have h1 : (8 * b.val + t.val / 512) / 8 = b.val := by omega
  have h2 : 512 * ((8 * b.val + t.val / 512) % 8) + t.val % 512 = t.val := by omega
  show Rec.hgrn _ _ _ ((8 * b.val + t.val / 512) / 8) _ (512 * ((8 * b.val + t.val / 512) % 8) + t.val % 512) _ = _
  rw [h1, h2]

end Cert.KernelIdeal.Pt
-- ==== Proof.RDefs.lean ====
module

public import proofs.«01_k».proof.Proof.Gen.ReferenceIdeal.Run
public import proofs.«01_k».proof.Proof.Spec
public import proofs.«01_k».proof.Proof.KVal

@[expose] public section

set_option maxRecDepth 16384

noncomputable section

open Idealize.ShloMosaic Idealize.ShloMosaic.TcCoe Idealize.SL.Sem
/-! # The reference's arrays before its scan, and where the program holds them -/

namespace Cert.ReferenceIdeal.Ref
open Cert.ReferenceIdeal Cert.ReferenceIdeal.Gen Cert.ReferenceIdeal.Value Idealize.ShloMosaic.StableHlo

/-- One array of batch, time and feature. -/
abbrev Arr := FVec Ideal S8x4096x512 .f32
/-- One array of batch, head, chunk, row in the chunk and feature in the head. -/
abbrev Chunks := FVec Ideal S8x4x128x32x128 .f32

def x0 (X : FVec Ideal S32768x2048 .f32) : FVec Ideal S8x4096x2048 .f32 := shapeCast S8x4096x2048 X shapeCasts_S32768x2048_S8x4096x2048
def q0 (X : FVec Ideal S32768x2048 .f32) : Arr := extractStridedSlice S8x4096x512 ![0, 0, 0] (x0 X) slices_S8x4096x2048_S8x4096x512_0_0_0
def f0 (X : FVec Ideal S32768x2048 .f32) : Arr := extractStridedSlice S8x4096x512 ![0, 0, 512] (x0 X) slices_S8x4096x2048_S8x4096x512_0_0_512
def v0 (X : FVec Ideal S32768x2048 .f32) : Arr := extractStridedSlice S8x4096x512 ![0, 0, 1024] (x0 X) slices_S8x4096x2048_S8x4096x512_0_0_1024
def g0 (X : FVec Ideal S32768x2048 .f32) : Arr := extractStridedSlice S8x4096x512 ![0, 0, 1536] (x0 X) slices_S8x4096x2048_S8x4096x512_0_0_1536

/-- All ones. -/
def one : Arr := broadcastInDim S8x4096x512 ![] bcast_S_S8x4096x512 (constant (F := Ideal) S_ .f32 0x3F800000#32)
/-- The logistic function at every element. -/
def logis (a : Arr) : Arr := Host.divf one (addf one (Host.exp (Host.negf a)))
/-- One value per feature, at every batch and time. -/
def spread (y : FVec Ideal S512 .f32) : Arr := broadcastInDim S8x4096x512 ![0, 1, 2] bcast_S1x1x512_S8x4096x512_0_1_2 (broadcastInDim S1x1x512 ![2] bcast_S512_S1x1x512_2 y)
/-- The forget gate. -/
def forget (b : FVec Ideal S512 .f32) (f : Arr) : Arr :=
  addf (spread b) (mulf (spread (subf (broadcastInDim S512 ![] bcast_S_S512 (constant (F := Ideal) S_ .f32 0x3F800000#32)) b)) (logis f))
/-- The chunks of an array, head by head. -/
def chunks (a : Arr) : Chunks :=
  transpose S8x4x128x32x128 [0, 3, 1, 2, 4] (shapeCast S8x128x32x4x128 a shapeCasts_S8x4096x512_S8x128x32x4x128) transposes_S8x128x32x4x128_S8x4x128x32x128_0_3_1_2_4
/-- Running sums along the rows of each chunk. -/
def sums (a : Chunks) : Chunks :=
  Host.reduceWindowAdd ![1, 1, 1, 32, 1] ![1, 1, 1, 1, 1] ![0, 0, 0, 31, 0] ![0, 0, 0, 0, 0] a (broadcastInDim S_ ![] bcast_S_S_ (constant (F := Ideal) S_ .f32 0x00000000#32)) reduceWindows_S8x4x128x32x128_S8x4x128x32x128_w1s1p0_0_w1s1p0_0_w1s1p0_0_w32s1p31_0_w1s1p0_0 h_S_
def last (a : Chunks) : FVec Ideal S8x4x128x1x128 .f32 := extractStridedSlice S8x4x128x1x128 ![0, 0, 0, 31, 0] a slices_S8x4x128x32x128_S8x4x128x1x128_0_0_0_31_0

/-- The running sums of the gates' logarithms. -/
def bs (b : FVec Ideal S512 .f32) (f : Arr) : Chunks := sums (chunks (Host.log (forget b f)))
def kc (b : FVec Ideal S512 .f32) (f : Arr) : Chunks := chunks (subf one (forget b f))
def silu (q : Arr) : Arr := mulf q (logis q)
def grow (a s : Chunks) : Chunks := mulf a (Host.exp s)
def qdec (q : Arr) (s : Chunks) : Chunks := grow (chunks (silu q)) s
def kinv (k s : Chunks) : Chunks := mulf k (Host.exp (Host.negf s))
def kend (k s : Chunks) : Chunks :=
  mulf k (Host.exp (subf (broadcastInDim S8x4x128x32x128 ![0, 1, 2, 3, 4] bcast_S8x4x128x1x128_S8x4x128x32x128_0_1_2_3_4 (last s)) s))
/-- Ones on and below the diagonal. -/
def tril : FVec Ideal S32x32 .f32 :=
  select (cmpi .sge (addi (iotaInDim S32x32 32 0) (broadcastInDim S32x32 ![] bcast_S_S32x32 (constantI S_ 32 0#32))) (iotaInDim S32x32 32 1))
    (broadcastInDim S32x32 ![] bcast_S_S32x32 (constant (F := Ideal) S_ .f32 0x3F800000#32)) (broadcastInDim S32x32 ![] bcast_S_S32x32 (constant (F := Ideal) S_ .f32 0x00000000#32))
def intra (qd ki v : Chunks) (tr : FVec Ideal S32x32 .f32) : Chunks :=
  Host.dotGeneral dot_S8x4x128x32x32_S8x4x128x32x128_S8x4x128x32x128_4_3_3_4_012_012 none
    (mulf (Host.dotGeneral dot_S8x4x128x32x128_S8x4x128x32x128_S8x4x128x32x32_4_4_3_3_012_012 none qd ki)
      (broadcastInDim S8x4x128x32x32 ![0, 1, 2, 3, 4] bcast_S1x1x1x32x32_S8x4x128x32x32_0_1_2_3_4 (broadcastInDim S1x1x1x32x32 ![3, 4] bcast_S32x32_S1x1x1x32x32_3_4 tr))) v
def upd (ke v : Chunks) : FVec Ideal S128x8x4x128x128 .f32 :=
  transpose S128x8x4x128x128 [2, 0, 1, 3, 4] (Host.dotGeneral dot_S8x4x128x32x128_S8x4x128x32x128_S8x4x128x128x128_3_3_4_4_012_012 none ke v) transposes_S8x4x128x128x128_S128x8x4x128x128_2_0_1_3_4
def decay (l : FVec Ideal S8x4x128x1x128 .f32) : FVec Ideal S128x8x4x128 .f32 :=
  transpose S128x8x4x128 [2, 0, 1, 3] (Host.exp (shapeCast S8x4x128x128 l shapeCasts_S8x4x128x1x128_S8x4x128x128)) transposes_S8x4x128x128_S128x8x4x128_2_0_1_3

/-- The softmax of the lower bounds' logits over the layers. -/
def soft (x : FVec Ideal S2x512 .f32) : FVec Ideal S2x512 .f32 :=
  have mx : FVec Ideal S512 .f32 := maximumf (broadcastInDim S512 ![] bcast_S_S512 (constant S_ .f32 0xFF800000#32)) (Host.reduce FloatOps.maximumf x (constant S_ .f32 0xFF800000#32) reducesTo_S2x512_S512_d0 h_S_)
  have ex : FVec Ideal S2x512 .f32 := Host.exp (subf x (broadcastInDim S2x512 ![0, 1] bcast_S1x512_S2x512_0_1 (broadcastInDim S1x512 ![1] bcast_S512_S1x512_1 mx)))
  have sm : FVec Ideal S512 .f32 := Host.reduceAdd ex (constant S_ .f32 0x00000000#32) reducesTo_S2x512_S512_d0 h_S_
  Host.divf ex (broadcastInDim S2x512 ![0, 1] bcast_S1x512_S2x512_0_1 (broadcastInDim S1x512 ![1] bcast_S512_S1x512_1 sm))
/-- Its partial sums. -/
def lsum (x : FVec Ideal S2x512 .f32) : FVec Ideal S2x512 .f32 :=
  Host.reduceWindowAdd ![2, 1] ![1, 1] ![1, 0] ![0, 0] x (broadcastInDim S_ ![] bcast_S_S_ (constant S_ .f32 0x00000000#32)) reduceWindows_S2x512_S2x512_w2s1p1_0_w1s1p0_0 h_S_
/-- The first of them: the lower bounds, as the kernel's host code computes them too. -/
theorem bounds_eq (x : FVec Ideal S2x512 .f32) :
    extractStridedSlice S1x512 ![0, 0] (lsum (soft x)) slices_S2x512_S1x512_0_0 = KernelIdeal.Pt.bounds x := rfl

variable (m : (ℓ : Loc nD τ sig) → Buf (Elt Ideal) ℓ)

def X (c : Dev nD) : FVec Ideal S32768x2048 .f32 := m ((c.tc : Thread nD τ).loc main_arg0)
def L (c : Dev nD) : FVec Ideal S512 .f32 := shapeCast S512 (KernelIdeal.Pt.bounds (m ((c.tc : Thread nD τ).loc main_arg1))) shapeCasts_S1x512_S512
def W (c : Dev nD) : FVec Ideal S512 .f32 := shapeCast S512 (m ((c.tc : Thread nD τ).loc main_arg2)) shapeCasts_S1x512_S512

end Cert.ReferenceIdeal.Ref
-- ==== Proof.RPre.lean ====
module

public import proofs.«01_k».proof.Proof.RDefs

@[expose] public section

set_option maxRecDepth 16384

noncomputable section

open Idealize.ShloMosaic Idealize.ShloMosaic.TcCoe Idealize.SL.Sem
/-! # Where the reference program holds the arrays it computes before its scan -/

namespace Cert.ReferenceIdeal.Ref
open Cert.ReferenceIdeal Cert.ReferenceIdeal.Gen Cert.ReferenceIdeal.Value Idealize.ShloMosaic.StableHlo

/-! ## One stretch at a time, from any contents -/

section
variable (V : Valuation τ sig (Elt Ideal))

theorem s2_v33 : after hostOps0_2 V (Proc.devRef .tc main_v33) =
    forget (shapeCast S512 (extractStridedSlice S1x512 ![0, 0] (V (Proc.devRef .tc main_v16)) slices_S2x512_S1x512_0_0) shapeCasts_S1x512_S512) (V (Proc.devRef .tc main_v2)) := by
  after_results
  rfl
theorem s3_v34 : after hostOps0_3 V (Proc.devRef .tc main_v34) = silu (V (Proc.devRef .tc main_v1)) := by
  after_results
  rfl
theorem s4_v36 : after hostOps0_4 V (Proc.devRef .tc main_v36) = chunks (V (Proc.devRef .tc main_v34)) := by
  after_results
  rfl
theorem s4_v40 : after hostOps0_4 V (Proc.devRef .tc main_v40) = chunks (subf one (V (Proc.devRef .tc main_v33))) := by
  after_results
  rfl
theorem s4_v42 : after hostOps0_4 V (Proc.devRef .tc main_v42) = chunks (V (Proc.devRef .tc main_v3)) := by
  after_results
  rfl
theorem s4_v45 : after hostOps0_4 V (Proc.devRef .tc main_v45) = chunks (Host.log (F := Ideal) (V (Proc.devRef .tc main_v33) : Arr)) := by
  after_results
  rfl
theorem s5_v46 : after hostOps0_5 V (Proc.devRef .tc main_v46) = sums (V (Proc.devRef .tc main_v45)) := by
  after_results
  rfl
theorem s6_v47 : after hostOps0_6 V (Proc.devRef .tc main_v47) = last (V (Proc.devRef .tc main_v46)) := by
  after_results
  rfl
theorem s6_v49 : after hostOps0_6 V (Proc.devRef .tc main_v49) = grow (V (Proc.devRef .tc main_v36)) (V (Proc.devRef .tc main_v46)) := by
  after_results
  rfl
theorem s6_v52 : after hostOps0_6 V (Proc.devRef .tc main_v52) = kinv (V (Proc.devRef .tc main_v40)) (V (Proc.devRef .tc main_v46)) := by
  after_results
  rfl
theorem s6_v56 : after hostOps0_6 V (Proc.devRef .tc main_v56) = kend (V (Proc.devRef .tc main_v40)) (V (Proc.devRef .tc main_v46)) := by
  after_results
  rfl
theorem s0_v1 : after hostOps0 V (Proc.devRef .tc main_v1) = q0 (V (Proc.devRef .tc main_arg0)) := by
  after_results
  rfl
theorem s0_v2 : after hostOps0 V (Proc.devRef .tc main_v2) = f0 (V (Proc.devRef .tc main_arg0)) := by
  after_results
  rfl
theorem s0_v3 : after hostOps0 V (Proc.devRef .tc main_v3) = v0 (V (Proc.devRef .tc main_arg0)) := by
  after_results
  rfl
theorem s0_v4 : after hostOps0 V (Proc.devRef .tc main_v4) = g0 (V (Proc.devRef .tc main_arg0)) := by
  after_results
  rfl
theorem s7_v58 : after hostOps0_7 V (Proc.devRef .tc main_v58) = select (cmpi .sge (addi (iotaInDim S32x32 32 0) (broadcastInDim S32x32 ![] bcast_S_S32x32 (constantI S_ 32 0#32))) (iotaInDim S32x32 32 1)) (V (Proc.devRef .tc main_v57)) (broadcastInDim S32x32 ![] bcast_S_S32x32 (constant (F := Ideal) S_ .f32 0x00000000#32)) := by
  after_results
  rfl
theorem s6_v57 : after hostOps0_6 V (Proc.devRef .tc main_v57) = (broadcastInDim S32x32 ![] bcast_S_S32x32 (constant (F := Ideal) S_ .f32 0x3F800000#32) : FVec Ideal S32x32 .f32) := by
  after_results
theorem s8_v63 : after hostOps0_8 V (Proc.devRef .tc main_v63) = intra (V (Proc.devRef .tc main_v49)) (V (Proc.devRef .tc main_v52)) (V (Proc.devRef .tc main_v42)) (V (Proc.devRef .tc main_v58)) := by
  after_results
  rfl
theorem s8_v71_0 : after hostOps0_8 V (Proc.devRef .tc main_v71_0) = decay (V (Proc.devRef .tc main_v47)) := by
  after_results
  rfl
theorem s8_v71_1 : after hostOps0_8 V (Proc.devRef .tc main_v71_1) = upd (V (Proc.devRef .tc main_v56)) (V (Proc.devRef .tc main_v42)) := by
  after_results
  rfl
theorem s8_v71_3 : after hostOps0_8 V (Proc.devRef .tc main_v71_3) = (broadcastInDim S8x4x128x128 ![] bcast_S_S8x4x128x128 (constant (F := Ideal) S_ .f32 0x00000000#32) : FVec Ideal S8x4x128x128 .f32) := by
  after_results
  rfl
theorem s2_v19 : after hostOps0_2 V (Proc.devRef .tc main_v19) = shapeCast S512 (V (Proc.devRef .tc main_arg2)) shapeCasts_S1x512_S512 := by
  after_results
  rfl
theorem s1_v16 : after hostOps0_1 V (Proc.devRef .tc main_v16) = lsum (V (Proc.devRef .tc main_v15)) := by
  after_results
  rfl
theorem s0_v15 : after hostOps0 V (Proc.devRef .tc main_v15) = soft (V (Proc.devRef .tc main_arg1)) := by
  after_results
  rfl

theorem k0 (r : Ref sig .tc) (h : r ∉ hostOps0_W) : after hostOps0 V (Proc.devRef .tc r) = V (Proc.devRef .tc r) := after_of_writes_sub hostOps0 V hostOps0_writes h
theorem k1 (r : Ref sig .tc) (h : r ∉ hostOps0_1_W) : after hostOps0_1 V (Proc.devRef .tc r) = V (Proc.devRef .tc r) := after_of_writes_sub hostOps0_1 V hostOps0_1_writes h
theorem k2 (r : Ref sig .tc) (h : r ∉ hostOps0_2_W) : after hostOps0_2 V (Proc.devRef .tc r) = V (Proc.devRef .tc r) := after_of_writes_sub hostOps0_2 V hostOps0_2_writes h
theorem k3 (r : Ref sig .tc) (h : r ∉ hostOps0_3_W) : after hostOps0_3 V (Proc.devRef .tc r) = V (Proc.devRef .tc r) := after_of_writes_sub hostOps0_3 V hostOps0_3_writes h
theorem k4 (r : Ref sig .tc) (h : r ∉ hostOps0_4_W) : after hostOps0_4 V (Proc.devRef .tc r) = V (Proc.devRef .tc r) := after_of_writes_sub hostOps0_4 V hostOps0_4_writes h
theorem k5 (r : Ref sig .tc) (h : r ∉ hostOps0_5_W) : after hostOps0_5 V (Proc.devRef .tc r) = V (Proc.devRef .tc r) := after_of_writes_sub hostOps0_5 V hostOps0_5_writes h
theorem k6 (r : Ref sig .tc) (h : r ∉ hostOps0_6_W) : after hostOps0_6 V (Proc.devRef .tc r) = V (Proc.devRef .tc r) := after_of_writes_sub hostOps0_6 V hostOps0_6_writes h
theorem k7 (r : Ref sig .tc) (h : r ∉ hostOps0_7_W) : after hostOps0_7 V (Proc.devRef .tc r) = V (Proc.devRef .tc r) := after_of_writes_sub hostOps0_7 V hostOps0_7_writes h
theorem k8 (r : Ref sig .tc) (h : r ∉ hostOps0_8_W) : after hostOps0_8 V (Proc.devRef .tc r) = V (Proc.devRef .tc r) := after_of_writes_sub hostOps0_8 V hostOps0_8_writes h
end

/-! ## The buffers after each stretch -/

variable (m : (ℓ : Loc nD τ sig) → Buf (Elt Ideal) ℓ) (c : Dev nD)

def E0 : Valuation τ sig (Elt Ideal) := after hostOps0 (fun b => m (c, b))
def E1 : Valuation τ sig (Elt Ideal) := after hostOps0_1 (E0 m c)
def E2 : Valuation τ sig (Elt Ideal) := after hostOps0_2 (E1 m c)
def E3 : Valuation τ sig (Elt Ideal) := after hostOps0_3 (E2 m c)
def E4 : Valuation τ sig (Elt Ideal) := after hostOps0_4 (E3 m c)
def E5 : Valuation τ sig (Elt Ideal) := after hostOps0_5 (E4 m c)
def E6 : Valuation τ sig (Elt Ideal) := after hostOps0_6 (E5 m c)
def E7 : Valuation τ sig (Elt Ideal) := after hostOps0_7 (E6 m c)
def E8 : Valuation τ sig (Elt Ideal) := after hostOps0_8 (E7 m c)
theorem entry_eq : entryContents preI m c = E8 m c := rfl

theorem E0_v4 : E0 m c (Proc.devRef .tc main_v4) = g0 (X m c) := by
  show after hostOps0 (fun b => m (c, b)) _ = _
  exact s0_v4 _
theorem E1_v4 : E1 m c (Proc.devRef .tc main_v4) = g0 (X m c) := by
  show after hostOps0_1 (E0 m c) _ = _
  rw [k1 _ main_v4 (by decide +kernel), E0_v4]
theorem E2_v4 : E2 m c (Proc.devRef .tc main_v4) = g0 (X m c) := by
  show after hostOps0_2 (E1 m c) _ = _
  rw [k2 _ main_v4 (by decide +kernel), E1_v4]
theorem E3_v4 : E3 m c (Proc.devRef .tc main_v4) = g0 (X m c) := by
  show after hostOps0_3 (E2 m c) _ = _
  rw [k3 _ main_v4 (by decide +kernel), E2_v4]
theorem E4_v4 : E4 m c (Proc.devRef .tc main_v4) = g0 (X m c) := by
  show after hostOps0_4 (E3 m c) _ = _
  rw [k4 _ main_v4 (by decide +kernel), E3_v4]
theorem E5_v4 : E5 m c (Proc.devRef .tc main_v4) = g0 (X m c) := by
  show after hostOps0_5 (E4 m c) _ = _
  rw [k5 _ main_v4 (by decide +kernel), E4_v4]
theorem E6_v4 : E6 m c (Proc.devRef .tc main_v4) = g0 (X m c) := by
  show after hostOps0_6 (E5 m c) _ = _
  rw [k6 _ main_v4 (by decide +kernel), E5_v4]
theorem E7_v4 : E7 m c (Proc.devRef .tc main_v4) = g0 (X m c) := by
  show after hostOps0_7 (E6 m c) _ = _
  rw [k7 _ main_v4 (by decide +kernel), E6_v4]
theorem E8_v4 : E8 m c (Proc.devRef .tc main_v4) = g0 (X m c) := by
  show after hostOps0_8 (E7 m c) _ = _
  rw [k8 _ main_v4 (by decide +kernel), E7_v4]
theorem E0_arg2 : E0 m c (Proc.devRef .tc main_arg2) = m ((c.tc : Thread nD τ).loc main_arg2) := by
  show after hostOps0 (fun b => m (c, b)) _ = _
  exact k0 _ main_arg2 (by decide +kernel)
theorem E1_arg2 : E1 m c (Proc.devRef .tc main_arg2) = m ((c.tc : Thread nD τ).loc main_arg2) := by
  show after hostOps0_1 (E0 m c) _ = _
  rw [k1 _ main_arg2 (by decide +kernel), E0_arg2]
theorem E2_v19 : E2 m c (Proc.devRef .tc main_v19) = (W m c) := by
  show after hostOps0_2 (E1 m c) _ = _
  rw [s2_v19, E1_arg2]
  rfl
theorem E3_v19 : E3 m c (Proc.devRef .tc main_v19) = (W m c) := by
  show after hostOps0_3 (E2 m c) _ = _
  rw [k3 _ main_v19 (by decide +kernel), E2_v19]
theorem E4_v19 : E4 m c (Proc.devRef .tc main_v19) = (W m c) := by
  show after hostOps0_4 (E3 m c) _ = _
  rw [k4 _ main_v19 (by decide +kernel), E3_v19]
theorem E5_v19 : E5 m c (Proc.devRef .tc main_v19) = (W m c) := by
  show after hostOps0_5 (E4 m c) _ = _
  rw [k5 _ main_v19 (by decide +kernel), E4_v19]
theorem E6_v19 : E6 m c (Proc.devRef .tc main_v19) = (W m c) := by
  show after hostOps0_6 (E5 m c) _ = _
  rw [k6 _ main_v19 (by decide +kernel), E5_v19]
theorem E7_v19 : E7 m c (Proc.devRef .tc main_v19) = (W m c) := by
  show after hostOps0_7 (E6 m c) _ = _
  rw [k7 _ main_v19 (by decide +kernel), E6_v19]
theorem E8_v19 : E8 m c (Proc.devRef .tc main_v19) = (W m c) := by
  show after hostOps0_8 (E7 m c) _ = _
  rw [k8 _ main_v19 (by decide +kernel), E7_v19]
theorem E0_v1 : E0 m c (Proc.devRef .tc main_v1) = q0 (X m c) := by
  show after hostOps0 (fun b => m (c, b)) _ = _
  exact s0_v1 _
theorem E1_v1 : E1 m c (Proc.devRef .tc main_v1) = q0 (X m c) := by
  show after hostOps0_1 (E0 m c) _ = _
  rw [k1 _ main_v1 (by decide +kernel), E0_v1]
theorem E2_v1 : E2 m c (Proc.devRef .tc main_v1) = q0 (X m c) := by
  show after hostOps0_2 (E1 m c) _ = _
  rw [k2 _ main_v1 (by decide +kernel), E1_v1]
theorem E3_v34 : E3 m c (Proc.devRef .tc main_v34) = silu (q0 (X m c)) := by
  show after hostOps0_3 (E2 m c) _ = _
  rw [s3_v34, E2_v1]
theorem E4_v36 : E4 m c (Proc.devRef .tc main_v36) = chunks (silu (q0 (X m c))) := by
  show after hostOps0_4 (E3 m c) _ = _
  rw [s4_v36, E3_v34]
theorem E5_v36 : E5 m c (Proc.devRef .tc main_v36) = chunks (silu (q0 (X m c))) := by
  show after hostOps0_5 (E4 m c) _ = _
  rw [k5 _ main_v36 (by decide +kernel), E4_v36]
theorem E0_v15 : E0 m c (Proc.devRef .tc main_v15) = soft (m ((c.tc : Thread nD τ).loc main_arg1)) := by
  show after hostOps0 (fun b => m (c, b)) _ = _
  exact s0_v15 _
theorem E1_v16 : E1 m c (Proc.devRef .tc main_v16) = lsum (soft (m ((c.tc : Thread nD τ).loc main_arg1))) := by
  show after hostOps0_1 (E0 m c) _ = _
  rw [s1_v16, E0_v15]
theorem E0_v2 : E0 m c (Proc.devRef .tc main_v2) = f0 (X m c) := by
  show after hostOps0 (fun b => m (c, b)) _ = _
  exact s0_v2 _
theorem E1_v2 : E1 m c (Proc.devRef .tc main_v2) = f0 (X m c) := by
  show after hostOps0_1 (E0 m c) _ = _
  rw [k1 _ main_v2 (by decide +kernel), E0_v2]
theorem E2_v33 : E2 m c (Proc.devRef .tc main_v33) = forget (L m c) (f0 (X m c)) := by
  show after hostOps0_2 (E1 m c) _ = _
  rw [s2_v33, E1_v16, E1_v2]
  rfl
theorem E3_v33 : E3 m c (Proc.devRef .tc main_v33) = forget (L m c) (f0 (X m c)) := by
  show after hostOps0_3 (E2 m c) _ = _
  rw [k3 _ main_v33 (by decide +kernel), E2_v33]
theorem E4_v45 : E4 m c (Proc.devRef .tc main_v45) = chunks (Host.log (forget (L m c) (f0 (X m c)))) := by
  show after hostOps0_4 (E3 m c) _ = _
  rw [s4_v45, E3_v33]
theorem E5_v46 : E5 m c (Proc.devRef .tc main_v46) = (bs (L m c) (f0 (X m c))) := by
  show after hostOps0_5 (E4 m c) _ = _
  rw [s5_v46, E4_v45]
  rfl
theorem E6_v49 : E6 m c (Proc.devRef .tc main_v49) = qdec (q0 (X m c)) (bs (L m c) (f0 (X m c))) := by
  show after hostOps0_6 (E5 m c) _ = _
  rw [s6_v49, E5_v36, E5_v46]
  rfl
theorem E7_v49 : E7 m c (Proc.devRef .tc main_v49) = qdec (q0 (X m c)) (bs (L m c) (f0 (X m c))) := by
  show after hostOps0_7 (E6 m c) _ = _
  rw [k7 _ main_v49 (by decide +kernel), E6_v49]
theorem E8_v49 : E8 m c (Proc.devRef .tc main_v49) = qdec (q0 (X m c)) (bs (L m c) (f0 (X m c))) := by
  show after hostOps0_8 (E7 m c) _ = _
  rw [k8 _ main_v49 (by decide +kernel), E7_v49]
theorem E4_v40 : E4 m c (Proc.devRef .tc main_v40) = (kc (L m c) (f0 (X m c))) := by
  show after hostOps0_4 (E3 m c) _ = _
  rw [s4_v40, E3_v33]
  rfl
theorem E5_v40 : E5 m c (Proc.devRef .tc main_v40) = (kc (L m c) (f0 (X m c))) := by
  show after hostOps0_5 (E4 m c) _ = _
  rw [k5 _ main_v40 (by decide +kernel), E4_v40]
theorem E6_v52 : E6 m c (Proc.devRef .tc main_v52) = kinv (kc (L m c) (f0 (X m c))) (bs (L m c) (f0 (X m c))) := by
  show after hostOps0_6 (E5 m c) _ = _
  rw [s6_v52, E5_v40, E5_v46]
theorem E7_v52 : E7 m c (Proc.devRef .tc main_v52) = kinv (kc (L m c) (f0 (X m c))) (bs (L m c) (f0 (X m c))) := by
  show after hostOps0_7 (E6 m c) _ = _
  rw [k7 _ main_v52 (by decide +kernel), E6_v52]
theorem E0_v3 : E0 m c (Proc.devRef .tc main_v3) = v0 (X m c) := by
  show after hostOps0 (fun b => m (c, b)) _ = _
  exact s0_v3 _
theorem E1_v3 : E1 m c (Proc.devRef .tc main_v3) = v0 (X m c) := by
  show after hostOps0_1 (E0 m c) _ = _
  rw [k1 _ main_v3 (by decide +kernel), E0_v3]
theorem E2_v3 : E2 m c (Proc.devRef .tc main_v3) = v0 (X m c) := by
  show after hostOps0_2 (E1 m c) _ = _
  rw [k2 _ main_v3 (by decide +kernel), E1_v3]
theorem E3_v3 : E3 m c (Proc.devRef .tc main_v3) = v0 (X m c) := by
  show after hostOps0_3 (E2 m c) _ = _
  rw [k3 _ main_v3 (by decide +kernel), E2_v3]
theorem E4_v42 : E4 m c (Proc.devRef .tc main_v42) = chunks (v0 (X m c)) := by
  show after hostOps0_4 (E3 m c) _ = _
  rw [s4_v42, E3_v3]
theorem E5_v42 : E5 m c (Proc.devRef .tc main_v42) = chunks (v0 (X m c)) := by
  show after hostOps0_5 (E4 m c) _ = _
  rw [k5 _ main_v42 (by decide +kernel), E4_v42]
theorem E6_v42 : E6 m c (Proc.devRef .tc main_v42) = chunks (v0 (X m c)) := by
  show after hostOps0_6 (E5 m c) _ = _
  rw [k6 _ main_v42 (by decide +kernel), E5_v42]
theorem E7_v42 : E7 m c (Proc.devRef .tc main_v42) = chunks (v0 (X m c)) := by
  show after hostOps0_7 (E6 m c) _ = _
  rw [k7 _ main_v42 (by decide +kernel), E6_v42]
theorem E6_v57 : E6 m c (Proc.devRef .tc main_v57) = (broadcastInDim S32x32 ![] bcast_S_S32x32 (constant (F := Ideal) S_ .f32 0x3F800000#32) : FVec Ideal S32x32 .f32) := by
  show after hostOps0_6 (E5 m c) _ = _
  rw [s6_v57]
theorem E7_v58 : E7 m c (Proc.devRef .tc main_v58) = tril := by
  show after hostOps0_7 (E6 m c) _ = _
  rw [s7_v58, E6_v57]
  rfl
theorem E8_v63 : E8 m c (Proc.devRef .tc main_v63) = intra (qdec (q0 (X m c)) (bs (L m c) (f0 (X m c)))) (kinv (kc (L m c) (f0 (X m c))) (bs (L m c) (f0 (X m c)))) (chunks (v0 (X m c))) tril := by
  show after hostOps0_8 (E7 m c) _ = _
  rw [s8_v63, E7_v49, E7_v52, E7_v42, E7_v58]
theorem E6_v47 : E6 m c (Proc.devRef .tc main_v47) = last (bs (L m c) (f0 (X m c))) := by
  show after hostOps0_6 (E5 m c) _ = _
  rw [s6_v47, E5_v46]
theorem E7_v47 : E7 m c (Proc.devRef .tc main_v47) = last (bs (L m c) (f0 (X m c))) := by
  show after hostOps0_7 (E6 m c) _ = _
  rw [k7 _ main_v47 (by decide +kernel), E6_v47]
theorem E8_v71_0 : E8 m c (Proc.devRef .tc main_v71_0) = decay (last (bs (L m c) (f0 (X m c)))) := by
  show after hostOps0_8 (E7 m c) _ = _
  rw [s8_v71_0, E7_v47]
theorem E6_v56 : E6 m c (Proc.devRef .tc main_v56) = kend (kc (L m c) (f0 (X m c))) (bs (L m c) (f0 (X m c))) := by
  show after hostOps0_6 (E5 m c) _ = _
  rw [s6_v56, E5_v40, E5_v46]
theorem E7_v56 : E7 m c (Proc.devRef .tc main_v56) = kend (kc (L m c) (f0 (X m c))) (bs (L m c) (f0 (X m c))) := by
  show after hostOps0_7 (E6 m c) _ = _
  rw [k7 _ main_v56 (by decide +kernel), E6_v56]
theorem E8_v71_1 : E8 m c (Proc.devRef .tc main_v71_1) = upd (kend (kc (L m c) (f0 (X m c))) (bs (L m c) (f0 (X m c)))) (chunks (v0 (X m c))) := by
  show after hostOps0_8 (E7 m c) _ = _
  rw [s8_v71_1, E7_v56, E7_v42]
theorem E8_v71_3 : E8 m c (Proc.devRef .tc main_v71_3) = (broadcastInDim S8x4x128x128 ![] bcast_S_S8x4x128x128 (constant (F := Ideal) S_ .f32 0x00000000#32) : FVec Ideal S8x4x128x128 .f32) := by
  show after hostOps0_8 (E7 m c) _ = _
  rw [s8_v71_3]
end Cert.ReferenceIdeal.Ref
-- ==== Proof.RSum.lean ====
module

public import proofs.«01_k».proof.Proof.RDefs
public import Idealize.ShloMosaic.Lib.WordCmp

@[expose] public section

set_option maxRecDepth 16384

noncomputable section

open Idealize.ShloMosaic Idealize.ShloMosaic.TcCoe Idealize.SL.Sem
/-! # The reference's running sums along the rows of a chunk -/

namespace Cert.ReferenceIdeal.Ref
open Cert.ReferenceIdeal Cert.ReferenceIdeal.Gen

/-- A left fold of additions is a sum. -/
theorem foldl_sum {α : Type} (F : α → EReal) : ∀ (l : List α) (v : EReal), l.foldl (fun r n => r + F n) v = v + (l.map F).sum
  | [], v => by simp
  | a :: l, v => by rw [List.foldl_cons, foldl_sum F l, List.map_cons, List.sum_cons, add_assoc]

/-- A window of 32 padded 31 low, over the rows up to `i`. -/
theorem window_sum (g : ℕ → EReal) (i : ℕ) (hi : i < 32) :
    (∑ k : Fin 32, if 31 ≤ i + k.val then g (i + k.val - 31) else 0) = ∑ j ∈ Finset.range (i + 1), g j := by
  rw [Fin.sum_univ_eq_sum_range (fun k => if 31 ≤ i + k then g (i + k - 31) else 0) 32]
  have e : 32 = (31 - i) + (i + 1) := by omega
  rw [show Finset.range 32 = Finset.range ((31 - i) + (i + 1)) from congrArg _ e, Finset.sum_range_add, Finset.sum_eq_zero, zero_add]
  · refine Finset.sum_congr rfl fun x hx => ?_
    rw [if_pos (by omega)]
    congr 1
    omega
  · intro x hx
    rw [Finset.mem_range] at hx
    rw [if_neg (by omega)]

theorem sums_apply (a : Chunks) (b : Fin 8) (h : Fin 4) (n : Fin 128) (i : Fin 32) (d : Fin 128) (g : ℕ → EReal)
    (hg : ∀ k : Fin 32, a (ix5 b h n k d) = g k.val) :
    sums a (ix5 b h n i d) = ∑ j ∈ Finset.range (i.val + 1), g j := by
  have hz : (broadcastInDim S_ ![] bcast_S_S_ (constant (F := Ideal) S_ .f32 0x00000000#32) : FVec Ideal S_ .f32) (Shape.Idx.first h_S_) = (0 : EReal) := by
    pointwise []
  rw [← window_sum g i.val i.isLt]
  show Host.reduceWindow (· + ·) ![1, 1, 1, 32, 1] ![1, 1, 1, 1, 1] ![0, 0, 0, 31, 0] ![0, 0, 0, 0, 0] a (fun _ : (⟨0, ![]⟩ : Shape).Idx => (broadcastInDim S_ ![] bcast_S_S_ (constant (F := Ideal) S_ .f32 0x00000000#32) : FVec Ideal S_ .f32) (Shape.Idx.first h_S_)) reduceWindows_S8x4x128x32x128_S8x4x128x32x128_w1s1p0_0_w1s1p0_0_w1s1p0_0_w32s1p31_0_w1s1p0_0 (by decide) (ix5 b h n i d) = _
  rw [hz]
  unfold Host.reduceWindow
  dsimp only
  rw [foldl_sum, zero_add, ← Fin.sum_univ_def]
  have hbij : Function.Bijective (fun k : Fin 32 => (ix5 0 0 0 k 0 : (⟨5, ![1, 1, 1, 32, 1]⟩ : Shape).Idx)) := by
    refine ⟨fun k l e => congrFun e 3, fun w => ⟨w 3, ?_⟩⟩
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
    | ⟨4, _⟩ => exact (Subsingleton.elim (α := Fin 1) _ _)
  symm
  refine Fintype.sum_bijective _ ((Shape.rowMajor (⟨5, ![1, 1, 1, 32, 1]⟩ : Shape)).bijective.comp hbij) _ _ fun k => ?_
  simp only [Function.comp_apply, Equiv.symm_apply_apply]
  · have hi := i.isLt
    have hk := k.isLt
    by_cases hc : 31 ≤ i.val + k.val
    · rw [if_pos hc, ← hg ⟨i.val + k.val - 31, by omega⟩]
      rw [dif_pos]
      · congr 1
        funext a
        apply Fin.ext
        match a with
        | ⟨0, _⟩ => show b.val = b.val * 1 + 0 - 0; omega
        | ⟨1, _⟩ => show h.val = h.val * 1 + 0 - 0; omega
        | ⟨2, _⟩ => show n.val = n.val * 1 + 0 - 0; omega
        | ⟨3, _⟩ => show i.val + k.val - 31 = i.val * 1 + k.val - 31; omega
        | ⟨4, _⟩ => show d.val = d.val * 1 + 0 - 0; omega
      · intro a
        match a with
        | ⟨0, _⟩ => show 0 ≤ b.val * 1 + 0 ∧ b.val * 1 + 0 - 0 < 8; omega
        | ⟨1, _⟩ => show 0 ≤ h.val * 1 + 0 ∧ h.val * 1 + 0 - 0 < 4; omega
        | ⟨2, _⟩ => show 0 ≤ n.val * 1 + 0 ∧ n.val * 1 + 0 - 0 < 128; omega
        | ⟨3, _⟩ => show 31 ≤ i.val * 1 + k.val ∧ i.val * 1 + k.val - 31 < 32; omega
        | ⟨4, _⟩ => show 0 ≤ d.val * 1 + 0 ∧ d.val * 1 + 0 - 0 < 128; omega
    · rw [if_neg hc]
      rw [dif_neg]
      intro hin
      have := (hin 3).1
      have : 31 ≤ i.val * 1 + k.val := this
      omega
end Cert.ReferenceIdeal.Ref
-- ==== Proof.RRead.lean ====
module

public import proofs.«01_k».proof.Proof.RSum

@[expose] public section

set_option maxRecDepth 16384

noncomputable section

open Idealize.ShloMosaic Idealize.ShloMosaic.TcCoe Idealize.SL.Sem
/-! # The reference's arrays at an index -/

namespace Cert.ReferenceIdeal.Ref
open Cert.ReferenceIdeal Cert.ReferenceIdeal.Gen

theorem chunks_at (a : Arr) (b : Fin 8) (h : Fin 4) (n : Fin 128) (i : Fin 32) (d : Fin 128) :
    chunks a (ix5 b h n i d) = a (ix3 b ⟨32 * n.val + i.val, by omega⟩ ⟨128 * h.val + d.val, by omega⟩) := by
  have e1 : (⟨32 * n.val + i.val, by omega⟩ : Fin 4096) = ⟨n.val * 32 + i.val, by omega⟩ := Fin.ext (by show 32 * n.val + i.val = n.val * 32 + i.val; omega)
  have e2 : (⟨128 * h.val + d.val, by omega⟩ : Fin 512) = ⟨h.val * 128 + d.val, by omega⟩ := Fin.ext (by show 128 * h.val + d.val = h.val * 128 + d.val; omega)
  rw [e1, e2]
  pointwise [chunks]
theorem x0_at (X : FVec Ideal S32768x2048 .f32) (b : Fin 8) (t : Fin 4096) (k : Fin 2048) :
    x0 X (ix3 b t k) = X (ix2 ⟨4096 * b.val + t.val, by omega⟩ k) := KernelIdeal.Pt.split_rows X b t k
theorem q0_at (X : FVec Ideal S32768x2048 .f32) (b : Fin 8) (t : Fin 4096) (k : Fin 512) :
    q0 X (ix3 b t k) = X (ix2 ⟨4096 * b.val + t.val, by omega⟩ ⟨k.val, by omega⟩) := by
  rw [← x0_at X]
  pointwise [q0]
theorem f0_at (X : FVec Ideal S32768x2048 .f32) (b : Fin 8) (t : Fin 4096) (k : Fin 512) :
    f0 X (ix3 b t k) = X (ix2 ⟨4096 * b.val + t.val, by omega⟩ ⟨512 + k.val, by omega⟩) := by
  rw [← x0_at X]
  pointwise [f0]
theorem v0_at (X : FVec Ideal S32768x2048 .f32) (b : Fin 8) (t : Fin 4096) (k : Fin 512) :
    v0 X (ix3 b t k) = X (ix2 ⟨4096 * b.val + t.val, by omega⟩ ⟨1024 + k.val, by omega⟩) := by
  rw [← x0_at X]
  pointwise [v0]
theorem g0_at (X : FVec Ideal S32768x2048 .f32) (b : Fin 8) (t : Fin 4096) (k : Fin 512) :
    g0 X (ix3 b t k) = X (ix2 ⟨4096 * b.val + t.val, by omega⟩ ⟨1536 + k.val, by omega⟩) := by
  rw [← x0_at X]
  pointwise [g0]

theorem zero_sub' (x : EReal) : 0 - x = -x := by rw [sub_eq_add_neg, zero_add]

theorem logis_at (a : Arr) (j : S8x4096x512.Idx) : logis a j = Ideal.div 1 (1 + Ideal.exp (0 - a j)) := by
  rw [zero_sub']
  pointwise [logis, one]
theorem silu_at (a : Arr) (j : S8x4096x512.Idx) : silu a j = Rec.silu (a j) := by
  show a j * logis a j = _
  rw [logis_at]; rfl
theorem forget_at (y : FVec Ideal S512 .f32) (f : Arr) (b : Fin 8) (t : Fin 4096) (k : Fin 512) :
    forget y f (ix3 b t k) = Rec.gate (y (ix1 k)) (f (ix3 b t k)) := by
  unfold Rec.gate
  rw [← logis_at]
  generalize hl : logis f = l
  unfold forget
  rw [hl]
  pointwise [spread]

section
variable (b : Fin 8) (h : Fin 4) (y : FVec Ideal S512 .f32) (q f v : Arr) (Q F V : Rec.Rows) (B : Fin 128 → EReal)
  (hq : ∀ (n : Fin 128) (i : Fin 32) (d : Fin 128), chunks q (ix5 b h n i d) = Q n i d)
  (hf : ∀ (n : Fin 128) (i : Fin 32) (d : Fin 128), chunks f (ix5 b h n i d) = F n i d)
  (hv : ∀ (n : Fin 128) (i : Fin 32) (d : Fin 128), chunks v (ix5 b h n i d) = V n i d)
  (hy : ∀ d : Fin 128, y (ix1 ⟨128 * h.val + d.val, by omega⟩) = B d)

include hf hy in
theorem forget_chunk (n : Fin 128) (i : Fin 32) (d : Fin 128) :
    forget y f (ix3 b ⟨32 * n.val + i.val, by omega⟩ ⟨128 * h.val + d.val, by omega⟩) = Rec.gate (B d) (F n i d) := by
  rw [forget_at, hy, ← hf, chunks_at]

include hf hy in
theorem bs_at (n : Fin 128) (i : Fin 32) (d : Fin 128) : bs y f (ix5 b h n i d) = Rec.cs F B n i d := by
  refine sums_apply _ b h n i d (fun k => Rec.lf F B n k d) fun k => ?_
  rw [chunks_at]
  show Ideal.log (forget y f _) = _
  rw [forget_chunk b h y f F B hf hy]
  rfl

include hf hy in
theorem kc_at (n : Fin 128) (i : Fin 32) (d : Fin 128) : kc y f (ix5 b h n i d) = 1 - Rec.gate (B d) (F n i d) := by
  unfold kc
  rw [chunks_at]
  show one _ - forget y f _ = _
  rw [forget_chunk b h y f F B hf hy]
  congr 1
  pointwise [one]

include hq hf hy in
theorem qdec_at (n : Fin 128) (i : Fin 32) (d : Fin 128) : qdec q (bs y f) (ix5 b h n i d) = Rec.qd Q F B n i d := by
  show chunks (silu q) _ * Ideal.exp (bs y f _) = _
  rw [bs_at b h y f F B hf hy, chunks_at, silu_at, ← chunks_at q, hq]
  rfl

include hf hy in
theorem kinv_at (n : Fin 128) (i : Fin 32) (d : Fin 128) : kinv (kc y f) (bs y f) (ix5 b h n i d) = Rec.ki F B n i d := by
  show kc y f _ * Ideal.exp (-(bs y f _)) = _
  rw [bs_at b h y f F B hf hy, kc_at b h y f F B hf hy, ← zero_sub']
  rfl

theorem last_at (s : Chunks) (n : Fin 128) (d : Fin 128) : last s (ix5 b h n 0 d) = s (ix5 b h n 31 d) := by
  pointwise [last]

include hf hy in
theorem kend_at (n : Fin 128) (i : Fin 32) (d : Fin 128) : kend (kc y f) (bs y f) (ix5 b h n i d) = Rec.ke F B n i d := by
  have e : ∀ l : FVec Ideal S8x4x128x1x128 .f32, (broadcastInDim S8x4x128x32x128 ![0, 1, 2, 3, 4] bcast_S8x4x128x1x128_S8x4x128x32x128_0_1_2_3_4 l) (ix5 b h n i d) = l (ix5 b h n 0 d) := by
    intro l; pointwise []
  show kc y f _ * Ideal.exp ((broadcastInDim S8x4x128x32x128 ![0, 1, 2, 3, 4] bcast_S8x4x128x1x128_S8x4x128x32x128_0_1_2_3_4 (last (bs y f))) _ - bs y f _) = _
  rw [e, last_at, bs_at b h y f F B hf hy, bs_at b h y f F B hf hy, kc_at b h y f F B hf hy]
  rfl

include hf hy in
theorem decay_at (n : Fin 128) (d : Fin 128) : decay (last (bs y f)) (ix4 n b h d) = Ideal.exp (Rec.tot F B n d) := by
  have e : ∀ l : FVec Ideal S8x4x128x1x128 .f32, decay l (ix4 n b h d) = Ideal.exp (l (ix5 b h n 0 d)) := by
    intro l; pointwise [decay]
  rw [e, last_at, bs_at b h y f F B hf hy]
  rfl

theorem upd_at (ke w : Chunks) (n : Fin 128) (d e : Fin 128) : upd ke w (ix5 n b h d e) = ∑ r : Fin 32, ke (ix5 b h n r d) * w (ix5 b h n r e) := by
  pointwise [upd]

theorem tril_word : ∀ i s : Fin 32, IntOp.cmpi CmpIPredicate.sge (IntOp.addi (BitVec.ofNat 32 i.val) 0#32) (BitVec.ofNat 32 s.val) = if s.val ≤ i.val then 1#1 else 0#1 := by
  decide +kernel

theorem tril_at (i s : Fin 32) : tril (ix2 i s) = if s.val ≤ i.val then 1 else 0 := by
  pointwise [tril]
  rw [tril_word]
  by_cases hc : s.val ≤ i.val
  · rw [if_pos hc, if_pos hc]; rfl
  · rw [if_neg hc, if_neg hc]; rfl

theorem intra_at0 (qd ki w : Chunks) (tr : FVec Ideal S32x32 .f32) (n : Fin 128) (i : Fin 32) (e : Fin 128) :
    intra qd ki w tr (ix5 b h n i e) = ∑ s : Fin 32, ((∑ d : Fin 128, qd (ix5 b h n i d) * ki (ix5 b h n s d)) * tr (ix2 i s)) * w (ix5 b h n s e) := by
  pointwise [intra]

include hq hf hy hv in
theorem intra_at (n : Fin 128) (i : Fin 32) (e : Fin 128) :
    intra (qdec q (bs y f)) (kinv (kc y f) (bs y f)) (chunks v) tril (ix5 b h n i e) = Rec.intra Q F V B n i e := by
  rw [intra_at0]
  refine Finset.sum_congr rfl fun s _ => ?_
  rw [hv, tril_at]
  congr 1
  by_cases hc : s.val ≤ i.val
  · rw [if_pos hc, if_pos hc, mul_one]
    refine Finset.sum_congr rfl fun d _ => ?_
    rw [qdec_at b h y q f Q F B hq hf hy, kinv_at b h y f F B hf hy]
  · rw [if_neg hc, if_neg hc, mul_zero]
end
end Cert.ReferenceIdeal.Ref
-- ==== Proof.RLoop.lean ====
module

public import proofs.«01_k».proof.Proof.RPre
public import proofs.«01_k».proof.Proof.RRead

@[expose] public section

set_option maxRecDepth 16384

noncomputable section

open Idealize.ShloMosaic Idealize.ShloMosaic.TcCoe Idealize.SL.Sem
/-! # The reference's scan over the chunks -/

namespace Cert.ReferenceIdeal.Ref
open Cert.ReferenceIdeal Cert.ReferenceIdeal.Gen Cert.ReferenceIdeal.Value Idealize.ShloMosaic.StableHlo

theorem iv_int : ∀ k : Fin 128, (Scf.iv 0#32 1#32 k.val : BitVec 32).toInt = (k.val : ℤ) := by decide +kernel

section
variable (V : Valuation τ sig (Elt Ideal)) (k : Fin 128) (hc : V (Proc.devRef .tc main_v71_2) = fun _ => Scf.iv 0#32 1#32 k.val)

/-- What the scan holds in its state and in its stack of states. -/
def stOf : FVec Ideal S8x4x128x128 .f32 := V (Proc.devRef .tc main_v71_3)
def stackOf : FVec Ideal S128x8x4x128x128 .f32 := V (Proc.devRef .tc main_v71_4)
def decOf : FVec Ideal S128x8x4x128 .f32 := V (Proc.devRef .tc main_v71_0)
def updOf : FVec Ideal S128x8x4x128x128 .f32 := V (Proc.devRef .tc main_v71_1)

theorem fit4 (k : Fin 128) : S128x8x4x128.Slices ![k.val, 0, 0, 0] S1x8x4x128 := by
  revert k; decide +kernel
theorem fit5 (k : Fin 128) : S128x8x4x128x128.Slices ![k.val, 0, 0, 0, 0] S1x8x4x128x128 := by
  revert k; decide +kernel

include hc in
/-- One trip takes the state to its decay times it plus the chunk's own sum. -/
theorem step3 (b : Fin 8) (h : Fin 4) (d e : Fin 128) :
    (step_main_v71_3 V : FVec Ideal S8x4x128x128 .f32) (ix4 b h d e) = decOf V (ix4 k b h d) * stOf V (ix4 b h d e) + updOf V (ix5 k b h d e) := by
  unfold step_main_v71_3
  rw [hc]
  rw [WordCmp.dynamicSlice_eq_extract S1x8x4x128 _ _ _ ![k.val, 0, 0, 0] (fit4 k), WordCmp.dynamicSlice_eq_extract S1x8x4x128x128 _ _ _ ![k.val, 0, 0, 0, 0] (fit5 k)]
  · show (addf (mulf (broadcastInDim S8x4x128x128 ![0, 1, 2, 3] bcast_S8x4x128x1_S8x4x128x128_0_1_2_3 (broadcastInDim S8x4x128x1 ![0, 1, 2] bcast_S8x4x128_S8x4x128x1_0_1_2 (shapeCast S8x4x128 (extractStridedSlice S1x8x4x128 ![k.val, 0, 0, 0] (decOf V) (fit4 k)) shapeCasts_S1x8x4x128_S8x4x128))) (stOf V))
      (shapeCast S8x4x128x128 (extractStridedSlice S1x8x4x128x128 ![k.val, 0, 0, 0, 0] (updOf V) (fit5 k)) shapeCasts_S1x8x4x128x128_S8x4x128x128) : FVec Ideal S8x4x128x128 .f32) (ix4 b h d e) = _
    generalize decOf V = D
    generalize updOf V = U
    generalize stOf V = S
    pointwise []
  · intro a
    match a with
    | ⟨0, _⟩ => exact iv_int k
    | ⟨1, _⟩ => rfl
    | ⟨2, _⟩ => rfl
    | ⟨3, _⟩ => rfl
    | ⟨4, _⟩ => rfl
  · intro a
    match a with
    | ⟨0, _⟩ => exact iv_int k
    | ⟨1, _⟩ => rfl
    | ⟨2, _⟩ => rfl
    | ⟨3, _⟩ => rfl

include hc in
/-- One trip puts the state on the stack at its own number and leaves the rest. -/
theorem step4 (n : Fin 128) (b : Fin 8) (h : Fin 4) (d e : Fin 128) :
    (step_main_v71_4 V : FVec Ideal S128x8x4x128x128 .f32) (ix5 n b h d e) = if n = k then stOf V (ix4 b h d e) else stackOf V (ix5 n b h d e) := by
  unfold step_main_v71_4
  rw [hc]
  rw [WordCmp.dynamicUpdateSlice_eq_update _ _ _ _ ![k.val, 0, 0, 0, 0] (fit5 k)]
  · show (updateSlice (stackOf V) (broadcastInDim S1x8x4x128x128 ![1, 2, 3, 4] bcast_S8x4x128x128_S1x8x4x128x128_1_2_3_4 (stOf V)) ![k.val, 0, 0, 0, 0] (fit5 k) : FVec Ideal S128x8x4x128x128 .f32) (ix5 n b h d e) = _
    generalize stackOf V = D
    generalize stOf V = S
    pointwise []
    by_cases hn : n = k
    · subst hn
      rw [if_pos rfl, dif_pos ⟨le_refl _, Nat.lt_succ_self _⟩]
    · rw [if_neg hn, dif_neg fun h => hn (Fin.ext (by omega))]
  · intro a
    match a with
    | ⟨0, _⟩ => exact iv_int k
    | ⟨1, _⟩ => rfl
    | ⟨2, _⟩ => rfl
    | ⟨3, _⟩ => rfl
    | ⟨4, _⟩ => rfl
end

/-! ## All the trips -/

section
variable (V : Valuation τ sig (Elt Ideal)) (hc : V (Proc.devRef .tc main_v71_2) = fun _ => Scf.iv 0#32 1#32 0)

include hc in
theorem iter_ctr : ∀ k, STEP^[k] V (Proc.devRef .tc main_v71_2) = fun _ => Scf.iv 0#32 1#32 k
  | 0 => hc
  | k + 1 => by
    rw [Function.iterate_succ_apply', STEP_main_v71_2, Scf.iv_succ]
    unfold step_main_v71_2
    rw [iter_ctr k]
    rfl
theorem iter_dec : ∀ k, decOf (STEP^[k] V) = decOf V
  | 0 => rfl
  | k + 1 => by
    rw [Function.iterate_succ_apply']
    exact (STEP_main_v71_0 _).trans (iter_dec k)
theorem iter_upd : ∀ k, updOf (STEP^[k] V) = updOf V
  | 0 => rfl
  | k + 1 => by
    rw [Function.iterate_succ_apply']
    exact (STEP_main_v71_1 _).trans (iter_upd k)

variable (b : Fin 8) (h : Fin 4) (F W : Rec.Rows) (B : Fin 128 → EReal)
  (h0 : ∀ d e : Fin 128, stOf V (ix4 b h d e) = 0)
  (hd : ∀ (n : Fin 128) (d : Fin 128), decOf V (ix4 n b h d) = Ideal.exp (Rec.tot F B n d))
  (hu : ∀ (n : Fin 128) (d e : Fin 128), updOf V (ix5 n b h d e) = ∑ r : Fin 32, Rec.ke F B n r d * W n r e)

include hc h0 hd hu in
/-- Before trip `k` the state is the recurrence's before chunk `k`. -/
theorem iter_st (d e : Fin 128) : ∀ k, k ≤ 128 → stOf (STEP^[k] V) (ix4 b h d e) = Rec.st F W B (fun _ _ => 0) k d e
  | 0, _ => h0 d e
  | k + 1, hk => by
    rw [Function.iterate_succ_apply']
    show (STEP (STEP^[k] V) (Proc.devRef .tc main_v71_3) : FVec Ideal S8x4x128x128 .f32) (ix4 b h d e) = _
    rw [STEP_main_v71_3, step3 (STEP^[k] V) ⟨k, by omega⟩ (iter_ctr V hc k), iter_dec, iter_upd, hd, hu, iter_st d e k (by omega), mul_comm]
    rfl

include hc h0 hd hu in
/-- Before trip `k` the stack holds the recurrence's states before the chunks up to `k`. -/
theorem iter_stack (n : Fin 128) (d e : Fin 128) : ∀ k, k ≤ 128 → n.val < k → stackOf (STEP^[k] V) (ix5 n b h d e) = Rec.st F W B (fun _ _ => 0) n d e
  | 0, _, hn => absurd hn (by omega)
  | k + 1, hk, hn => by
    rw [Function.iterate_succ_apply']
    show (STEP (STEP^[k] V) (Proc.devRef .tc main_v71_4) : FVec Ideal S128x8x4x128x128 .f32) (ix5 n b h d e) = _
    rw [STEP_main_v71_4, step4 (STEP^[k] V) ⟨k, by omega⟩ (iter_ctr V hc k)]
    by_cases he : n = ⟨k, by omega⟩
    · rw [if_pos he, iter_st V hc b h F W B h0 hd hu d e k (by omega), he]
    · rw [if_neg he, iter_stack n d e k (by omega) (by have : n.val ≠ k := fun h => he (Fin.ext h); omega)]
end

/-! ## The scan in the program -/

variable (m : (ℓ : Loc nD τ sig) → Buf (Elt Ideal) ℓ)

/-- The scan leaves what none of its operations writes. -/
theorem keep (c : Dev nD) (r : Ref sig .tc) (hw : r ∉ condOps_W ++ while0Ops0_W ++ while0Ops0_1_W ++ while0Ops0_2_W ++ while0Ops0_3_W ++ while0Ops0_4_W) :
    ∀ k, atK m k c (Proc.devRef .tc r) = entryContents preI m c (Proc.devRef .tc r)
  | 0 => rfl
  | k + 1 => by
    simp only [List.mem_append, not_or] at hw
    obtain ⟨⟨⟨⟨⟨w, w0⟩, w1⟩, w2⟩, w3⟩, w4⟩ := hw
    rw [show atK m (k + 1) c = afterL bodyI (after condOps (atK m k c)) from rfl]
    simp only [afterL_cons, afterL_nil]
    rw [after_of_writes_sub while0Ops0_4 _ while0Ops0_4_writes w4, after_of_writes_sub while0Ops0_3 _ while0Ops0_3_writes w3,
      after_of_writes_sub while0Ops0_2 _ while0Ops0_2_writes w2, after_of_writes_sub while0Ops0_1 _ while0Ops0_1_writes w1,
      after_of_writes_sub while0Ops0 _ while0Ops0_writes w0, after_of_writes_sub condOps _ condOps_writes w]
    exact keep c r (by simp only [List.mem_append, not_or]; exact ⟨⟨⟨⟨⟨w, w0⟩, w1⟩, w2⟩, w3⟩, w4⟩) k

/-- After the scan. -/
def done (c : Dev nD) : Valuation τ sig (Elt Ideal) := after condOps (atK m 128 c)

theorem done_keep (c : Dev nD) (r : Ref sig .tc) (hw : r ∉ condOps_W ++ while0Ops0_W ++ while0Ops0_1_W ++ while0Ops0_2_W ++ while0Ops0_3_W ++ while0Ops0_4_W) :
    done m c (Proc.devRef .tc r) = entryContents preI m c (Proc.devRef .tc r) := by
  refine (after_of_writes_sub condOps _ condOps_writes fun h => hw ?_).trans (keep m c r hw 128)
  simp only [List.mem_append]
  exact Or.inl (Or.inl (Or.inl (Or.inl (Or.inl h))))

theorem done_stack (c : Dev nD) : done m c (Proc.devRef .tc main_v71_4) = stackOf (STEP^[128] (E8 m c)) :=
  (cond_keeps (atK m 128 c) main_v71_4 (by decide)).trans (atK_agree m c 128 main_v71_4 (by decide))
end Cert.ReferenceIdeal.Ref
-- ==== Proof.RPost.lean ====
module

public import proofs.«01_k».proof.Proof.RLoop

@[expose] public section

set_option maxRecDepth 16384

noncomputable section

open Idealize.ShloMosaic Idealize.ShloMosaic.TcCoe Idealize.SL.Sem
/-! # What the reference does after its scan -/

namespace Cert.ReferenceIdeal.Ref
open Cert.ReferenceIdeal Cert.ReferenceIdeal.Gen Cert.ReferenceIdeal.Value Idealize.ShloMosaic.StableHlo

/-- The chunks laid out by time and head. -/
def heads (o : Chunks) : FVec Ideal S8x4096x4x128 .f32 :=
  shapeCast S8x4096x4x128 (transpose S8x128x32x4x128 [0, 2, 3, 1, 4] o transposes_S8x4x128x32x128_S8x128x32x4x128_0_2_3_1_4) shapeCasts_S8x128x32x4x128_S8x4096x4x128
/-- What each row reads: its chunk's rows and the state before its chunk. -/
def mixed (qd : Chunks) (s : FVec Ideal S128x8x4x128x128 .f32) (a : Chunks) : Chunks :=
  addf a (Host.dotGeneral dot_S8x4x128x32x128_S128x8x4x128x128_S8x4x128x32x128_4_3_3_4_012_120 none qd s)
/-- The norm of each head's columns. -/
def rms (y : FVec Ideal S8x4096x4x128 .f32) : FVec Ideal S8x4096x4x128 .f32 :=
  mulf y (broadcastInDim S8x4096x4x128 ![0, 1, 2, 3] bcast_S8x4096x4x1_S8x4096x4x128_0_1_2_3
    (Host.rsqrt (addf
      (Host.divf (broadcastInDim S8x4096x4x1 ![0, 1, 2] bcast_S8x4096x4_S8x4096x4x1_0_1_2 (Host.reduceAdd (mulf y y) (constant S_ .f32 0x00000000#32) reducesTo_S8x4096x4x128_S8x4096x4_d3 h_S_))
        (broadcastInDim S8x4096x4x1 ![] bcast_S_S8x4096x4x1 (constant S_ .f32 0x43000000#32)))
      (broadcastInDim S8x4096x4x1 ![] bcast_S_S8x4096x4x1 (constant S_ .f32 0x358637BD#32)))))
def flat (y : FVec Ideal S8x4096x4x128 .f32) : Arr := shapeCast S8x4096x512 y shapeCasts_S8x4096x4x128_S8x4096x512
def weighted (o : Chunks) (w : FVec Ideal S512 .f32) : Arr := mulf (flat (rms (heads o))) (spread w)
def result (a g : Arr) : FVec Ideal S8x4096x512 .bf16 := truncf .bf16 (mulf a g) bitsLt_bf16_f32

section
variable (V : Valuation τ sig (Elt Ideal))
theorem p9_v89 : after hostOps0_9 V (Proc.devRef .tc main_v89) =
    weighted (mixed (V (Proc.devRef .tc main_v49)) (V (Proc.devRef .tc main_v71_4)) (V (Proc.devRef .tc main_v63))) (V (Proc.devRef .tc main_v19)) := by
  after_results
  rfl
theorem p9_v4 : after hostOps0_9 V (Proc.devRef .tc main_v4) = V (Proc.devRef .tc main_v4) := by
  after_results
theorem p10_v89 : after hostOps0_10 V (Proc.devRef .tc main_v89) = V (Proc.devRef .tc main_v89) := by
  after_results
theorem p10_v90 : after hostOps0_10 V (Proc.devRef .tc main_v90) = silu (V (Proc.devRef .tc main_v4)) := by
  after_results
  rfl
theorem p11_v92 : after hostOps0_11 V (Proc.devRef .tc main_v92) = result (V (Proc.devRef .tc main_v89)) (V (Proc.devRef .tc main_v90)) := by
  after_results
  rfl
theorem post_arg0 : afterL postI V (Proc.devRef .tc main_arg0) = V (Proc.devRef .tc main_arg0) := by
  simp only [afterL_cons, afterL_nil]
  after_results
theorem post_arg1 : afterL postI V (Proc.devRef .tc main_arg1) = V (Proc.devRef .tc main_arg1) := by
  simp only [afterL_cons, afterL_nil]
  after_results
theorem post_arg2 : afterL postI V (Proc.devRef .tc main_arg2) = V (Proc.devRef .tc main_arg2) := by
  simp only [afterL_cons, afterL_nil]
  after_results
theorem post_v92 : afterL postI V (Proc.devRef .tc main_v92) =
    result (weighted (mixed (V (Proc.devRef .tc main_v49)) (V (Proc.devRef .tc main_v71_4)) (V (Proc.devRef .tc main_v63))) (V (Proc.devRef .tc main_v19))) (silu (V (Proc.devRef .tc main_v4))) := by
  simp only [afterL_cons, afterL_nil]
  rw [p11_v92, p10_v89, p10_v90, p9_v89, p9_v4]
end

/-! ## At an index -/

theorem heads_at (o : Chunks) (b : Fin 8) (t : Fin 4096) (h : Fin 4) (e : Fin 128) :
    heads o (ix4 b t h e) = o (ix5 b h ⟨t.val / 32, by omega⟩ ⟨t.val % 32, by omega⟩ e) := by
  pointwise [heads]
theorem flat_at (y : FVec Ideal S8x4096x4x128 .f32) (b : Fin 8) (t : Fin 4096) (j : Fin 512) :
    flat y (ix3 b t j) = y (ix4 b t ⟨j.val / 128, by omega⟩ ⟨j.val % 128, by omega⟩) := by
  pointwise [flat]
theorem mixed_at (qd : Chunks) (s : FVec Ideal S128x8x4x128x128 .f32) (a : Chunks) (b : Fin 8) (h : Fin 4) (n : Fin 128) (i : Fin 32) (e : Fin 128) :
    mixed qd s a (ix5 b h n i e) = a (ix5 b h n i e) + ∑ d : Fin 128, qd (ix5 b h n i d) * s (ix5 n b h d e) := by
  pointwise [mixed]
theorem rms_at (y : FVec Ideal S8x4096x4x128 .f32) (b : Fin 8) (t : Fin 4096) (h : Fin 4) (e : Fin 128) :
    rms y (ix4 b t h e) = y (ix4 b t h e) * Ideal.rsqrt (Ideal.div (∑ e' : Fin 128, y (ix4 b t h e') * y (ix4 b t h e')) (Scalar.ofBits (F := Ideal) .f32 0x43000000#32) + Scalar.ofBits (F := Ideal) .f32 0x358637BD#32) := by
  pointwise [rms]
theorem spread_at (w : FVec Ideal S512 .f32) (b : Fin 8) (t : Fin 4096) (j : Fin 512) : spread w (ix3 b t j) = w (ix1 j) := by
  pointwise [spread]
theorem result_at (o : Chunks) (w : FVec Ideal S512 .f32) (g : Arr) (b : Fin 8) (t : Fin 4096) (j : Fin 512) :
    result (weighted o w) (silu g) (ix3 b t j) = flat (rms (heads o)) (ix3 b t j) * w (ix1 j) * Rec.silu (g (ix3 b t j)) := by
  rw [← silu_at, ← spread_at w b t j]
  rfl
end Cert.ReferenceIdeal.Ref
-- ==== Proof.RVal.lean ====
module

public import proofs.«01_k».proof.Proof.RPost
public import Idealize.ShloMosaic.Lib.Quiescent

@[expose] public section

set_option maxRecDepth 16384

noncomputable section

open Idealize.ShloMosaic Idealize.ShloMosaic.TcCoe Idealize.SL.Sem
/-! # What the reference's result holds, and its run -/

namespace Cert.ReferenceIdeal.Ref
open Cert.ReferenceIdeal Cert.ReferenceIdeal.Gen Cert.ReferenceIdeal.Value Idealize.ShloMosaic.StableHlo

theorem row_at (y : FVec Ideal S1x512 .f32) (k : Fin 512) : shapeCast S512 y shapeCasts_S1x512_S512 (ix1 k) = y (ix2 0 k) := by
  pointwise []

variable (m : (ℓ : Loc nD τ sig) → Buf (Elt Ideal) ℓ)

/-- The inputs as the recurrence takes them. -/
def argX (c : Dev nD) : Fin 32768 → Fin 2048 → EReal := fun r k => X m c (ix2 r k)
def argB (c : Dev nD) : Fin 512 → EReal := fun k => KernelIdeal.Pt.bounds (m ((c.tc : Thread nD τ).loc main_arg1)) (ix2 0 k)
def argW (c : Dev nD) : Fin 512 → EReal := fun k => (m ((c.tc : Thread nD τ).loc main_arg2) : FVec Ideal S1x512 .f32) (ix2 0 k)

theorem col_at (c : Dev nD) (b : Fin 8) (h n i : ℕ) (d : Fin 128) (k : Fin 2048) (hn : n < 128) (hi : i < 32) (hk : k.val = 128 * h + d.val) :
    X m c (ix2 ⟨4096 * b.val + (32 * n + i), by omega⟩ k) = Rec.col (argX m c) b h n i d := by
  unfold Rec.col argX
  congr 2
  · apply Fin.ext
    show 4096 * b.val + (32 * n + i) = (4096 * b.val + 32 * n + i) % 32768
    omega
  · apply Fin.ext
    show k.val = (128 * h + d.val) % 2048
    omega

section
variable (c : Dev nD) (b : Fin 8) (h : Fin 4)
theorem q_chunk (n : Fin 128) (i : Fin 32) (d : Fin 128) : chunks (q0 (X m c)) (ix5 b h n i d) = Rec.col (argX m c) b h n i d := by
  rw [chunks_at, q0_at]
  exact col_at m c b _ n i d _ n.isLt i.isLt rfl
theorem f_chunk (n : Fin 128) (i : Fin 32) (d : Fin 128) : chunks (f0 (X m c)) (ix5 b h n i d) = Rec.col (argX m c) b (4 + h) n i d := by
  rw [chunks_at, f0_at]
  exact col_at m c b _ n i d _ n.isLt i.isLt (by show 512 + (128 * h.val + d.val) = 128 * (4 + h.val) + d.val; omega)
theorem v_chunk (n : Fin 128) (i : Fin 32) (d : Fin 128) : chunks (v0 (X m c)) (ix5 b h n i d) = Rec.col (argX m c) b (8 + h) n i d := by
  rw [chunks_at, v0_at]
  exact col_at m c b _ n i d _ n.isLt i.isLt (by show 1024 + (128 * h.val + d.val) = 128 * (8 + h.val) + d.val; omega)
theorem L_at (d : Fin 128) : L m c (ix1 ⟨128 * h.val + d.val, by omega⟩) = Rec.part (argB m c) h d := by
  unfold L
  rw [row_at]
  unfold Rec.part argB
  congr 2
  exact Fin.ext (by show 128 * h.val + d.val = (128 * h.val + d.val) % 512; omega)

/-- The states the scan stacks are the recurrence's. -/
theorem stack_at (n d e : Fin 128) : (done m c (Proc.devRef .tc main_v71_4) : FVec Ideal S128x8x4x128x128 .f32) (ix5 n b h d e) =
    Rec.st (Rec.col (argX m c) b (4 + h)) (Rec.col (argX m c) b (8 + h)) (Rec.part (argB m c) h) (fun _ _ => 0) n d e := by
  rw [done_stack]
  refine iter_stack (E8 m c) ?_ b h _ _ _ ?_ ?_ ?_ n d e 128 (le_refl _) n.isLt
  · rw [Scf.iv_zero]; exact ctr_entry m c
  · intro d e
    rw [show stOf (E8 m c) = _ from E8_v71_3 m c]
    pointwise []
  · intro n d
    rw [show decOf (E8 m c) = _ from E8_v71_0 m c]
    exact decay_at b h _ _ _ _ (f_chunk m c b h) (L_at m c h) n d
  · intro n d e
    rw [show updOf (E8 m c) = _ from E8_v71_1 m c, upd_at]
    refine Finset.sum_congr rfl fun r _ => ?_
    rw [kend_at b h _ _ _ _ (f_chunk m c b h) (L_at m c h), v_chunk]

/-- What the rows read. -/
def mixes (c : Dev nD) : Chunks :=
  mixed (done m c (Proc.devRef .tc main_v49)) (done m c (Proc.devRef .tc main_v71_4)) (done m c (Proc.devRef .tc main_v63))

theorem mixes_at (n : Fin 128) (i : Fin 32) (e : Fin 128) : mixes m c (ix5 b h n i e) =
    Rec.mix (Rec.col (argX m c) b h) (Rec.col (argX m c) b (4 + h)) (Rec.col (argX m c) b (8 + h)) (Rec.part (argB m c) h) (fun _ _ => 0) n i e := by
  unfold mixes
  rw [done_keep m c main_v49 (by decide +kernel), done_keep m c main_v63 (by decide +kernel), entry_eq, E8_v49, E8_v63, mixed_at,
    intra_at b h _ _ _ _ _ _ _ _ (q_chunk m c b h) (f_chunk m c b h) (v_chunk m c b h) (L_at m c h)]
  unfold Rec.mix
  congr 1
  refine Finset.sum_congr rfl fun d _ => ?_
  rw [stack_at m c b h, qdec_at b h _ _ _ _ _ _ (q_chunk m c b h) (f_chunk m c b h) (L_at m c h)]
end

/-- The reference's result is the recurrence's, element by element. -/
theorem value (c : Dev nD) (b : Fin 8) (t : Fin 4096) (j : Fin 512) :
    (finalContents condOps preI bodyI postI 128 m c (Proc.devRef .tc main_v92) : FVec Ideal S8x4096x512 .bf16) (ix3 b t j) =
      Rec.hgrn (argX m c) (argB m c) (argW m c) b (j.val / 128) t ⟨j.val % 128, Nat.mod_lt _ (by decide)⟩ := by
  show (afterL postI (done m c) (Proc.devRef .tc main_v92) : FVec Ideal S8x4096x512 .bf16) (ix3 b t j) = _
  rw [post_v92, done_keep m c main_v19 (by decide +kernel), done_keep m c main_v4 (by decide +kernel), entry_eq, E8_v4, E8_v19]
  show result (weighted (mixes m c) (W m c)) (silu (g0 (X m c))) (ix3 b t j) = _
  rw [result_at, flat_at, rms_at]
  simp only [heads_at, mixes_at]
  unfold Rec.hgrn Rec.out
  have hw : W m c (ix1 j) = Rec.part (argW m c) (j.val / 128) ⟨j.val % 128, Nat.mod_lt _ (by decide)⟩ := by
    unfold W
    rw [row_at]
    unfold Rec.part argW
    congr 2
    exact Fin.ext (by show j.val = (128 * (j.val / 128) + j.val % 128) % 512; omega)
  have hg : g0 (X m c) (ix3 b t j) = Rec.col (argX m c) b (12 + j.val / 128) (t.val / 32) (t.val % 32) ⟨j.val % 128, Nat.mod_lt _ (by decide)⟩ := by
    rw [g0_at]
    unfold Rec.col argX
    congr 2
    · exact Fin.ext (by show 4096 * b.val + t.val = (4096 * b.val + 32 * (t.val / 32) + t.val % 32) % 32768; omega)
    · exact Fin.ext (by show 1536 + j.val = (128 * (12 + j.val / 128) + j.val % 128) % 2048; omega)
  rw [hw, hg]

theorem entry_arg (c : Dev nD) (r : Ref sig .tc) (h : r ∉ hostOps0_W ++ hostOps0_1_W ++ hostOps0_2_W ++ hostOps0_3_W ++ hostOps0_4_W ++ hostOps0_5_W ++ hostOps0_6_W ++ hostOps0_7_W ++ hostOps0_8_W) :
    E8 m c (Proc.devRef .tc r) = m ((c.tc : Thread nD τ).loc r) := by
  simp only [List.mem_append, not_or] at h
  obtain ⟨⟨⟨⟨⟨⟨⟨⟨h0, h1⟩, h2⟩, h3⟩, h4⟩, h5⟩, h6⟩, h7⟩, h8⟩ := h
  unfold E8; rw [k8 _ r h8]
  unfold E7; rw [k7 _ r h7]
  unfold E6; rw [k6 _ r h6]
  unfold E5; rw [k5 _ r h5]
  unfold E4; rw [k4 _ r h4]
  unfold E3; rw [k3 _ r h3]
  unfold E2; rw [k2 _ r h2]
  unfold E1; rw [k1 _ r h1]
  unfold E0; rw [k0 _ r h0]

/-- The reference's run: its result is the recurrence's, its arguments and its counters end as they began. -/
theorem run (g : Dev nD → PrngReg) : θ_run (defs (F := Ideal)) (onTc (τ := τ) (main (F := Ideal))) ⟨m, fun _ => 0, g⟩ (fun r =>
    (∀ c : Dev nD, r.2.mem ((c.tc : Thread nD τ).loc main_v92) = finalContents condOps preI bodyI postI 128 m c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (θ_run _ _ _).mono (fun r h => ⟨fun c => ⟨h c main_v92 rfl, (h c main_arg0 rfl).trans ?_, (h c main_arg1 rfl).trans ?_, (h c main_arg2 rfl).trans ?_⟩, sem_eq_zero_of_no_sems rfl _⟩) (run_fold m g)
  · show afterL postI (done m c) (Proc.devRef .tc main_arg0) = _
    rw [post_arg0, done_keep m c main_arg0 (by decide +kernel), entry_eq, entry_arg m c main_arg0 (by decide +kernel)]
  · show afterL postI (done m c) (Proc.devRef .tc main_arg1) = _
    rw [post_arg1, done_keep m c main_arg1 (by decide +kernel), entry_eq, entry_arg m c main_arg1 (by decide +kernel)]
  · show afterL postI (done m c) (Proc.devRef .tc main_arg2) = _
    rw [post_arg2, done_keep m c main_arg2 (by decide +kernel), entry_eq, entry_arg m c main_arg2 (by decide +kernel)]
end Cert.ReferenceIdeal.Ref
-- ==== Proof.lean ====
module

public import proofs.«01_k».proof.Proof.Gen.Kernel2
public import proofs.«01_k».proof.Proof.Gen.Kernel3
public import proofs.«01_k».proof.Proof.Gen.Kernel3.Skeleton
public import proofs.«01_k».proof.Proof.Gen.Kernel3Ideal.Skeleton
public import proofs.«01_k».proof.Proof.Gen.Kernel3.Launch
public import proofs.«01_k».proof.Proof.Gen.Kernel3Ideal.Launch
public import proofs.«01_k».proof.Proof.Gen.Kernel2.Frame
public import proofs.«01_k».proof.Proof.Gen.Reference2Ideal.Run
public import proofs.«01_k».proof.Proof.Gen.Kernel2Ideal.Value
public import proofs.«01_k».proof.Proof.Gen.KernelIdeal.Value
public import proofs.«01_k».proof.Proof.Gen.ReferenceIdeal.Run
public import proofs.«01_k».proof.Proof.Gen.Reference3Ideal.Run
public import proofs.«01_k».proof.Proof.PEq
public import proofs.«01_k».proof.Proof.XEnd
public import proofs.«01_k».proof.Proof.KArr
public import proofs.«01_k».proof.Proof.RVal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- From equal arguments the kernel's array and the reference's result are one function: the recurrence. -/
theorem value_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    (StableHlo.finalContents ReferenceIdeal.Value.condOps ReferenceIdeal.Value.preI ReferenceIdeal.Value.bodyI ReferenceIdeal.Value.postI 128 m' c
      (Proc.devRef .tc ReferenceIdeal.main_v92) : FVec Ideal ReferenceIdeal.S8x4096x512 .bf16) = KernelIdeal.Value.G3 m c := by
  have e0 : ReferenceIdeal.Ref.argX m' c = KernelIdeal.Pt.argX m c := by
    unfold ReferenceIdeal.Ref.argX ReferenceIdeal.Ref.X KernelIdeal.Pt.argX
    rw [h0]
  have e1 : ReferenceIdeal.Ref.argB m' c = KernelIdeal.Pt.argB m c := by
    unfold ReferenceIdeal.Ref.argB KernelIdeal.Pt.argB
    rw [h1]
  have e2 : ReferenceIdeal.Ref.argW m' c = KernelIdeal.Pt.argW m c := by
    unfold ReferenceIdeal.Ref.argW KernelIdeal.Pt.argW
    rw [h2]
  funext i
  have ei : i = ix3 (i 0) (i 1) (i 2) := by
    funext a
    match a with
    | ⟨0, _⟩ => rfl
    | ⟨1, _⟩ => rfl
    | ⟨2, _⟩ => rfl
  rw [ei]
  exact ((ReferenceIdeal.Ref.value m' c (i 0) (i 1) (i 2)).trans (by rw [e0, e1, e2])).trans (KernelIdeal.Pt.array m c (i 0) (i 1) (i 2)).symm

/-- The input projection's program and its reference, from equal arguments, end with equal results. -/
theorem projection : Cert.algebraic_Kernel2Ideal_Reference2Ideal (hKernel2Ideal := Cert.Kernel2Ideal.Gen.facts) (hReference2Ideal := Cert.Reference2Ideal.Gen.facts) :=
  fun m g m' g' _ hagree => ⟨fun c => (Cert.Kernel2Ideal.Gen.dats m 0 c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, fun c => (Cert.Kernel2Ideal.Gen.dats m 0 c).arrAt 11 Cert.Kernel2Ideal.cfg0.N,
    fun c => (Cert.Kernel2Ideal.Gen.dats m 0 c).arrAt 12 Cert.Kernel2Ideal.cfg0.N, fun c => (Cert.Kernel2Ideal.Gen.dats m 0 c).arrAt 13 Cert.Kernel2Ideal.cfg0.N,
    fun c => (Cert.Kernel2Ideal.Gen.dats m 0 c).arrAt 14 Cert.Kernel2Ideal.cfg0.N, Cert.Kernel2Ideal.Value.run_blocks m g,
    (θ_run _ _ _).mono (fun _ h c => ⟨(h c).1.trans (InpEq.eq8 (hagree c)), (h c).2.1.trans (InpEq.eq9 (hagree c)), (h c).2.2.1.trans (InpEq.eq10 (hagree c)),
      (h c).2.2.2.1.trans (InpEq.eq11 (hagree c)), (h c).2.2.2.2.1.trans (InpEq.eq12 (hagree c)), (h c).2.2.2.2.2.1.trans (InpEq.eq13 (hagree c)),
      (h c).2.2.2.2.2.2.1.trans (InpEq.eq14 (hagree c)), (h c).2.2.2.2.2.2.2⟩) (Cert.Reference2Ideal.Ref.run2 m' g')⟩

/-- Every claim: the gated recurrence's call, the input projection's and the experts', each with its frames, its idealization and its equality with the reference. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.ExpEnd.facts,
  fun m g _ => Cert.Kernel.Gen.frame m g,
  fun m g _ => Cert.KernelIdeal.Gen.frame m g,
  fun m g _ => (θ_run _ _ _).mono (fun _ h => ⟨fun c => (h.1 c).2, h.2⟩) (Cert.ReferenceIdeal.Ref.run m g),
  fun m g _ => Cert.Kernel2.Gen.frame m g,
  fun m g _ => Cert.Kernel2Ideal.Gen.frame m g,
  fun m g _ => Cert.Reference2Ideal.Ref.frame2 m g,
  Cert.ExpEnd.frame3, Cert.ExpEnd.frame3I, Cert.ExpEnd.frameR,
  fun m g _ => Cert.ExpEnd.frameR m g trivial,
  trivial,
  fun m g m' g' _ hagree => ⟨fun c => Cert.KernelIdeal.Value.G3 m c, Cert.KernelIdeal.Value.run m g,
    (θ_run _ _ _).mono (fun _ h c => ⟨(h.1 c).1.trans (value_eq m m' c (hagree c).1 (hagree c).2.1 (hagree c).2.2), (h.1 c).2⟩) (Cert.ReferenceIdeal.Ref.run m' g')⟩,
  trivial,
  projection,
  trivial,
  Cert.ExpEnd.experts⟩

end Cert.Proof

end
